-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v56)) (v1 : (c : Dev Cert.Kernel4Ideal.nD) → Buf (Elt Ideal) ((c.tc : Thread Cert.Kernel4Ideal.nD Cert.Kernel4Ideal.τ).loc Cert.Kernel4Ideal.main_v57)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v56) = v0 c
          ∧ r.2.mem ((c.tc : Thread Cert.Kernel4Ideal.nD Cert.Kernel4Ideal.τ).loc Cert.Kernel4Ideal.main_v57) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S_ : Shape := ⟨0, ![]⟩

class Facts : Prop where
  bcast_S_S4x4096x8x192 : S_.BroadcastsInDim S4x4096x8x192 (![] : Fin 0 → Fin S4x4096x8x192.rank)
  bcast_S_S4x256x8x192 : S_.BroadcastsInDim S4x256x8x192 (![] : Fin 0 → Fin S4x256x8x192.rank)

variable [Facts]

def fn {F : FTy → Type} [FloatOps F] (main_arg0 : FVec F S4x4096x8x192 .f32) (main_arg1 : FVec F S4x4096x8x192 .f32) (main_arg2 : FVec F S4x4096x8x128 .f32) (main_arg3 : FVec F S4x256x8x192 .f32) (main_arg4 : FVec F S4x256x8x192 .f32) (main_arg5 : FVec F S4x256x8x128 .f32) : IVec S4x4096x8x192 1 × IVec S4x256x8x192 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_v3 : FVec F S4x4096x8x192 .f32 := Host.absf main_arg1
  let main_cst_0 : FVec F S_ .f32 := constant S_ .f32 0x7F800000#32
  let main_v4 : FVec F S4x4096x8x192 .f32 := broadcastInDim S4x4096x8x192 ![] bcast_S_S4x4096x8x192 main_cst_0
  let main_v5 : IVec S4x4096x8x192 1 := cmpf .olt main_v3 main_v4
  let main_v6 : IVec S4x4096x8x192 1 := andi main_v2 main_v5
  let main_v7 : FVec F S4x256x8x192 .f32 := Host.absf main_arg4
  let main_cst_1 : FVec F S_ .f32 := constant S_ .f32 0x7F800000#32
  let main_v8 : FVec F S4x256x8x192 .f32 := broadcastInDim S4x256x8x192 ![] bcast_S_S4x256x8x192 main_cst_1
  let main_v9 : IVec S4x256x8x192 1 := cmpf .olt main_v7 main_v8
  (main_v6, main_v9)
-- ==== Kernel.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S_ : Shape := ⟨0, ![]⟩
abbrev S4x4096x8x64 : Shape := ⟨4, ![4, 4096, 8, 64]⟩
abbrev S4x4096x8x256 : Shape := ⟨4, ![4, 4096, 8, 256]⟩
abbrev S16384x2048 : Shape := ⟨2, ![16384, 2048]⟩
abbrev S4x256x8x64 : Shape := ⟨4, ![4, 256, 8, 64]⟩
abbrev S4x256x8x256 : Shape := ⟨4, ![4, 256, 8, 256]⟩
abbrev S1024x2048 : Shape := ⟨2, ![1024, 2048]⟩
abbrev S17408x2048 : Shape := ⟨2, ![17408, 2048]⟩
abbrev S4x4096x8x1 : Shape := ⟨4, ![4, 4096, 8, 1]⟩
abbrev S4x4096x8x127 : Shape := ⟨4, ![4, 4096, 8, 127]⟩
abbrev S4x256x8x1 : Shape := ⟨4, ![4, 256, 8, 1]⟩
abbrev S4x256x8x127 : Shape := ⟨4, ![4, 256, 8, 127]⟩
abbrev S16384x1024 : Shape := ⟨2, ![16384, 1024]⟩
abbrev S4096x256 : Shape := ⟨2, ![4096, 256]⟩
abbrev S256x256 : Shape := ⟨2, ![256, 256]⟩
abbrev S4096x128 : Shape := ⟨2, ![4096, 128]⟩
abbrev S512x4352 : Shape := ⟨2, ![512, 4352]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 52
  | .vmem => 16
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x256x8x192, .f32⟩
  | .hbm, ⟨4, _⟩ => ⟨S4x256x8x192, .f32⟩
  | .hbm, ⟨5, _⟩ => ⟨S4x256x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x8x192, .f32⟩
  | .hbm, ⟨14, _⟩ => ⟨S4x4096x8x192, .f32⟩
  | .hbm, ⟨15, _⟩ => ⟨S4x256x8x192, .f32⟩
  | .hbm, ⟨16, _⟩ => ⟨S4x256x8x192, .f32⟩
  | .hbm, ⟨17, _⟩ => ⟨S4x4096x8x64, .f32⟩
  | .hbm, ⟨18, _⟩ => ⟨S4x4096x8x256, .f32⟩
  | .hbm, ⟨19, _⟩ => ⟨S16384x2048, .f32⟩
  | .hbm, ⟨20, _⟩ => ⟨S4x256x8x64, .f32⟩
  | .hbm, ⟨21, _⟩ => ⟨S4x256x8x256, .f32⟩
  | .hbm, ⟨22, _⟩ => ⟨S1024x2048, .f32⟩
  | .hbm, ⟨23, _⟩ => ⟨S17408x2048, .f32⟩
  | .hbm, ⟨24, _⟩ => ⟨S17408x2048, .bf16⟩
  | .hbm, ⟨25, _⟩ => ⟨S_, .f32⟩
  | .hbm, ⟨26, _⟩ => ⟨S4x4096x8x64, .f32⟩
  | .hbm, ⟨27, _⟩ => ⟨S4x4096x8x256, .f32⟩
  | .hbm, ⟨28, _⟩ => ⟨S16384x2048, .f32⟩
  | .hbm, ⟨29, _⟩ => ⟨S_, .f32⟩
  | .hbm, ⟨30, _⟩ => ⟨S4x256x8x64, .f32⟩
  | .hbm, ⟨31, _⟩ => ⟨S4x256x8x256, .f32⟩
  | .hbm, ⟨32, _⟩ => ⟨S1024x2048, .f32⟩
  | .hbm, ⟨33, _⟩ => ⟨S17408x2048, .f32⟩
  | .hbm, ⟨34, _⟩ => ⟨S17408x2048, .bf16⟩
  | .hbm, ⟨35, _⟩ => ⟨S_, .f32⟩
  | .hbm, ⟨36, _⟩ => ⟨S4x4096x8x1, .f32⟩
  | .hbm, ⟨37, _⟩ => ⟨S_, .f32⟩
  | .hbm, ⟨38, _⟩ => ⟨S4x4096x8x127, .f32⟩
  | .hbm, ⟨39, _⟩ => ⟨S4x4096x8x128, .f32⟩
  | .hbm, ⟨40, _⟩ => ⟨S4x4096x8x256, .f32⟩
  | .hbm, ⟨41, _⟩ => ⟨S16384x2048, .f32⟩
  | .hbm, ⟨42, _⟩ => ⟨S_, .f32⟩
  | .hbm, ⟨43, _⟩ => ⟨S4x256x8x1, .f32⟩
  | .hbm, ⟨44, _⟩ => ⟨S_, .f32⟩
  | .hbm, ⟨45, _⟩ => ⟨S4x256x8x127, .f32⟩
  | .hbm, ⟨46, _⟩ => ⟨S4x256x8x128, .f32⟩
  | .hbm, ⟨47, _⟩ => ⟨S4x256x8x256, .f32⟩
  | .hbm, ⟨48, _⟩ => ⟨S1024x2048, .f32⟩
  | .hbm, ⟨49, _⟩ => ⟨S17408x2048, .f32⟩
  | .hbm, ⟨50, _⟩ => ⟨S17408x2048, .bf16⟩
  | .hbm, ⟨51, _⟩ => ⟨S16384x1024, .bf16⟩
  | .local _ .vmem, ⟨0, _⟩ => ⟨S4096x256, .bf16⟩
  | .local _ .vmem, ⟨1, _⟩ => ⟨S4096x256, .bf16⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S4096x256, .bf16⟩
  | .local _ .vmem, ⟨9, _⟩ => ⟨S4096x256, .bf16⟩
  | .local _ .vmem, ⟨10, _⟩ => ⟨S4096x128, .bf16⟩
  | .local _ .vmem, ⟨11, _⟩ => ⟨S4096x128, .bf16⟩
  | .local _ .vmem, ⟨12, _⟩ => ⟨S512x4352, .f32⟩
  | .local _ .vmem, ⟨13, _⟩ => ⟨S512x4352, .f32⟩
  | .local _ .vmem, ⟨14, _⟩ => ⟨S512x128, .f32⟩
  | .local _ .vmem, ⟨15, _⟩ => ⟨S512x128, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
@[reducible] def k0_t1_loop : Scf.Loop 32 :=
  let c0_i32_31 : BitVec 32 := 0#32
  let c4_i32 : BitVec 32 := 4#32
  let v128 : BitVec 32 := Scalar.addi c0_i32_31 c4_i32
  let c1_i32 : BitVec 32 := 1#32
  ⟨c0_i32_31, v128, c1_i32⟩
def k0_mult2 (k0_t1 : Fin k0_t1_loop.trips) : BitVec 32 :=
  let c2_i32 : BitVec 32 := 2#32
  let c0_i32_31 : BitVec 32 := 0#32
  let c1_i32 : BitVec 32 := 1#32
  let arg12 : BitVec 32 := Scf.iv c0_i32_31 c1_i32 k0_t1
  let v129 : BitVec 32 := Scalar.muli c2_i32 arg12
  let c1_i32_33 : BitVec 32 := 1#32
  let v130 : BitVec 32 := Scalar.addi v129 c1_i32_33
  let c512_i32 : BitVec 32 := 512#32
  let v131 : BitVec 32 := Scalar.muli v130 c512_i32
  v131
def k0_off1 (k0_t1 : Fin k0_t1_loop.trips) : Fin 2 → Nat :=
  let c2_i32 : BitVec 32 := 2#32
  let c0_i32_31 : BitVec 32 := 0#32
  let c1_i32 : BitVec 32 := 1#32
  let arg12 : BitVec 32 := Scf.iv c0_i32_31 c1_i32 k0_t1
  let v129 : BitVec 32 := Scalar.muli c2_i32 arg12
  let c1_i32_33 : BitVec 32 := 1#32
  let v130 : BitVec 32 := Scalar.addi v129 c1_i32_33
  let c512_i32 : BitVec 32 := 512#32
  let v131 : BitVec 32 := Scalar.muli v130 c512_i32
  let v132 : BitVec 32 := v131
  let v133 : Index := Scalar.indexCast v132
  let c0_34 : Index := 0#32
  ![v133.toNat, 0]
def k0_mult3 (k0_t1 : Fin k0_t1_loop.trips) : BitVec 32 :=
  let c2_i32_82 : BitVec 32 := 2#32
  let c0_i32_31 : BitVec 32 := 0#32
  let c1_i32 : BitVec 32 := 1#32
  let arg12 : BitVec 32 := Scf.iv c0_i32_31 c1_i32 k0_t1
  let v260 : BitVec 32 := Scalar.muli c2_i32_82 arg12
  let c512_i32_83 : BitVec 32 := 512#32
  let v261 : BitVec 32 := Scalar.muli v260 c512_i32_83
  v261
def k0_off2 (k0_t1 : Fin k0_t1_loop.trips) : Fin 2 → Nat :=
  let c2_i32_82 : BitVec 32 := 2#32
  let c0_i32_31 : BitVec 32 := 0#32
  let c1_i32 : BitVec 32 := 1#32
  let arg12 : BitVec 32 := Scf.iv c0_i32_31 c1_i32 k0_t1
  let v260 : BitVec 32 := Scalar.muli c2_i32_82 arg12
  let c512_i32_83 : BitVec 32 := 512#32
  let v261 : BitVec 32 := Scalar.muli v260 c512_i32_83
  let v262 : BitVec 32 := v261
  let v351 : Index := Scalar.indexCast v262
  let c0_132 : Index := 0#32
  ![v351.toNat, 0]
def k0_mult4 (k0_t1 : Fin k0_t1_loop.trips) : BitVec 32 :=
  let c2_i32_133 : BitVec 32 := 2#32
  let c0_i32_31 : BitVec 32 := 0#32
  let c1_i32 : BitVec 32 := 1#32
  let arg12 : BitVec 32 := Scf.iv c0_i32_31 c1_i32 k0_t1
  let v353 : BitVec 32 := Scalar.muli c2_i32_133 arg12
  let c2_i32_134 : BitVec 32 := 2#32
  let v354 : BitVec 32 := Scalar.addi v353 c2_i32_134
  let c7_i32 : BitVec 32 := 7#32
  let v355 : BitVec 32 := Scalar.minsi v354 c7_i32
  let c512_i32_135 : BitVec 32 := 512#32
  let v356 : BitVec 32 := Scalar.muli v355 c512_i32_135
  v356
def k0_off3 (k0_t1 : Fin k0_t1_loop.trips) : Fin 2 → Nat :=
  let c2_i32_133 : BitVec 32 := 2#32
  let c0_i32_31 : BitVec 32 := 0#32
  let c1_i32 : BitVec 32 := 1#32
  let arg12 : BitVec 32 := Scf.iv c0_i32_31 c1_i32 k0_t1
  let v353 : BitVec 32 := Scalar.muli c2_i32_133 arg12
  let c2_i32_134 : BitVec 32 := 2#32
  let v354 : BitVec 32 := Scalar.addi v353 c2_i32_134
  let c7_i32 : BitVec 32 := 7#32
  let v355 : BitVec 32 := Scalar.minsi v354 c7_i32
  let c512_i32_135 : BitVec 32 := 512#32
  let v356 : BitVec 32 := Scalar.muli v355 c512_i32_135
  let v357 : BitVec 32 := v356
  let v358 : Index := Scalar.indexCast v357
  let c0_136 : Index := 0#32
  ![v358.toNat, 0]
def k0_mult5 (k0_t1 : Fin k0_t1_loop.trips) : BitVec 32 :=
  let c2_i32_184 : BitVec 32 := 2#32
  let c0_i32_31 : BitVec 32 := 0#32
  let c1_i32 : BitVec 32 := 1#32
  let arg12 : BitVec 32 := Scf.iv c0_i32_31 c1_i32 k0_t1
  let v485 : BitVec 32 := Scalar.muli c2_i32_184 arg12
  let c1_i32_185 : BitVec 32 := 1#32
  let v486 : BitVec 32 := Scalar.addi v485 c1_i32_185
  let c512_i32_186 : BitVec 32 := 512#32
  let v487 : BitVec 32 := Scalar.muli v486 c512_i32_186
  v487
def k0_off4 (k0_t1 : Fin k0_t1_loop.trips) : Fin 2 → Nat :=
  let c2_i32_184 : BitVec 32 := 2#32
  let c0_i32_31 : BitVec 32 := 0#32
  let c1_i32 : BitVec 32 := 1#32
  let arg12 : BitVec 32 := Scf.iv c0_i32_31 c1_i32 k0_t1
  let v485 : BitVec 32 := Scalar.muli c2_i32_184 arg12
  let c1_i32_185 : BitVec 32 := 1#32
  let v486 : BitVec 32 := Scalar.addi v485 c1_i32_185
  let c512_i32_186 : BitVec 32 := 512#32
  let v487 : BitVec 32 := Scalar.muli v486 c512_i32_186
  let v488 : BitVec 32 := v487
  let v577 : Index := Scalar.indexCast v488
  let c0_235 : Index := 0#32
  ![v577.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S4x4352x8x192 : Shape := ⟨4, ![4, 4352, 8, 192]⟩
abbrev S4x4352x8x128 : Shape := ⟨4, ![4, 4352, 8, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x256x8x192, .f32⟩
  | .hbm, ⟨4, _⟩ => ⟨S4x256x8x192, .f32⟩
  | .hbm, ⟨5, _⟩ => ⟨S4x256x8x128, .f32⟩
  | .hbm, ⟨6, _⟩ => ⟨S4x4352x8x192, .f32⟩
  | .hbm, ⟨7, _⟩ => ⟨S4x4352x8x128, .f32⟩
  | .hbm, ⟨8, _⟩ => ⟨S4x8x4096x4352, .f32⟩
  | .hbm, ⟨9, _⟩ => ⟨S_, .f32⟩
  | .hbm, ⟨10, _⟩ => ⟨S_, .f32⟩
  | .hbm, ⟨11, _⟩ => ⟨S4x8x4096x4352, .f32⟩
  | .hbm, ⟨12, _⟩ => ⟨S4x8x4096x4352, .f32⟩
  | .hbm, ⟨13, _⟩ => ⟨S_, .f32⟩
  | .hbm, ⟨14, _⟩ => ⟨S4x8x4096, .f32⟩
  | .hbm, ⟨15, _⟩ => ⟨S_, .f32⟩
  | .hbm, ⟨16, _⟩ => ⟨S4x8x4096, .f32⟩
  | .hbm, ⟨17, _⟩ => ⟨S4x8x4096, .f32⟩
  | .hbm, ⟨18, _⟩ => ⟨S4x8x4096x1, .f32⟩
  | .hbm, ⟨19, _⟩ => ⟨S4x8x4096x4352, .f32⟩
  | .hbm, ⟨20, _⟩ => ⟨S4x8x4096x4352, .f32⟩
  | .hbm, ⟨21, _⟩ => ⟨S4x8x4096x4352, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4352, .f32⟩
  | .hbm, ⟨26, _⟩ => ⟨S4x8x4096x4352, .f32⟩
  | .hbm, ⟨27, _⟩ => ⟨S4x8x128x4096, .f32⟩
  | .hbm, ⟨28, _⟩ => ⟨S4x4096x8x128, .f32⟩
  | .hbm, ⟨29, _⟩ => ⟨S16384x1024, .f32⟩
  | .hbm, ⟨30, _⟩ => ⟨S16384x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel2.lean ====
abbrev S16384x8192 : Shape := ⟨2, ![16384, 8192]⟩
abbrev S8192x2048 : Shape := ⟨2, ![8192, 2048]⟩
abbrev S4x4096x2048 : Shape := ⟨3, ![4, 4096, 2048]⟩
abbrev S4x12288 : Shape := ⟨2, ![4, 12288]⟩
abbrev S16384x2048 : Shape := ⟨2, ![16384, 2048]⟩
abbrev S_ : Shape := ⟨0, ![]⟩
abbrev S8x12288 : Shape := ⟨2, ![8, 12288]⟩
abbrev S48x1x2048 : Shape := ⟨3, ![48, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .f32⟩
  | .hbm, ⟨2, _⟩ => ⟨S4x4096x2048, .f32⟩
  | .hbm, ⟨3, _⟩ => ⟨S4x12288, .f32⟩
  | .hbm, ⟨4, _⟩ => ⟨S8192x2048, .bf16⟩
  | .hbm, ⟨5, _⟩ => ⟨S16384x2048, .f32⟩
  | .hbm, ⟨6, _⟩ => ⟨S_, .f32⟩
  | .hbm, ⟨7, _⟩ => ⟨S4x12288, .f32⟩
  | .hbm, ⟨8, _⟩ => ⟨S8x12288, .f32⟩
  | .hbm, ⟨9, _⟩ => ⟨S48x1x2048, .f32⟩
  | .hbm, ⟨10, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c5_i32 : BitVec 32 := 5#32
  let v20 : BitVec 32 := Scalar.addi v19 c5_i32
  let c0_i32_5 : BitVec 32 := 0#32
  let c0_i32_6 : BitVec 32 := 0#32
  ![v20.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S16384x8192 : Shape := ⟨2, ![16384, 8192]⟩
abbrev S8192x2048 : Shape := ⟨2, ![8192, 2048]⟩
abbrev S4x4096x2048 : Shape := ⟨3, ![4, 4096, 2048]⟩
abbrev S4x12288 : Shape := ⟨2, ![4, 12288]⟩
abbrev S4x4096x8192 : Shape := ⟨3, ![4, 4096, 8192]⟩
abbrev S4x6x2048 : Shape := ⟨3, ![4, 6, 2048]⟩
abbrev S6x4x2048 : Shape := ⟨3, ![6, 4, 2048]⟩
abbrev S6x4x1x2048 : Shape := ⟨4, ![6, 4, 1, 2048]⟩
abbrev S1x4x1x2048 : Shape := ⟨4, ![1, 4, 1, 2048]⟩
abbrev S4x1x2048 : Shape := ⟨3, ![4, 1, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .f32⟩
  | .hbm, ⟨2, _⟩ => ⟨S4x4096x2048, .f32⟩
  | .hbm, ⟨3, _⟩ => ⟨S4x12288, .f32⟩
  | .hbm, ⟨4, _⟩ => ⟨S16384x8192, .f32⟩
  | .hbm, ⟨5, _⟩ => ⟨S4x4096x8192, .f32⟩
  | .hbm, ⟨6, _⟩ => ⟨S4x4096x2048, .f32⟩
  | .hbm, ⟨7, _⟩ => ⟨S4x6x2048, .f32⟩
  | .hbm, ⟨8, _⟩ => ⟨S6x4x2048, .f32⟩
  | .hbm, ⟨9, _⟩ => ⟨S6x4x1x2048, .f32⟩
  | .hbm, ⟨10, _⟩ => ⟨S1x4x1x2048, .f32⟩
  | .hbm, ⟨11, _⟩ => ⟨S4x1x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S4x12288 : Shape := ⟨2, ![4, 12288]⟩
abbrev S2048x8192 : Shape := ⟨2, ![2048, 8192]⟩
abbrev S16384x2048 : Shape := ⟨2, ![16384, 2048]⟩
abbrev S1x2048 : Shape := ⟨2, ![1, 2048]⟩
abbrev S_ : Shape := ⟨0, ![]⟩
abbrev S8x12288 : Shape := ⟨2, ![8, 12288]⟩
abbrev S48x1x2048 : Shape := ⟨3, ![48, 1, 2048]⟩
abbrev S16384x8192 : Shape := ⟨2, ![16384, 8192]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2048x8192, .f32⟩
  | .hbm, ⟨4, _⟩ => ⟨S16384x2048, .f32⟩
  | .hbm, ⟨5, _⟩ => ⟨S1x2048, .f32⟩
  | .hbm, ⟨6, _⟩ => ⟨S_, .f32⟩
  | .hbm, ⟨7, _⟩ => ⟨S4x12288, .f32⟩
  | .hbm, ⟨8, _⟩ => ⟨S8x12288, .f32⟩
  | .hbm, ⟨9, _⟩ => ⟨S48x1x2048, .f32⟩
  | .hbm, ⟨10, _⟩ => ⟨S2048x8192, .bf16⟩
  | .hbm, ⟨11, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v20 : BitVec 32 := Scalar.addi c0_i32_16 c8_i32
  let c1_i32 : BitVec 32 := 1#32
  ⟨c0_i32_16, v20, c1_i32⟩
def k0_mult1 (k0_t1 : Fin k0_t1_loop.trips) : BitVec 32 :=
  let c0_i32_16 : BitVec 32 := 0#32
  let c1_i32 : BitVec 32 := 1#32
  let arg9 : BitVec 32 := Scf.iv c0_i32_16 c1_i32 k0_t1
  let c128_i32 : BitVec 32 := 128#32
  let v21 : BitVec 32 := Scalar.muli arg9 c128_i32
  v21
def k0_off1 (k0_t1 : Fin k0_t1_loop.trips) : Fin 2 → Nat :=
  let c0_i32_16 : BitVec 32 := 0#32
  let c1_i32 : BitVec 32 := 1#32
  let arg9 : BitVec 32 := Scf.iv c0_i32_16 c1_i32 k0_t1
  let c128_i32 : BitVec 32 := 128#32
  let v21 : BitVec 32 := Scalar.muli arg9 c128_i32
  let v22 : BitVec 32 := v21
  let v23 : Index := Scalar.indexCast v22
  let c0_18 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c3_i32 : BitVec 32 := 3#32
  let v20 : BitVec 32 := Scalar.addi v19 c3_i32
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c4_i32_5 : BitVec 32 := 4#32
  let v20 : BitVec 32 := Scalar.addi v19 c4_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4096x2048 : Shape := ⟨3, ![4, 4096, 2048]⟩
abbrev S2048 : Shape := ⟨1, ![2048]⟩
abbrev S4x12288 : Shape := ⟨2, ![4, 12288]⟩
abbrev S2048x8192 : Shape := ⟨2, ![2048, 8192]⟩
abbrev S4x6x2048 : Shape := ⟨3, ![4, 6, 2048]⟩
abbrev S6x4x2048 : Shape := ⟨3, ![6, 4, 2048]⟩
abbrev S6x4x1x2048 : Shape := ⟨4, ![6, 4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x1x2048 : Shape := ⟨4, ![1, 4, 1, 2048]⟩
abbrev S4x1x2048 : Shape := ⟨3, ![4, 1, 2048]⟩
abbrev S4x4096x8192 : Shape := ⟨3, ![4, 4096, 8192]⟩
abbrev S16384x8192 : Shape := ⟨2, ![16384, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2048x8192, .f32⟩
  | .hbm, ⟨4, _⟩ => ⟨S4x6x2048, .f32⟩
  | .hbm, ⟨5, _⟩ => ⟨S6x4x2048, .f32⟩
  | .hbm, ⟨6, _⟩ => ⟨S6x4x1x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S1x4x1x2048, .f32⟩
  | .hbm, ⟨24, _⟩ => ⟨S4x1x2048, .f32⟩
  | .hbm, ⟨25, _⟩ => ⟨S1x4x1x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x8192, .f32⟩
  | .hbm, ⟨35, _⟩ => ⟨S_, .f32⟩
  | .hbm, ⟨36, _⟩ => ⟨S4x4096x8192, .f32⟩
  | .hbm, ⟨37, _⟩ => ⟨S4x4096x8192, .f32⟩
  | .hbm, ⟨38, _⟩ => ⟨S4x4096x8192, .f32⟩
  | .hbm, ⟨39, _⟩ => ⟨S16384x8192, .f32⟩
  | .hbm, ⟨40, _⟩ => ⟨S16384x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_cst : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x256x2048 : Shape := ⟨3, ![4, 256, 2048]⟩
abbrev S2048 : Shape := ⟨1, ![2048]⟩
abbrev S4x12288 : Shape := ⟨2, ![4, 12288]⟩
abbrev S12288 : Shape := ⟨1, ![12288]⟩
abbrev S2048x11344 : Shape := ⟨2, ![2048, 11344]⟩
abbrev S11344 : Shape := ⟨1, ![11344]⟩
abbrev S4x4 : Shape := ⟨2, ![4, 4]⟩
abbrev S64 : Shape := ⟨1, ![64]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S11344x2048 : Shape := ⟨2, ![11344, 2048]⟩
abbrev S64x2048 : Shape := ⟨2, ![64, 2048]⟩
abbrev S512x2048 : Shape := ⟨2, ![512, 2048]⟩
abbrev S1024x2048 : Shape := ⟨2, ![1024, 2048]⟩
abbrev S6144x2048 : Shape := ⟨2, ![6144, 2048]⟩
abbrev S64x1 : Shape := ⟨2, ![64, 1]⟩
abbrev S128x2048 : Shape := ⟨2, ![128, 2048]⟩
abbrev S11520x2048 : Shape := ⟨2, ![11520, 2048]⟩
abbrev S512 : Shape := ⟨1, ![512]⟩
abbrev S1024 : Shape := ⟨1, ![1024]⟩
abbrev S6144 : Shape := ⟨1, ![6144]⟩
abbrev S128 : Shape := ⟨1, ![128]⟩
abbrev S11520 : Shape := ⟨1, ![11520]⟩
abbrev S16x2048 : Shape := ⟨2, ![16, 2048]⟩
abbrev S112x2048 : Shape := ⟨2, ![112, 2048]⟩
abbrev S16 : Shape := ⟨1, ![16]⟩
abbrev S112 : Shape := ⟨1, ![112]⟩
abbrev S1x128 : Shape := ⟨2, ![1, 128]⟩
abbrev S1x11520 : Shape := ⟨2, ![1, 11520]⟩
abbrev S16384x2048 : Shape := ⟨2, ![16384, 2048]⟩
abbrev S1x2048 : Shape := ⟨2, ![1, 2048]⟩
abbrev S48x1x2048 : Shape := ⟨3, ![48, 1, 2048]⟩
abbrev S17408x11520 : Shape := ⟨2, ![17408, 11520]⟩
abbrev S17408x128 : Shape := ⟨2, ![17408, 128]⟩
abbrev S1x1x2048 : Shape := ⟨3, ![1, 1, 2048]⟩
abbrev S1280x2048 : Shape := ⟨2, ![1280, 2048]⟩
abbrev S1x1280 : Shape := ⟨2, ![1, 1280]⟩
abbrev S1024x1280 : Shape := ⟨2, ![1024, 1280]⟩
abbrev S1024x128 : Shape := ⟨2, ![1024, 128]⟩
abbrev S128x1 : Shape := ⟨2, ![128, 1]⟩
abbrev S17408x4096 : Shape := ⟨2, ![17408, 4096]⟩
abbrev S17408x64 : Shape := ⟨2, ![17408, 64]⟩
abbrev S17408x7168 : Shape := ⟨2, ![17408, 7168]⟩
abbrev S17408x11328 : Shape := ⟨2, ![17408, 11328]⟩
abbrev S17408x16 : Shape := ⟨2, ![17408, 16]⟩

abbrev nBuf : Space → Nat
  | .hbm => 77
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S2048, .f32⟩
  | .hbm, ⟨3, _⟩ => ⟨S4x12288, .f32⟩
  | .hbm, ⟨4, _⟩ => ⟨S12288, .f32⟩
  | .hbm, ⟨5, _⟩ => ⟨S2048x11344, .f32⟩
  | .hbm, ⟨6, _⟩ => ⟨S11344, .f32⟩
  | .hbm, ⟨7, _⟩ => ⟨S4x4, .f32⟩
  | .hbm, ⟨8, _⟩ => ⟨S64, .i32⟩
  | .hbm, ⟨9, _⟩ => ⟨S64, .i1⟩
  | .hbm, ⟨10, _⟩ => ⟨S64, .i1⟩
  | .hbm, ⟨11, _⟩ => ⟨S1x12288, .f32⟩
  | .hbm, ⟨12, _⟩ => ⟨S_, .f32⟩
  | .hbm, ⟨13, _⟩ => ⟨S3x12288, .f32⟩
  | .hbm, ⟨14, _⟩ => ⟨S8x12288, .f32⟩
  | .hbm, ⟨15, _⟩ => ⟨S11344x2048, .f32⟩
  | .hbm, ⟨16, _⟩ => ⟨S64x2048, .f32⟩
  | .hbm, ⟨17, _⟩ => ⟨S64, .f32⟩
  | .hbm, ⟨18, _⟩ => ⟨S512x2048, .f32⟩
  | .hbm, ⟨19, _⟩ => ⟨S512x2048, .f32⟩
  | .hbm, ⟨20, _⟩ => ⟨S1024x2048, .f32⟩
  | .hbm, ⟨21, _⟩ => ⟨S1024x2048, .f32⟩
  | .hbm, ⟨22, _⟩ => ⟨S512x2048, .f32⟩
  | .hbm, ⟨23, _⟩ => ⟨S512x2048, .f32⟩
  | .hbm, ⟨24, _⟩ => ⟨S1024x2048, .f32⟩
  | .hbm, ⟨25, _⟩ => ⟨S6144x2048, .f32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S64x2048, .f32⟩
  | .hbm, ⟨32, _⟩ => ⟨S_, .f32⟩
  | .hbm, ⟨33, _⟩ => ⟨S128x2048, .f32⟩
  | .hbm, ⟨34, _⟩ => ⟨S11520x2048, .f32⟩
  | .hbm, ⟨35, _⟩ => ⟨S11520x2048, .bf16⟩
  | .hbm, ⟨36, _⟩ => ⟨S512, .f32⟩
  | .hbm, ⟨37, _⟩ => ⟨S512, .f32⟩
  | .hbm, ⟨38, _⟩ => ⟨S1024, .f32⟩
  | .hbm, ⟨39, _⟩ => ⟨S1024, .f32⟩
  | .hbm, ⟨40, _⟩ => ⟨S512, .f32⟩
  | .hbm, ⟨41, _⟩ => ⟨S512, .f32⟩
  | .hbm, ⟨42, _⟩ => ⟨S1024, .f32⟩
  | .hbm, ⟨43, _⟩ => ⟨S6144, .f32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S64, .f32⟩
  | .hbm, ⟨50, _⟩ => ⟨S_, .f32⟩
  | .hbm, ⟨51, _⟩ => ⟨S128, .f32⟩
  | .hbm, ⟨52, _⟩ => ⟨S11520, .f32⟩
  | .hbm, ⟨53, _⟩ => ⟨S16x2048, .f32⟩
  | .hbm, ⟨54, _⟩ => ⟨S_, .f32⟩
  | .hbm, ⟨55, _⟩ => ⟨S112x2048, .f32⟩
  | .hbm, ⟨56, _⟩ => ⟨S128x2048, .f32⟩
  | .hbm, ⟨57, _⟩ => ⟨S128x2048, .bf16⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S112, .f32⟩
  | .hbm, ⟨63, _⟩ => ⟨S128, .f32⟩
  | .hbm, ⟨64, _⟩ => ⟨S1x128, .f32⟩
  | .hbm, ⟨65, _⟩ => ⟨S1x11520, .f32⟩
  | .hbm, ⟨66, _⟩ => ⟨S16384x2048, .f32⟩
  | .hbm, ⟨67, _⟩ => ⟨S1024x2048, .f32⟩
  | .hbm, ⟨68, _⟩ => ⟨S1x2048, .f32⟩
  | .hbm, ⟨69, _⟩ => ⟨S48x1x2048, .f32⟩
  | .hbm, ⟨70, _⟩ => ⟨S17408x11520, .bf16⟩
  | .hbm, ⟨71, _⟩ => ⟨S17408x128, .f32⟩
  | .hbm, ⟨72, _⟩ => ⟨S17408x4096, .bf16⟩
  | .hbm, ⟨73, _⟩ => ⟨S17408x64, .bf16⟩
  | .hbm, ⟨74, _⟩ => ⟨S17408x7168, .bf16⟩
  | .hbm, ⟨75, _⟩ => ⟨S17408x11328, .bf16⟩
  | .hbm, ⟨76, _⟩ => ⟨S17408x16, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1280x2048, .bf16⟩
  | .local _ .vmem, ⟨9, _⟩ => ⟨S1280x2048, .bf16⟩
  | .local _ .vmem, ⟨10, _⟩ => ⟨S1x1280, .f32⟩
  | .local _ .vmem, ⟨11, _⟩ => ⟨S1x1280, .f32⟩
  | .local _ .vmem, ⟨12, _⟩ => ⟨S128x2048, .bf16⟩
  | .local _ .vmem, ⟨13, _⟩ => ⟨S1x128, .f32⟩
  | .local _ .vmem, ⟨14, _⟩ => ⟨S1024x1280, .bf16⟩
  | .local _ .vmem, ⟨15, _⟩ => ⟨S1024x1280, .bf16⟩
  | .local _ .vmem, ⟨16, _⟩ => ⟨S1024x128, .f32⟩
  | .local _ .vmem, ⟨17, _⟩ => ⟨S1024x128, .f32⟩
  | .local _ .vmem, ⟨18, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![17, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c16_i32 : BitVec 32 := 16#32
  let v13 : BitVec 1 := Scalar.cmpi .slt arg0 c16_i32
  let v14 : BitVec 32 := Scalar.extui v13
  let c0_i32_8 : BitVec 32 := 0#32
  let v15 : BitVec 1 := Scalar.cmpi .ne v14 c0_i32_8
  v15

@[reducible] def k0_t1_loop : Scf.Loop 32 :=
  let c0_i32_29 : BitVec 32 := 0#32
  let c8_i32 : BitVec 32 := 8#32
  let v36 : BitVec 32 := Scalar.addi c0_i32_29 c8_i32
  let c1_i32 : BitVec 32 := 1#32
  ⟨c0_i32_29, v36, c1_i32⟩
def k0_mult1 (k0_t1 : Fin k0_t1_loop.trips) : BitVec 32 :=
  let c0_i32_29 : BitVec 32 := 0#32
  let c1_i32 : BitVec 32 := 1#32
  let arg14 : BitVec 32 := Scf.iv c0_i32_29 c1_i32 k0_t1
  let c128_i32 : BitVec 32 := 128#32
  let v37 : BitVec 32 := Scalar.muli arg14 c128_i32
  v37
def k0_off1 (k0_t1 : Fin k0_t1_loop.trips) : Fin 2 → Nat :=
  let c0_i32_29 : BitVec 32 := 0#32
  let c1_i32 : BitVec 32 := 1#32
  let arg14 : BitVec 32 := Scf.iv c0_i32_29 c1_i32 k0_t1
  let c128_i32 : BitVec 32 := 128#32
  let v37 : BitVec 32 := Scalar.muli arg14 c128_i32
  let v38 : BitVec 32 := v37
  let v39 : Index := Scalar.indexCast v38
  let c0_31 : Index := 0#32
  ![v39.toNat, 0]
def k0_cond3 (i : grid0.Coords) : BitVec 1 :=
  let arg0 : BitVec 32 := BitVec.ofNat 32 (i 0).val
  let c16_i32_9 : BitVec 32 := 16#32
  let v16 : BitVec 1 := Scalar.cmpi .sge arg0 c16_i32_9
  let v17 : BitVec 32 := Scalar.extui v16
  let c0_i32_10 : BitVec 32 := 0#32
  let v18 : BitVec 1 := Scalar.cmpi .ne v17 c0_i32_10
  v18

@[reducible] def k0_t2_loop : Scf.Loop 32 :=
  let c0_i32_29 : BitVec 32 := 0#32
  let c8_i32 : BitVec 32 := 8#32
  let v36 : BitVec 32 := Scalar.addi c0_i32_29 c8_i32
  let c1_i32 : BitVec 32 := 1#32
  ⟨c0_i32_29, v36, c1_i32⟩
def k0_mult2 (k0_t2 : Fin k0_t2_loop.trips) : BitVec 32 :=
  let c0_i32_29 : BitVec 32 := 0#32
  let c1_i32 : BitVec 32 := 1#32
  let arg14 : BitVec 32 := Scf.iv c0_i32_29 c1_i32 k0_t2
  let c128_i32 : BitVec 32 := 128#32
  let v37 : BitVec 32 := Scalar.muli arg14 c128_i32
  v37
def k0_off2 (k0_t2 : Fin k0_t2_loop.trips) : Fin 2 → Nat :=
  let c0_i32_29 : BitVec 32 := 0#32
  let c1_i32 : BitVec 32 := 1#32
  let arg14 : BitVec 32 := Scf.iv c0_i32_29 c1_i32 k0_t2
  let c128_i32 : BitVec 32 := 128#32
  let v37 : BitVec 32 := Scalar.muli arg14 c128_i32
  let v38 : BitVec 32 := v37
  let v39 : Index := Scalar.indexCast v38
  let c0_31 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c0_i32_5 : BitVec 32 := 0#32
  let v20 : BitVec 32 := Scalar.addi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1280x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S4x4096x2048 : Shape := ⟨3, ![4, 4096, 2048]⟩
abbrev S4x256x2048 : Shape := ⟨3, ![4, 256, 2048]⟩
abbrev S2048 : Shape := ⟨1, ![2048]⟩
abbrev S4x12288 : Shape := ⟨2, ![4, 12288]⟩
abbrev S12288 : Shape := ⟨1, ![12288]⟩
abbrev S2048x11344 : Shape := ⟨2, ![2048, 11344]⟩
abbrev S11344 : Shape := ⟨1, ![11344]⟩
abbrev S4x4 : Shape := ⟨2, ![4, 4]⟩
abbrev S4x6x2048 : Shape := ⟨3, ![4, 6, 2048]⟩
abbrev S6x4x2048 : Shape := ⟨3, ![6, 4, 2048]⟩
abbrev S6x4x1x2048 : Shape := ⟨4, ![6, 4, 1, 2048]⟩
abbrev S6x1x1x2048 : Shape := ⟨4, ![6, 1, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x1x2048 : Shape := ⟨4, ![1, 4, 1, 2048]⟩
abbrev S4x1x2048 : Shape := ⟨3, ![4, 1, 2048]⟩
abbrev S4x256 : Shape := ⟨2, ![4, 256]⟩
abbrev S4x256x1 : Shape := ⟨3, ![4, 256, 1]⟩
abbrev S1x1x1x2048 : Shape := ⟨4, ![1, 1, 1, 2048]⟩
abbrev S4x4096x11344 : Shape := ⟨3, ![4, 4096, 11344]⟩
abbrev S1x1x11344 : Shape := ⟨3, ![1, 1, 11344]⟩
abbrev S16384x11344 : Shape := ⟨2, ![16384, 11344]⟩
abbrev S4x256x11344 : Shape := ⟨3, ![4, 256, 11344]⟩
abbrev S1024x11344 : Shape := ⟨2, ![1024, 11344]⟩
abbrev S17408x11344 : Shape := ⟨2, ![17408, 11344]⟩
abbrev S17408x3072 : Shape := ⟨2, ![17408, 3072]⟩
abbrev S17408x8256 : Shape := ⟨2, ![17408, 8256]⟩
abbrev S17408x11328 : Shape := ⟨2, ![17408, 11328]⟩
abbrev S17408x16 : Shape := ⟨2, ![17408, 16]⟩
abbrev S16 : Shape := ⟨1, ![16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S2048, .f32⟩
  | .hbm, ⟨3, _⟩ => ⟨S4x12288, .f32⟩
  | .hbm, ⟨4, _⟩ => ⟨S12288, .f32⟩
  | .hbm, ⟨5, _⟩ => ⟨S2048x11344, .f32⟩
  | .hbm, ⟨6, _⟩ => ⟨S11344, .f32⟩
  | .hbm, ⟨7, _⟩ => ⟨S4x4, .f32⟩
  | .hbm, ⟨8, _⟩ => ⟨S4x6x2048, .f32⟩
  | .hbm, ⟨9, _⟩ => ⟨S6x4x2048, .f32⟩
  | .hbm, ⟨10, _⟩ => ⟨S6x4x1x2048, .f32⟩
  | .hbm, ⟨11, _⟩ => ⟨S6x1x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S1x4x1x2048, .f32⟩
  | .hbm, ⟨29, _⟩ => ⟨S4x1x2048, .f32⟩
  | .hbm, ⟨30, _⟩ => ⟨S1x4x1x2048, .f32⟩
  | .hbm, ⟨31, _⟩ => ⟨S4x1x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x256x2048, .f32⟩
  | .hbm, ⟨40, _⟩ => ⟨S_, .f32⟩
  | .hbm, ⟨41, _⟩ => ⟨S4x256, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S4x256x1, .f32⟩
  | .hbm, ⟨50, _⟩ => ⟨S4x256x2048, .f32⟩
  | .hbm, ⟨51, _⟩ => ⟨S4x256x2048, .f32⟩
  | .hbm, ⟨52, _⟩ => ⟨S1x1x2048, .f32⟩
  | .hbm, ⟨53, _⟩ => ⟨S4x256x2048, .f32⟩
  | .hbm, ⟨54, _⟩ => ⟨S4x256x2048, .f32⟩
  | .hbm, ⟨55, _⟩ => ⟨S1x1x1x2048, .f32⟩
  | .hbm, ⟨56, _⟩ => ⟨S1x1x2048, .f32⟩
  | .hbm, ⟨57, _⟩ => ⟨S1x1x1x2048, .f32⟩
  | .hbm, ⟨58, _⟩ => ⟨S1x1x2048, .f32⟩
  | .hbm, ⟨59, _⟩ => ⟨S_, .f32⟩
  | .hbm, ⟨60, _⟩ => ⟨S1x1x2048, .f32⟩
  | .hbm, ⟨61, _⟩ => ⟨S1x1x2048, .f32⟩
  | .hbm, ⟨62, _⟩ => ⟨S4x256x2048, .f32⟩
  | .hbm, ⟨63, _⟩ => ⟨S4x256x2048, .f32⟩
  | .hbm, ⟨64, _⟩ => ⟨S4x256x2048, .f32⟩
  | .hbm, ⟨65, _⟩ => ⟨S4x256x2048, .f32⟩
  | .hbm, ⟨66, _⟩ => ⟨S4x4096x11344, .f32⟩
  | .hbm, ⟨67, _⟩ => ⟨S1x1x11344, .f32⟩
  | .hbm, ⟨68, _⟩ => ⟨S4x4096x11344, .f32⟩
  | .hbm, ⟨69, _⟩ => ⟨S4x4096x11344, .f32⟩
  | .hbm, ⟨70, _⟩ => ⟨S16384x11344, .f32⟩
  | .hbm, ⟨71, _⟩ => ⟨S4x256x11344, .f32⟩
  | .hbm, ⟨72, _⟩ => ⟨S1x1x11344, .f32⟩
  | .hbm, ⟨73, _⟩ => ⟨S4x256x11344, .f32⟩
  | .hbm, ⟨74, _⟩ => ⟨S4x256x11344, .f32⟩
  | .hbm, ⟨75, _⟩ => ⟨S1024x11344, .f32⟩
  | .hbm, ⟨76, _⟩ => ⟨S17408x11344, .f32⟩
  | .hbm, ⟨77, _⟩ => ⟨S17408x3072, .f32⟩
  | .hbm, ⟨78, _⟩ => ⟨S17408x8256, .f32⟩
  | .hbm, ⟨79, _⟩ => ⟨S17408x11328, .f32⟩
  | .hbm, ⟨80, _⟩ => ⟨S17408x11328, .bf16⟩
  | .hbm, ⟨81, _⟩ => ⟨S17408x16, .f32⟩
  | .hbm, ⟨82, _⟩ => ⟨S16, .f32⟩
  | .hbm, ⟨83, _⟩ => ⟨S1x16, .f32⟩
  | .hbm, ⟨84, _⟩ => ⟨S17408x16, .f32⟩
  | .hbm, ⟨85, _⟩ => ⟨S17408x16, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x6144 : Shape := ⟨3, ![4, 4096, 6144]⟩
abbrev S3x1024x2048 : Shape := ⟨3, ![3, 1024, 2048]⟩
abbrev S16384x1024 : Shape := ⟨2, ![16384, 1024]⟩
abbrev S16384x6144 : Shape := ⟨2, ![16384, 6144]⟩
abbrev S_ : Shape := ⟨0, ![]⟩
abbrev S16384x5120 : Shape := ⟨2, ![16384, 5120]⟩
abbrev S16384x256 : Shape := ⟨2, ![16384, 256]⟩
abbrev S16384x11520 : Shape := ⟨2, ![16384, 11520]⟩
abbrev S16384x2048 : Shape := ⟨2, ![16384, 2048]⟩
abbrev S1024x1024 : Shape := ⟨2, ![1024, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 16
  | .vmem => 18
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S4x4096x6144, .bf16⟩
  | .hbm, ⟨4, _⟩ => ⟨S3x1024x2048, .f32⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x6144, .bf16⟩
  | .hbm, ⟨9, _⟩ => ⟨S_, .bf16⟩
  | .hbm, ⟨10, _⟩ => ⟨S16384x5120, .bf16⟩
  | .hbm, ⟨11, _⟩ => ⟨S_, .bf16⟩
  | .hbm, ⟨12, _⟩ => ⟨S16384x256, .bf16⟩
  | .hbm, ⟨13, _⟩ => ⟨S16384x11520, .bf16⟩
  | .hbm, ⟨14, _⟩ => ⟨S3x1024x2048, .bf16⟩
  | .hbm, ⟨15, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S3x1024x512, .bf16⟩
  | .local _ .vmem, ⟨15, _⟩ => ⟨S3x1024x512, .bf16⟩
  | .local _ .vmem, ⟨16, _⟩ => ⟨S1024x512, .bf16⟩
  | .local _ .vmem, ⟨17, _⟩ => ⟨S1024x512, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S4x4096x1024 : Shape := ⟨3, ![4, 4096, 1024]⟩
abbrev S4x4096x6144 : Shape := ⟨3, ![4, 4096, 6144]⟩
abbrev S3x1024x2048 : Shape := ⟨3, ![3, 1024, 2048]⟩
abbrev S4x4096x1x1024 : Shape := ⟨4, ![4, 4096, 1, 1024]⟩
abbrev S4x4096x3x1024 : Shape := ⟨4, ![4, 4096, 3, 1024]⟩
abbrev S4x4096x3x2048 : Shape := ⟨4, ![4, 4096, 3, 2048]⟩
abbrev S_ : Shape := ⟨0, ![]⟩
abbrev S3x2048x4x4096 : Shape := ⟨4, ![3, 2048, 4, 4096]⟩
abbrev S4x4096x2048 : Shape := ⟨3, ![4, 4096, 2048]⟩
abbrev S16384x2048 : Shape := ⟨2, ![16384, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S4x4096x6144, .bf16⟩
  | .hbm, ⟨4, _⟩ => ⟨S3x1024x2048, .f32⟩
  | .hbm, ⟨5, _⟩ => ⟨S4x4096x1x1024, .bf16⟩
  | .hbm, ⟨6, _⟩ => ⟨S4x4096x1x1024, .bf16⟩
  | .hbm, ⟨7, _⟩ => ⟨S4x4096x1x1024, .bf16⟩
  | .hbm, ⟨8, _⟩ => ⟨S4x4096x3x1024, .bf16⟩
  | .hbm, ⟨9, _⟩ => ⟨S4x4096x3x1024, .f32⟩
  | .hbm, ⟨10, _⟩ => ⟨S4x4096x3x2048, .bf16⟩
  | .hbm, ⟨11, _⟩ => ⟨S4x4096x3x2048, .f32⟩
  | .hbm, ⟨12, _⟩ => ⟨S4x4096x3x2048, .f32⟩
  | .hbm, ⟨13, _⟩ => ⟨S4x4096x3x2048, .f32⟩
  | .hbm, ⟨14, _⟩ => ⟨S_, .f32⟩
  | .hbm, ⟨15, _⟩ => ⟨S4x4096x3x2048, .f32⟩
  | .hbm, ⟨16, _⟩ => ⟨S4x4096x3x2048, .f32⟩
  | .hbm, ⟨17, _⟩ => ⟨S_, .f32⟩
  | .hbm, ⟨18, _⟩ => ⟨S4x4096x3x2048, .f32⟩
  | .hbm, ⟨19, _⟩ => ⟨S4x4096x3x2048, .f32⟩
  | .hbm, ⟨20, _⟩ => ⟨S3x2048x4x4096, .f32⟩
  | .hbm, ⟨21, _⟩ => ⟨S4x4096x3x2048, .f32⟩
  | .hbm, ⟨22, _⟩ => ⟨S4x4096x3x2048, .f32⟩
  | .hbm, ⟨23, _⟩ => ⟨S_, .f32⟩
  | .hbm, ⟨24, _⟩ => ⟨S4x4096x2048, .f32⟩
  | .hbm, ⟨25, _⟩ => ⟨S16384x2048, .f32⟩
  | .hbm, ⟨26, _⟩ => ⟨S16384x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S_ : Shape := ⟨0, ![]⟩
abbrev S1024x2048 : Shape := ⟨2, ![1024, 2048]⟩
abbrev S17408x2048 : Shape := ⟨2, ![17408, 2048]⟩
abbrev S8x12288 : Shape := ⟨2, ![8, 12288]⟩
abbrev S48x1x2048 : Shape := ⟨3, ![48, 1, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 14
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S16384x2048, .f32⟩
  | .hbm, ⟨5, _⟩ => ⟨S_, .f32⟩
  | .hbm, ⟨6, _⟩ => ⟨S1024x2048, .f32⟩
  | .hbm, ⟨7, _⟩ => ⟨S17408x2048, .f32⟩
  | .hbm, ⟨8, _⟩ => ⟨S2048x2048, .bf16⟩
  | .hbm, ⟨9, _⟩ => ⟨S_, .f32⟩
  | .hbm, ⟨10, _⟩ => ⟨S4x12288, .f32⟩
  | .hbm, ⟨11, _⟩ => ⟨S8x12288, .f32⟩
  | .hbm, ⟨12, _⟩ => ⟨S48x1x2048, .f32⟩
  | .hbm, ⟨13, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c1_i32 : BitVec 32 := 1#32
  let v2 : BitVec 32 := Scalar.select v1 arg1 c1_i32
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 32 := Scalar.addi c16_i32_0 v1
  let c16_i32_1 : BitVec 32 := 16#32
  let v3 : BitVec 1 := Scalar.cmpi .slt arg0 c16_i32_1
  let c0_i32_2 : BitVec 32 := 0#32
  let v4 : BitVec 32 := Scalar.select v3 c0_i32_2 arg1
  let c0_i32_3 : BitVec 32 := 0#32
  ![v2.toNat, v4.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c6_i32 : BitVec 32 := 6#32
  let v19 : BitVec 32 := Scalar.muli v18 c6_i32
  let c2_i32 : BitVec 32 := 2#32
  let v20 : BitVec 32 := Scalar.addi v19 c2_i32
  let c0_i32_5 : BitVec 32 := 0#32
  let c0_i32_6 : BitVec 32 := 0#32
  ![v20.toNat, c0_i32_5.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S4x6x2048 : Shape := ⟨3, ![4, 6, 2048]⟩
abbrev S6x4x2048 : Shape := ⟨3, ![6, 4, 2048]⟩
abbrev S6x4x1x2048 : Shape := ⟨4, ![6, 4, 1, 2048]⟩
abbrev S1x4x1x2048 : Shape := ⟨4, ![1, 4, 1, 2048]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S16384x2048, .f32⟩
  | .hbm, ⟨5, _⟩ => ⟨S4x4096x2048, .f32⟩
  | .hbm, ⟨6, _⟩ => ⟨S4x4096x2048, .f32⟩
  | .hbm, ⟨7, _⟩ => ⟨S4x6x2048, .f32⟩
  | .hbm, ⟨8, _⟩ => ⟨S6x4x2048, .f32⟩
  | .hbm, ⟨9, _⟩ => ⟨S6x4x1x2048, .f32⟩
  | .hbm, ⟨10, _⟩ => ⟨S1x4x1x2048, .f32⟩
  | .hbm, ⟨11, _⟩ => ⟨S4x1x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel7.lean ====
abbrev S17408x1024 : Shape := ⟨2, ![17408, 1024]⟩
abbrev S1024 : Shape := ⟨1, ![1024]⟩
abbrev S1024x1024 : Shape := ⟨2, ![1024, 1024]⟩
abbrev S_ : Shape := ⟨0, ![]⟩
abbrev S17408x4096 : Shape := ⟨2, ![17408, 4096]⟩
abbrev S17408x6400 : Shape := ⟨2, ![17408, 6400]⟩
abbrev S17408x11520 : Shape := ⟨2, ![17408, 11520]⟩
abbrev S1x1024 : Shape := ⟨2, ![1, 1024]⟩
abbrev S128x1024 : Shape := ⟨2, ![128, 1024]⟩

abbrev nBuf : Space → Nat
  | .hbm => 14
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S_, .bf16⟩
  | .hbm, ⟨6, _⟩ => ⟨S17408x4096, .bf16⟩
  | .hbm, ⟨7, _⟩ => ⟨S_, .bf16⟩
  | .hbm, ⟨8, _⟩ => ⟨S17408x6400, .bf16⟩
  | .hbm, ⟨9, _⟩ => ⟨S17408x11520, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S17408x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v14 : BitVec 32 := Scalar.muli arg8 c128_i32
  v14
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v14 : BitVec 32 := Scalar.muli arg8 c128_i32
  let v15 : BitVec 32 := v14
  let v16 : Index := Scalar.indexCast v15
  let c0_8 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S17408x1024 : Shape := ⟨2, ![17408, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S17408x1024, .f32⟩
  | .hbm, ⟨6, _⟩ => ⟨S1x1024, .f32⟩
  | .hbm, ⟨7, _⟩ => ⟨S17408x1024, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S17408x1024, .f32⟩
  | .hbm, ⟨12, _⟩ => ⟨S_, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S_, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S_, .f32⟩
  | .hbm, ⟨21, _⟩ => ⟨S17408x1024, .f32⟩
  | .hbm, ⟨22, _⟩ => ⟨S17408x1024, .f32⟩
  | .hbm, ⟨23, _⟩ => ⟨S_, .f32⟩
  | .hbm, ⟨24, _⟩ => ⟨S17408x1024, .f32⟩
  | .hbm, ⟨25, _⟩ => ⟨S17408x1024, .f32⟩
  | .hbm, ⟨26, _⟩ => ⟨S17408x1024, .f32⟩
  | .hbm, ⟨27, _⟩ => ⟨S17408x1024, .f32⟩
  | .hbm, ⟨28, _⟩ => ⟨S1x1024, .f32⟩
  | .hbm, ⟨29, _⟩ => ⟨S17408x1024, .f32⟩
  | .hbm, ⟨30, _⟩ => ⟨S17408x1024, .f32⟩
  | .hbm, ⟨31, _⟩ => ⟨S17408x1024, .f32⟩
  | .hbm, ⟨32, _⟩ => ⟨S17408x1024, .f32⟩
  | .hbm, ⟨33, _⟩ => ⟨S_, .f32⟩
  | .hbm, ⟨34, _⟩ => ⟨S17408x1024, .f32⟩
  | .hbm, ⟨35, _⟩ => ⟨S17408x1024, .f32⟩
  | .hbm, ⟨36, _⟩ => ⟨S_, .f32⟩
  | .hbm, ⟨37, _⟩ => ⟨S17408x1024, .f32⟩
  | .hbm, ⟨38, _⟩ => ⟨S17408x1024, .f32⟩
  | .hbm, ⟨39, _⟩ => ⟨S17408x1024, .f32⟩
  | .hbm, ⟨40, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Ideal.Trip.lean ====
/- The body of the attention kernel at one grid point: what the loop keeps and what the point leaves.
   Of each query tile of 512 rows the kernel keeps the scores against all 4352 keys (`scorePieces`, nine blocks
   of columns) and the maximum of each of 128 lanes (`laneMax`); `finish` turns the two into the tile's output. -/
module

public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows `[512 j, 512 j + 512)` of the latent keys or values of a head. -/
abbrev rows (x : Vec F S4096x256 .bf16) (o : ℕ) (h : ∀ a, (![o, 0] : Fin 2 → ℕ) a + S512x256.size a ≤ S4096x256.size a) :
    Vec F S512x256 .bf16 := View.ld x (Rect.unit (s := S4096x256) ![o, 0] S512x256.size h)

/-- A whole 256-row block read through the rectangle the kernel loads it by. -/
abbrev ctx (x : Vec F S256x256 .bf16) : Vec F S256x256 .bf16 :=
  View.ld x (Rect.unit (s := S256x256) ![0, 0] S256x256.size inb_S256x256_S256x256_0_0)

/-- The scores of a query tile `q` against the context keys `kc` and the latent keys `kl`, as the nine blocks of
    columns the kernel stores (last first). -/
def scorePieces (q : Vec F S512x256 .bf16) (kc : Vec F S256x256 .bf16) (kl : Vec F S4096x256 .bf16) :
    List (View.Piece (Elt F) S512x4352 .f32) :=
  [⟨Rect.unit (s := S512x4352) ![0, 3840] S512x512.size inb_S512x4352_S512x512_0_3840, k0_pay7 q (rows kl 3584 inb_S4096x256_S512x256_3584_0)⟩,
   ⟨Rect.unit (s := S512x4352) ![0, 3328] S512x512.size inb_S512x4352_S512x512_0_3328, k0_pay7 q (rows kl 3072 inb_S4096x256_S512x256_3072_0)⟩,
   ⟨Rect.unit (s := S512x4352) ![0, 2816] S512x512.size inb_S512x4352_S512x512_0_2816, k0_pay7 q (rows kl 2560 inb_S4096x256_S512x256_2560_0)⟩,
   ⟨Rect.unit (s := S512x4352) ![0, 2304] S512x512.size inb_S512x4352_S512x512_0_2304, k0_pay7 q (rows kl 2048 inb_S4096x256_S512x256_2048_0)⟩,
   ⟨Rect.unit (s := S512x4352) ![0, 1792] S512x512.size inb_S512x4352_S512x512_0_1792, k0_pay7 q (rows kl 1536 inb_S4096x256_S512x256_1536_0)⟩,
   ⟨Rect.unit (s := S512x4352) ![0, 1280] S512x512.size inb_S512x4352_S512x512_0_1280, k0_pay7 q (rows kl 1024 inb_S4096x256_S512x256_1024_0)⟩,
   ⟨Rect.unit (s := S512x4352) ![0, 768] S512x512.size inb_S512x4352_S512x512_0_768, k0_pay7 q (rows kl 512 inb_S4096x256_S512x256_512_0)⟩,
   ⟨Rect.unit (s := S512x4352) ![0, 256] S512x512.size inb_S512x4352_S512x512_0_256, k0_pay7 q (rows kl 0 inb_S4096x256_S512x256_0_0)⟩,
   ⟨Rect.unit (s := S512x4352) ![0, 0] S512x256.size inb_S512x4352_S512x256_0_0, k0_pay5 q (ctx kc)⟩]

/-- The scores of a query tile as one matrix. -/
def scores (q : Vec F S512x256 .bf16) (kc : Vec F S256x256 .bf16) (kl : Vec F S4096x256 .bf16) : Vec F S512x4352 .f32 :=
  View.canon (scorePieces q kc kl)

/-- The running maximum of a tile's scores, lane by lane. -/
def laneMax (q : Vec F S512x256 .bf16) (kc : Vec F S256x256 .bf16) (kl : Vec F S4096x256 .bf16) : FVec F S512x128 .f32 :=
  k0_pay28
    (k0_pay24 (k0_pay3 q)
      (k0_pay16 (k0_pay3 q) (k0_pay8 q (ctx kc) (rows kl 0 inb_S4096x256_S512x256_0_0)) (k0_pay9 q (rows kl 512 inb_S4096x256_S512x256_512_0)) (k0_pay11 q (rows kl 512 inb_S4096x256_S512x256_512_0)) (rows kl 1024 inb_S4096x256_S512x256_1024_0) (rows kl 1536 inb_S4096x256_S512x256_1536_0))
      (k0_pay17 (k0_pay3 q) (rows kl 2048 inb_S4096x256_S512x256_2048_0)) (k0_pay19 (k0_pay3 q) (rows kl 2048 inb_S4096x256_S512x256_2048_0)) (rows kl 2560 inb_S4096x256_S512x256_2560_0) (rows kl 3072 inb_S4096x256_S512x256_3072_0))
    (k0_pay25 (k0_pay3 q) (rows kl 3584 inb_S4096x256_S512x256_3584_0)) (k0_pay27 (k0_pay3 q) (rows kl 3584 inb_S4096x256_S512x256_3584_0))

/-- The write of a lane maximum. -/
def maxPieces (q : Vec F S512x256 .bf16) (kc : Vec F S256x256 .bf16) (kl : Vec F S4096x256 .bf16) :
    List (View.Piece (Elt F) S512x128 .f32) :=
  [⟨Rect.unit (s := S512x128) ![0, 0] S512x128.size inb_S512x128_S512x128_0_0, laneMax q kc kl⟩]

/-- The lane maxima of a query tile as one matrix. -/
def maxes (q : Vec F S512x256 .bf16) (kc : Vec F S256x256 .bf16) (kl : Vec F S4096x256 .bf16) : Vec F S512x128 .f32 :=
  View.canon (maxPieces q kc kl)

/-- A block of 512 columns of the scores. -/
abbrev cols (s : Vec F S512x4352 .f32) (o : ℕ) (h : ∀ a, (![0, o] : Fin 2 → ℕ) a + S512x512.size a ≤ S512x4352.size a) :
    Vec F S512x512 .f32 := View.ld s (Rect.unit (s := S512x4352) ![0, o] S512x512.size h)

/-- One block's share of a tile's weighted values: the weights `exp2 (s − m)` of a block of scores times the values. -/
def part (m : FVec F S512x1 .f32) (s : Vec F S512x512 .f32) (v : Vec F S512x256 .bf16) : FVec F S512x256 .f32 :=
  matmul dot_S512x512_S512x256_S512x256_1_0_0_1_n_n none
    (truncf .bf16 (exp2 (subf s (broadcastTo S512x512 m broadcasts_S512x1_S512x512))) bitsLt_bf16_f32)
    (shapeCast S512x256 v shapeCasts_S512x256_S512x256) (constant S512x256 .f32 0x00000000#32)

/-- The context block's share. -/
def partCtx (m : FVec F S512x1 .f32) (s : Vec F S512x256 .f32) (v : Vec F S256x256 .bf16) : FVec F S512x256 .f32 :=
  matmul dot_S512x256_S256x256_S512x256_1_0_0_1_n_n none
    (truncf .bf16 (exp2 (subf s (broadcastTo S512x256 m broadcasts_S512x1_S512x256))) bitsLt_bf16_f32)
    (shapeCast S256x256 v shapeCasts_S256x256_S256x256) (constant S512x256 .f32 0x00000000#32)

/-- The weighted values of the nine blocks added up. -/
def total (m : FVec F S512x1 .f32) (s0 : Vec F S512x256 .f32) (s1 s2 s3 s4 s5 s6 s7 s8 : Vec F S512x512 .f32)
    (v0 : Vec F S256x256 .bf16) (v1 v2 v3 v4 v5 v6 v7 v8 : Vec F S512x256 .bf16) : FVec F S512x256 .f32 :=
  addf (addf (addf (addf (addf (addf (addf (addf (partCtx m s0 v0) (part m s1 v1)) (part m s2 v2)) (part m s3 v3)) (part m s4 v4))
    (part m s5 v5)) (part m s6 v6)) (part m s7 v7)) (part m s8 v8)

/-- The first 128 columns over column 128, the sum of the weights. -/
def quot (a : FVec F S512x256 .f32) : FVec F S512x128 .bf16 :=
  truncf .bf16 (divf (extractStridedSlice S512x128 ![0, 0] a slices_S512x256_o0_0_S512x128)
    (broadcastTo S512x128 (extractStridedSlice S512x1 ![0, 128] a slices_S512x256_o0_128_S512x1) broadcasts_S512x1_S512x128)) bitsLt_bf16_f32

/-- A tile's output from its lane maxima, its nine blocks of scores and the nine blocks of values. -/
def fin (w : Vec F S512x128 .f32) (s0 : Vec F S512x256 .f32) (s1 s2 s3 s4 s5 s6 s7 s8 : Vec F S512x512 .f32)
    (v0 : Vec F S256x256 .bf16) (v1 v2 v3 v4 v5 v6 v7 v8 : Vec F S512x256 .bf16) : FVec F S512x128 .bf16 :=
  quot (total (k0_pay29 w) s0 s1 s2 s3 s4 s5 s6 s7 s8 v0 v1 v2 v3 v4 v5 v6 v7 v8)

/-- The trip's first finishing computes `fin`, -/
theorem fin_even (w : Vec F S512x128 .f32) (s0 : Vec F S512x256 .f32) (s1 s2 s3 s4 s5 s6 s7 s8 : Vec F S512x512 .f32)
    (v0 : Vec F S256x256 .bf16) (v1 v2 v3 v4 v5 v6 v7 v8 : Vec F S512x256 .bf16) :
    k0_pay34 (k0_pay29 w) (k0_pay32 (k0_pay29 w) (k0_pay30 w s0 v0 s1 v1) (k0_pay31 w s2) v2 s3 v3 s4 v4 s5 v5)
      (k0_pay33 (k0_pay29 w) s6 v6) s7 v7 s8 v8 = fin w s0 s1 s2 s3 s4 s5 s6 s7 s8 v0 v1 v2 v3 v4 v5 v6 v7 v8 := rfl

/-- and so does its second. -/
theorem fin_odd (w : Vec F S512x128 .f32) (s0 : Vec F S512x256 .f32) (s1 s2 s3 s4 s5 s6 s7 s8 : Vec F S512x512 .f32)
    (v0 : Vec F S256x256 .bf16) (v1 v2 v3 v4 v5 v6 v7 v8 : Vec F S512x256 .bf16) :
    k0_pay2 (k0_pay59 (k0_pay57 w) (k0_pay58 w s0 v0 s1 v1 s2 v2 s3 v3) s4 v4 s5 v5 s6 v6 s7 v7) s8 (k0_pay60 (k0_pay57 w)) v8
      = fin w s0 s1 s2 s3 s4 s5 s6 s7 s8 v0 v1 v2 v3 v4 v5 v6 v7 v8 := rfl

/-- A tile's output from its scores `s`, its lane maxima `mx` and the value slabs. -/
def finish (s : Vec F S512x4352 .f32) (mx : Vec F S512x128 .f32) (vc : Vec F S256x256 .bf16) (vl : Vec F S4096x256 .bf16) :
    FVec F S512x128 .bf16 :=
  fin (View.ld mx (Rect.unit (s := S512x128) ![0, 0] S512x128.size inb_S512x128_S512x128_0_0))
    (View.ld s (Rect.unit (s := S512x4352) ![0, 0] S512x256.size inb_S512x4352_S512x256_0_0))
    (cols s 256 inb_S512x4352_S512x512_0_256) (cols s 768 inb_S512x4352_S512x512_0_768) (cols s 1280 inb_S512x4352_S512x512_0_1280) (cols s 1792 inb_S512x4352_S512x512_0_1792) (cols s 2304 inb_S512x4352_S512x512_0_2304) (cols s 2816 inb_S512x4352_S512x512_0_2816) (cols s 3328 inb_S512x4352_S512x512_0_3328) (cols s 3840 inb_S512x4352_S512x512_0_3840)
    (ctx vc) (rows vl 0 inb_S4096x256_S512x256_0_0) (rows vl 512 inb_S4096x256_S512x256_512_0) (rows vl 1024 inb_S4096x256_S512x256_1024_0) (rows vl 1536 inb_S4096x256_S512x256_1536_0) (rows vl 2048 inb_S4096x256_S512x256_2048_0) (rows vl 2560 inb_S4096x256_S512x256_2560_0) (rows vl 3072 inb_S4096x256_S512x256_3072_0) (rows vl 3584 inb_S4096x256_S512x256_3584_0)

section Trip

variable (𝒱 : Variants) (c : Dev nD) (bd : Option 𝒱.V) (i : grid0.Coords) (arg2 : Memref sig .tc .vmem S4096x256 .bf16) (harg2 : arg2.IsWhole) (arg3 : Memref sig .tc .vmem S256x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S512x4352 .f32) (harg8 : arg8.IsWhole) (arg9 : Memref sig .tc .vmem S512x4352 .f32) (harg9 : arg9.IsWhole) (arg10 : Memref sig .tc .vmem S512x128 .f32) (harg10 : arg10.IsWhole) (arg11 : Memref sig .tc .vmem S512x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

/-- The query tile read by the trip's first, -/
abbrev qOdd (x : Vec F S4096x256 .bf16) (k : Fin k0_t1_loop.trips) : Vec F S512x256 .bf16 :=
  View.ld x (Rect.unit (s := S4096x256) (k0_off1 k) S512x256.size (k0_off1_inb k))
/-- and by its second scoring. -/
abbrev qNext (x : Vec F S4096x256 .bf16) (k : Fin k0_t1_loop.trips) : Vec F S512x256 .bf16 :=
  View.ld x (Rect.unit (s := S4096x256) (k0_off3 k) S512x256.size (k0_off3_inb k))

set_option maxHeartbeats 4000000

theorem trip9 : (trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11 = scorePieces (qOdd (arg2.view.read (Elt F) X2) k) (arg3.view.read (Elt F) X3) (arg4.view.read (Elt F) X4) := by
  unfold trip_k0_t1; rfl

theorem trip8 : (trip_k0_t1 (F := F) 𝒱 c bd i arg2 harg2 arg3 harg3 arg4 harg4 arg5 harg5 arg6 harg6 arg7 harg7 arg8 harg8 arg9 harg9 arg10 harg10 arg11 harg11 X2 X3 X4 X5 X6 k).2.1 f7 f8 f9 f10 f11 = scorePieces (qNext (arg2.view.read (Elt F) X2) k) (arg3.view.read (Elt F) X3) (arg4.view.read (Elt F) X4) := by
  unfold trip_k0_t1; rfl

theorem trip10 : (trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.2.1 f7 f8 f9 f10 f11 = maxPieces (qNext (arg2.view.read (Elt F) X2) k) (arg3.view.read (Elt F) X3) (arg4.view.read (Elt F) X4) := by
  unfold trip_k0_t1; rfl

theorem trip11 : (trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.2.2.1 f7 f8 f9 f10 f11 = maxPieces (qOdd (arg2.view.read (Elt F) X2) k) (arg3.view.read (Elt F) X3) (arg4.view.read (Elt F) X4) := by
  unfold trip_k0_t1; rfl

end Trip

end Cert.KernelIdeal.Attn

end
-- ==== Proof.Ideal.Run.lean ====
module

public import proofs.«01_k».proof.Proof.Ideal.Trip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (𝒱 : Variants) (c : Dev nD) (bd : Option 𝒱.V) (i : grid0.Coords) (arg2 : Memref sig .tc .vmem S4096x256 .bf16) (harg2 : arg2.IsWhole) (arg3 : Memref sig .tc .vmem S256x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S512x4352 .f32) (harg8 : arg8.IsWhole) (arg9 : Memref sig .tc .vmem S512x4352 .f32) (harg9 : arg9.IsWhole) (arg10 : Memref sig .tc .vmem S512x128 .f32) (harg10 : arg10.IsWhole) (arg11 : Memref sig .tc .vmem S512x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

set_option maxHeartbeats 4000000

theorem trip7_pieces : (trip_k0_t1 (F := F) 𝒱 c bd i arg2 harg2 arg3 harg3 arg4 harg4 arg5 harg5 arg6 harg6 arg7 harg7 arg8 harg8 arg9 harg9 arg10 harg10 arg11 harg11 X2 X3 X4 X5 X6 k).1 f7 f8 f9 f10 f11
    = [⟨Rect.unit (s := S4096x128) (k0_off4 k) S512x128.size (k0_off4_inb k), k0_pay2 (k0_pay59 (k0_pay57 (View.readAt (Elt F) arg11.view (Rect.unit (s := S512x128) ![0, 0] S512x128.size inb_S512x128_S512x128_0_0).toLoadRect (arg11.view.writes (Elt F) arg11.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.2.2.1 f7 f8 f9 f10 f11)))) (k0_pay58 (View.readAt (Elt F) arg11.view (Rect.unit (s := S512x128) ![0, 0] S512x128.size inb_S512x128_S512x128_0_0).toLoadRect (arg11.view.writes (Elt F) arg11.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.2.2.1 f7 f8 f9 f10 f11))) (View.readAt (Elt F) arg9.view (Rect.unit (s := S512x4352) ![0, 0] S512x256.size inb_S512x4352_S512x256_0_0).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg5.view (Rect.unit (s := S256x256) ![0, 0] S256x256.size inb_S256x256_S256x256_0_0).toLoadRect X5) (View.readAt (Elt F) arg9.view (Rect.unit (s := S512x4352) ![0, 256] S512x512.size inb_S512x4352_S512x512_0_256).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![0, 0] S512x256.size inb_S4096x256_S512x256_0_0).toLoadRect X6) (View.readAt (Elt F) arg9.view (Rect.unit (s := S512x4352) ![0, 768] S512x512.size inb_S512x4352_S512x512_0_768).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![512, 0] S512x256.size inb_S4096x256_S512x256_512_0).toLoadRect X6) (View.readAt (Elt F) arg9.view (Rect.unit (s := S512x4352) ![0, 1280] S512x512.size inb_S512x4352_S512x512_0_1280).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![1024, 0] S512x256.size inb_S4096x256_S512x256_1024_0).toLoadRect X6)) (View.readAt (Elt F) arg9.view (Rect.unit (s := S512x4352) ![0, 1792] S512x512.size inb_S512x4352_S512x512_0_1792).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![1536, 0] S512x256.size inb_S4096x256_S512x256_1536_0).toLoadRect X6) (View.readAt (Elt F) arg9.view (Rect.unit (s := S512x4352) ![0, 2304] S512x512.size inb_S512x4352_S512x512_0_2304).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![2048, 0] S512x256.size inb_S4096x256_S512x256_2048_0).toLoadRect X6) (View.readAt (Elt F) arg9.view (Rect.unit (s := S512x4352) ![0, 2816] S512x512.size inb_S512x4352_S512x512_0_2816).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![2560, 0] S512x256.size inb_S4096x256_S512x256_2560_0).toLoadRect X6) (View.readAt (Elt F) arg9.view (Rect.unit (s := S512x4352) ![0, 3328] S512x512.size inb_S512x4352_S512x512_0_3328).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (View.readAt (Elt F) arg6.view (Rect.unit (s := S4096x256) ![3072, 0] S512x256.size inb_S4096x256_S512x256_3072_0).toLoadRect X6)) (View.readAt (Elt F) arg9.view (Rect.unit (s := S512x4352) ![0, 3840] S512x512.size inb_S512x4352_S512x512_0_3840).toLoadRect (arg9.view.writes (Elt F) arg9.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.1 f7 f8 f9 f10 f11))) (k0_pay60 (k0_pay57 (View.readAt (Elt F) arg11.view (Rect.unit (s := S512x128) ![0, 0] S512x128.size inb_S512x128_S512x128_0_0).toLoadRect (arg11.view.writes (Elt F) arg11.view.junk ((trip_k0_t1 (F := F) 𝒱 c bd i arg2 harg2 arg3 harg3 arg4 harg4 arg5 harg5 arg6 harg6 arg7 harg7 arg8 harg8 arg9 harg9 arg10 harg10 arg11 harg11 X2 X3 X4 X5 X6 k).2.2.2.2.1 f7 f8 f9 f10 f11))))) (View.readAt (Elt F) arg6.view (Rect.unit (s := S4096x256) ![3584, 0] S512x256.size inb_S4096x256_S512x256_3584_0).toLoadRect X6)⟩,
       ⟨Rect.unit (s := S4096x128) (k0_off2 k) S512x128.size (k0_off2_inb k), k0_pay34 (k0_pay29 (View.readAt (Elt F) arg10.view (Rect.unit (s := S512x128) ![0, 0] S512x128.size inb_S512x128_S512x128_0_0).toLoadRect f10)) (k0_pay32 (k0_pay29 (View.readAt (Elt F) arg10.view (Rect.unit (s := S512x128) ![0, 0] S512x128.size inb_S512x128_S512x128_0_0).toLoadRect f10)) (k0_pay30 (View.readAt (Elt F) arg10.view (Rect.unit (s := S512x128) ![0, 0] S512x128.size inb_S512x128_S512x128_0_0).toLoadRect f10) (View.readAt (Elt F) arg8.view (Rect.unit (s := S512x4352) ![0, 0] S512x256.size inb_S512x4352_S512x256_0_0).toLoadRect f8) (View.readAt (Elt F) arg5.view (Rect.unit (s := S256x256) ![0, 0] S256x256.size inb_S256x256_S256x256_0_0).toLoadRect X5) (View.readAt (Elt F) arg8.view (Rect.unit (s := S512x4352) ![0, 256] S512x512.size inb_S512x4352_S512x512_0_256).toLoadRect f8) (View.readAt (Elt F) arg6.view (Rect.unit (s := S4096x256) ![0, 0] S512x256.size inb_S4096x256_S512x256_0_0).toLoadRect X6)) (k0_pay31 (View.readAt (Elt F) arg10.view (Rect.unit (s := S512x128) ![0, 0] S512x128.size inb_S512x128_S512x128_0_0).toLoadRect f10) (View.readAt (Elt F) arg8.view (Rect.unit (s := S512x4352) ![0, 768] S512x512.size inb_S512x4352_S512x512_0_768).toLoadRect f8)) (View.readAt (Elt F) arg6.view (Rect.unit (s := S4096x256) ![512, 0] S512x256.size inb_S4096x256_S512x256_512_0).toLoadRect X6) (View.readAt (Elt F) arg8.view (Rect.unit (s := S512x4352) ![0, 1280] S512x512.size inb_S512x4352_S512x512_0_1280).toLoadRect f8) (View.readAt (Elt F) arg6.view (Rect.unit (s := S4096x256) ![1024, 0] S512x256.size inb_S4096x256_S512x256_1024_0).toLoadRect X6) (View.readAt (Elt F) arg8.view (Rect.unit (s := S512x4352) ![0, 1792] S512x512.size inb_S512x4352_S512x512_0_1792).toLoadRect f8) (View.readAt (Elt F) arg6.view (Rect.unit (s := S4096x256) ![1536, 0] S512x256.size inb_S4096x256_S512x256_1536_0).toLoadRect X6) (View.readAt (Elt F) arg8.view (Rect.unit (s := S512x4352) ![0, 2304] S512x512.size inb_S512x4352_S512x512_0_2304).toLoadRect f8) (View.readAt (Elt F) arg6.view (Rect.unit (s := S4096x256) ![2048, 0] S512x256.size inb_S4096x256_S512x256_2048_0).toLoadRect X6)) (k0_pay33 (k0_pay29 (View.readAt (Elt F) arg10.view (Rect.unit (s := S512x128) ![0, 0] S512x128.size inb_S512x128_S512x128_0_0).toLoadRect f10)) (View.readAt (Elt F) arg8.view (Rect.unit (s := S512x4352) ![0, 2816] S512x512.size inb_S512x4352_S512x512_0_2816).toLoadRect f8) (View.readAt (Elt F) arg6.view (Rect.unit (s := S4096x256) ![2560, 0] S512x256.size inb_S4096x256_S512x256_2560_0).toLoadRect X6)) (View.readAt (Elt F) arg8.view (Rect.unit (s := S512x4352) ![0, 3328] S512x512.size inb_S512x4352_S512x512_0_3328).toLoadRect f8) (View.readAt (Elt F) arg6.view (Rect.unit (s := S4096x256) ![3072, 0] S512x256.size inb_S4096x256_S512x256_3072_0).toLoadRect X6) (View.readAt (Elt F) arg8.view (Rect.unit (s := S512x4352) ![0, 3840] S512x512.size inb_S512x4352_S512x512_0_3840).toLoadRect f8) (View.readAt (Elt F) arg6.view (Rect.unit (s := S4096x256) ![3584, 0] S512x256.size inb_S4096x256_S512x256_3584_0).toLoadRect X6)⟩] := by
  unfold trip_k0_t1
  dsimp only
  refine congrArg₂ List.cons (Sigma.ext rfl (heq_of_eq ?_)) (congrArg₂ List.cons (Sigma.ext rfl (heq_of_eq ?_)) rfl)
  · rfl
  · rfl

theorem trip7 : (trip_k0_t1 (F := F) 𝒱 c bd i arg2 harg2 arg3 harg3 arg4 harg4 arg5 harg5 arg6 harg6 arg7 harg7 arg8 harg8 arg9 harg9 arg10 harg10 arg11 harg11 X2 X3 X4 X5 X6 k).1 f7 f8 f9 f10 f11
    = [⟨Rect.unit (s := S4096x128) (k0_off4 k) S512x128.size (k0_off4_inb k),
          finish (scores (qOdd (arg2.view.read (Elt F) X2) k) (arg3.view.read (Elt F) X3) (arg4.view.read (Elt F) X4))
            (maxes (qOdd (arg2.view.read (Elt F) X2) k) (arg3.view.read (Elt F) X3) (arg4.view.read (Elt F) X4))
            (arg5.view.read (Elt F) X5) (arg6.view.read (Elt F) X6)⟩,
       ⟨Rect.unit (s := S4096x128) (k0_off2 k) S512x128.size (k0_off2_inb k),
          finish (arg8.view.read (Elt F) f8) (arg10.view.read (Elt F) f10) (arg5.view.read (Elt F) X5) (arg6.view.read (Elt F) X6)⟩] := by
  rw [trip7_pieces, trip9, trip11, fin_even, fin_odd]
  unfold scores maxes
  rw [← View.read_writes_junk_eq_canon arg9.view, ← View.read_writes_junk_eq_canon arg11.view]
  rfl

end Trip

section Head

variable (𝒱 : Variants) (c : Dev nD) (bd : Option 𝒱.V) (i : grid0.Coords) (arg2 : Memref sig .tc .vmem S4096x256 .bf16) (harg2 : arg2.IsWhole) (arg3 : Memref sig .tc .vmem S256x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S512x4352 .f32) (harg8 : arg8.IsWhole) (arg9 : Memref sig .tc .vmem S512x4352 .f32) (harg9 : arg9.IsWhole) (arg10 : Memref sig .tc .vmem S512x128 .f32) (harg10 : arg10.IsWhole) (arg11 : Memref sig .tc .vmem S512x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

/-- What the body does before the loop: it scores the first query tile. -/
def head : Prog (TpuEff nD τ sig (Elt F) Λ₀ .tc) PUnit := do
  let ⟨v3, v29, v36, v37⟩ : Σ' (v3 : FVec F S512x256 .bf16) (v29 : FVec F S512x512 .f32) (v36 : FVec F S512x128 .f32), FVec F S512x128 .f32 ← k0_part12 i arg2 harg2 arg3 harg3 arg4 harg4 arg5 harg5 arg6 harg6 arg7 harg7 arg8 harg8 arg9 harg9 arg10 harg10 arg11 harg11
  let ⟨v71, v78, v79⟩ : Σ' (v71 : FVec F S512x512 .f32) (v78 : FVec F S512x128 .f32), FVec F S512x128 .f32 ← k0_part13 i arg2 harg2 arg3 harg3 arg4 harg4 arg5 harg5 arg6 harg6 arg7 harg7 arg8 harg8 arg9 harg9 arg10 harg10 arg11 harg11 v3 v29 v36 v37
  let ⟨v113, v120, v121⟩ : Σ' (v113 : FVec F S512x512 .f32) (v120 : FVec F S512x128 .f32), FVec F S512x128 .f32 ← k0_part14 i arg2 harg2 arg3 harg3 arg4 harg4 arg5 harg5 arg6 harg6 arg7 harg7 arg8 harg8 arg9 harg9 arg10 harg10 arg11 harg11 v3 v71 v78 v79
  let v125 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay1 v113 v120 v121) Finset.univ (View.stores_vmem_bits_univ h_S512x128 rfl) (.inl rfl))
  pure ⟨⟩

theorem skel_eq : cc0_attn_latent_skel (F := F) i arg2 harg2 arg3 harg3 arg4 harg4 arg5 harg5 arg6 harg6 arg7 harg7 arg8 harg8 arg9 harg9 arg10 harg10 arg11 harg11
    = (head (F := F) i arg2 harg2 arg3 harg3 arg4 harg4 arg5 harg5 arg6 harg6 arg7 harg7 arg8 harg8 arg9 harg9 arg10 harg10 arg11 harg11 >>= fun _ => (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11) >>= fun _ => pure ⟨⟩)) := by
  unfold cc0_attn_latent_skel head
  rw [Prog.bind_assoc]; congr 1

set_option maxHeartbeats 4000000 in
/-- The run of `head`: the pieces it leaves in the score and maximum buffers. -/
def headRun :
    Σ' (L8 : List (View.Piece (Elt F) S512x4352 .f32)), { L10 : List (View.Piece (Elt F) S512x128 .f32) //
      ∀ (E : Set ℕ) (f8 : BufTy.Contents (Elt F) arg8.view.ty) (f10 : BufTy.Contents (Elt F) arg10.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg10.view.loc (c : Thread nD τ) ↦[arg10.view.set]{fullShare} f10))
        ⊢ wp frame (wpE (defs₀ (F := F)) 𝒱 (c : Thread nD τ) bd) E (head (F := F) i arg2 harg2 arg3 harg3 arg4 harg4 arg5 harg5 arg6 harg6 arg7 harg7 arg8 harg8 arg9 harg9 arg10 harg10 arg11 harg11)
          (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} arg8.view.writes (Elt F) f8 L8)
            ∗ (arg10.view.loc (c : Thread nD τ) ↦[arg10.view.set]{fullShare} arg10.view.writes (Elt F) f10 L10)) : sProp 𝕄)) } := by
  refine ⟨?_, ?_, fun E f8 f10 => ?run⟩
  case run =>
    unfold head
    simp only [k0_part12_eq_skeleton, k0_part13_eq_skeleton, k0_part14_eq_skeleton]
    iintro ⟨H2, H3, H4, H8, H10⟩
    sl_exec
    sl_step
    sl_close

set_option maxHeartbeats 4000000 in
theorem headRun8 : (headRun (F := F) 𝒱 c bd i arg2 harg2 arg3 harg3 arg4 harg4 arg5 harg5 arg6 harg6 arg7 harg7 arg8 harg8 arg9 harg9 arg10 harg10 arg11 harg11 X2 X3 X4).1
    = scorePieces (View.ld (arg2.view.read (Elt F) X2) (Rect.unit (s := S4096x256) ![0, 0] S512x256.size inb_S4096x256_S512x256_0_0))
        (arg3.view.read (Elt F) X3) (arg4.view.read (Elt F) X4) := by
  unfold headRun; rfl

set_option maxHeartbeats 4000000 in
theorem headRun10 : (headRun (F := F) 𝒱 c bd i arg2 harg2 arg3 harg3 arg4 harg4 arg5 harg5 arg6 harg6 arg7 harg7 arg8 harg8 arg9 harg9 arg10 harg10 arg11 harg11 X2 X3 X4).2.1
    = maxPieces (View.ld (arg2.view.read (Elt F) X2) (Rect.unit (s := S4096x256) ![0, 0] S512x256.size inb_S4096x256_S512x256_0_0))
        (arg3.view.read (Elt F) X3) (arg4.view.read (Elt F) X4) := by
  unfold headRun; rfl

end Head

section Whole

variable (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S512x4352 .f32) (harg8 : arg8.IsWhole) (arg9 : Memref sig .tc .vmem S512x4352 .f32) (harg9 : arg9.IsWhole) (arg10 : Memref sig .tc .vmem S512x128 .f32) (harg10 : arg10.IsWhole) (arg11 : Memref sig .tc .vmem S512x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

/-- The query tile whose scores lie in the first buffer before trip `k`. -/
def tileAt (x : Vec F S4096x256 .bf16) : ℕ → Vec F S512x256 .bf16
  | 0 => View.ld x (Rect.unit (s := S4096x256) ![0, 0] S512x256.size inb_S4096x256_S512x256_0_0)
  | k + 1 => if h : k < k0_t1_loop.trips then qNext x ⟨k, h⟩ else tileAt x k

/-- The output tiles the trips before `k` have stored (last first). -/
def outPieces (x : Vec F S4096x256 .bf16) (kc : Vec F S256x256 .bf16) (kl : Vec F S4096x256 .bf16)
    (vc : Vec F S256x256 .bf16) (vl : Vec F S4096x256 .bf16) : ℕ → List (View.Piece (Elt F) S4096x128 .bf16)
  | 0 => []
  | k + 1 => if h : k < k0_t1_loop.trips then
      [⟨Rect.unit (s := S4096x128) (k0_off4 ⟨k, h⟩) S512x128.size (k0_off4_inb ⟨k, h⟩),
          finish (scores (qOdd x ⟨k, h⟩) kc kl) (maxes (qOdd x ⟨k, h⟩) kc kl) vc vl⟩,
       ⟨Rect.unit (s := S4096x128) (k0_off2 ⟨k, h⟩) S512x128.size (k0_off2_inb ⟨k, h⟩),
          finish (scores (tileAt x k) kc kl) (maxes (tileAt x k) kc kl) vc vl⟩] ++ outPieces x kc kl vc vl k
    else outPieces x kc kl vc vl k

/-- The nine blocks of scores cover the score matrix. -/
theorem scorePieces_cover (q : Vec F S512x256 .bf16) (kc : Vec F S256x256 .bf16) (kl : Vec F S4096x256 .bf16) (y : S512x4352.Idx) :
    ∃ p ∈ scorePieces q kc kl, y ∈ p.1.set := by
  have h0 : (y 0).val < 512 := (y 0).isLt
  have h1 : (y 1).val < 4352 := (y 1).isLt
  unfold scorePieces
  by_cases h3840 : 3840 ≤ (y 1).val
  · refine ⟨_, List.mem_cons_self, ?_⟩
    rw [Rect.mem_set_unit]; intro a
    fin_cases a <;> simp [Matrix.cons_val_zero, Matrix.cons_val_one] <;> omega
  by_cases h3328 : 3328 ≤ (y 1).val
  · refine ⟨_, List.mem_cons_of_mem _ (List.mem_cons_self), ?_⟩
    rw [Rect.mem_set_unit]; intro a
    fin_cases a <;> simp [Matrix.cons_val_zero, Matrix.cons_val_one] <;> omega
  by_cases h2816 : 2816 ≤ (y 1).val
  · refine ⟨_, List.mem_cons_of_mem _ (List.mem_cons_of_mem _ (List.mem_cons_self)), ?_⟩
    rw [Rect.mem_set_unit]; intro a
    fin_cases a <;> simp [Matrix.cons_val_zero, Matrix.cons_val_one] <;> omega
  by_cases h2304 : 2304 ≤ (y 1).val
  · refine ⟨_, List.mem_cons_of_mem _ (List.mem_cons_of_mem _ (List.mem_cons_of_mem _ (List.mem_cons_self))), ?_⟩
    rw [Rect.mem_set_unit]; intro a
    fin_cases a <;> simp [Matrix.cons_val_zero, Matrix.cons_val_one] <;> omega
  by_cases h1792 : 1792 ≤ (y 1).val
  · refine ⟨_, List.mem_cons_of_mem _ (List.mem_cons_of_mem _ (List.mem_cons_of_mem _ (List.mem_cons_of_mem _ (List.mem_cons_self)))), ?_⟩
    rw [Rect.mem_set_unit]; intro a
    fin_cases a <;> simp [Matrix.cons_val_zero, Matrix.cons_val_one] <;> omega
  by_cases h1280 : 1280 ≤ (y 1).val
  · refine ⟨_, List.mem_cons_of_mem _ (List.mem_cons_of_mem _ (List.mem_cons_of_mem _ (List.mem_cons_of_mem _ (List.mem_cons_of_mem _ (List.mem_cons_self))))), ?_⟩
    rw [Rect.mem_set_unit]; intro a
    fin_cases a <;> simp [Matrix.cons_val_zero, Matrix.cons_val_one] <;> omega
  by_cases h768 : 768 ≤ (y 1).val
  · refine ⟨_, List.mem_cons_of_mem _ (List.mem_cons_of_mem _ (List.mem_cons_of_mem _ (List.mem_cons_of_mem _ (List.mem_cons_of_mem _ (List.mem_cons_of_mem _ (List.mem_cons_self)))))), ?_⟩
    rw [Rect.mem_set_unit]; intro a
    fin_cases a <;> simp [Matrix.cons_val_zero, Matrix.cons_val_one] <;> omega
  by_cases h256 : 256 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
    rw [Rect.mem_set_unit]; intro a
    fin_cases a <;> simp [Matrix.cons_val_zero, Matrix.cons_val_one] <;> omega
  refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
  rw [Rect.mem_set_unit]; intro a
  fin_cases a <;> simp [Matrix.cons_val_zero, Matrix.cons_val_one] <;> omega

/-- The one block of lane maxima covers their buffer. -/
theorem maxPieces_cover (q : Vec F S512x256 .bf16) (kc : Vec F S256x256 .bf16) (kl : Vec F S4096x256 .bf16) (y : S512x128.Idx) :
    ∃ p ∈ maxPieces q kc kl, y ∈ p.1.set := by
  refine ⟨_, List.mem_cons_self, ?_⟩
  have h0 : (y 0).val < 512 := (y 0).isLt
  have h1 : (y 1).val < 128 := (y 1).isLt
  rw [Rect.mem_set_unit]; intro a
  fin_cases a <;> simp [Matrix.cons_val_zero, Matrix.cons_val_one] <;> omega

/-- Before trip `k`: the inputs as they are, the output's first `2 k` tiles stored, the first score buffer and its lane
    maxima those of query tile `2 k`, the second at anything. -/
def inv (G : BufTy.Contents (Elt F) arg7.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} arg7.view.writes (Elt F) G (outPieces (arg2.view.read (Elt F) X2) (arg3.view.read (Elt F) X3) (arg4.view.read (Elt F) X4) (arg5.view.read (Elt F) X5) (arg6.view.read (Elt F) X6) k))
    ∗ (∃ f, (arg8.view.loc (c : Thread nD τ) ↦[arg8.view.set]{fullShare} f) ∗ ⌜arg8.view.read (Elt F) f = scores (tileAt (arg2.view.read (Elt F) X2) k) (arg3.view.read (Elt F) X3) (arg4.view.read (Elt F) X4)⌝)
    ∗ (∃ f, (arg9.view.loc (c : Thread nD τ) ↦[arg9.view.set]{fullShare} f))
    ∗ (∃ f, (arg10.view.loc (c : Thread nD τ) ↦[arg10.view.set]{fullShare} f) ∗ ⌜arg10.view.read (Elt F) f = maxes (tileAt (arg2.view.read (Elt F) X2) k) (arg3.view.read (Elt F) X3) (arg4.view.read (Elt F) X4)⌝)
    ∗ (∃ f, (arg11.view.loc (c : Thread nD τ) ↦[arg11.view.set]{fullShare} f)))

set_option maxHeartbeats 4000000 in
/-- One trip keeps the invariant. -/
theorem inv_step (E : Set ℕ) (G : BufTy.Contents (Elt F) arg7.view.ty) (k : Fin k0_t1_loop.trips) (u : PUnit) :
    inv (F := F) c arg2 arg3 arg4 arg5 arg6 arg7 arg8 arg9 arg10 arg11 X2 X3 X4 X5 X6 G k.val u
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 k u)
          (inv (F := F) c arg2 arg3 arg4 arg5 arg6 arg7 arg8 arg9 arg10 arg11 X2 X3 X4 X5 X6 G (k.val + 1)) := by
  unfold inv
  iintro ⟨H2, H3, H4, H5, H6, H7, ⟨%f8, H8, %h8⟩, ⟨%f9, H9⟩, ⟨%f10, H10, %h10⟩, ⟨%f11, H11⟩⟩
  iapply (wp_wand_r Idealize.ShloMosaic.frame (wpE (defs₀ (F := F)) Variants.none (c : Thread nD τ) none) E)
  isplitl [H2 H3 H4 H5 H6 H7 H8 H9 H10 H11]
  · iapply ((trip_k0_t1 (F := F) Variants.none c none i arg2 harg2 arg3 harg3 arg4 harg4 arg5 harg5 arg6 harg6 arg7 harg7 arg8 harg8 arg9 harg9 arg10 harg10 arg11 harg11 X2 X3 X4 X5 X6 k).2.2.2.2.2 E _ f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [trip10, trip8, trip7, h8, h10]
    iintro %_ ⟨H2, H3, H4, H5, H6, H7, H8, H9, H10, H11⟩
    isplitl [H2]; · iexact H2
    isplitl [H3]; · iexact H3
    isplitl [H4]; · iexact H4
    isplitl [H5]; · iexact H5
    isplitl [H6]; · iexact H6
    rw [outPieces, tileAt, dif_pos k.isLt, dif_pos k.isLt, View.writes_append]
    isplitl [H7]; · iexact H7
    isplitl [H8]
    · iexists _; isplitl [H8]; · iexact H8
      ipureintro; exact View.read_writes_eq_canon _ _ _ (scorePieces_cover _ _ _)
    isplitl [H9]; · iexists _; iexact H9
    isplitl [H10]
    · iexists _; isplitl [H10]; · iexact H10
      ipureintro; exact View.read_writes_eq_canon _ _ _ (maxPieces_cover _ _ _)
    iexists _; iexact H11

end Whole

end Cert.KernelIdeal.Attn

end
-- ==== Proof.Ideal.Body.lean ====
module

public import proofs.«01_k».proof.Proof.Ideal.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S512x4352 .f32) (harg8 : arg8.IsWhole) (arg9 : Memref sig .tc .vmem S512x4352 .f32) (harg9 : arg9.IsWhole) (arg10 : Memref sig .tc .vmem S512x128 .f32) (harg10 : arg10.IsWhole) (arg11 : Memref sig .tc .vmem S512x128 .f32) (harg11 : arg11.IsWhole)
  (x0 : Vec F S4096x256 .bf16) (x1 : Vec F S256x256 .bf16) (x2 : Vec F S4096x256 .bf16) (x3 : Vec F S256x256 .bf16) (x4 : Vec F S4096x256 .bf16)

set_option maxHeartbeats 4000000 in
/-- The body on whole buffers: it leaves the inputs as they are and in the output's buffer the eight tiles of
    `outPieces`, whatever the score and maximum buffers held. -/
theorem body_run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ f, (arg7.view.loc (c : Thread nD τ) ↦[arg7.view.set]{fullShare} arg7.view.writes (Elt F) f (outPieces x0 x1 x2 x3 x4 k0_t1_loop.trips)))
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) E (cc0_attn_latent (F := F) i arg2 harg2 arg3 harg3 arg4 harg4 arg5 harg5 arg6 harg6 arg7 harg7 arg8 harg8 arg9 harg9 arg10 harg10 arg11 harg11) K := by
  rw [cc0_attn_latent_eq_skeleton, skel_eq, wp_bind]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
  iapply (wp_wand_r Idealize.ShloMosaic.frame (wpE (defs₀ (F := F)) Variants.none (c : Thread nD τ) none) E)
  isplitl [H0 H1 H2 HS0 HS2]
  · iapply ((headRun (F := F) Variants.none c none i arg2 harg2 arg3 harg3 arg4 harg4 arg5 harg5 arg6 harg6 arg7 harg7 arg8 harg8 arg9 harg9 arg10 harg10 arg11 harg11 f0 f1 f2).2.2 E fs0 fs2)
    isplitl [H0]; · iexact H0
    isplitl [H1]; · iexact H1
    isplitl [H2]; · iexact H2
    isplitl [HS0]; · iexact HS0
    iexact HS2
  rw [headRun10, headRun8]
  iintro %_ ⟨H0, H1, H2, HS0, HS2⟩
  rw [wp_bind]
  iapply (wp_wand_r Idealize.ShloMosaic.frame (wpE (defs₀ (F := F)) Variants.none (c : Thread nD τ) none) E)
  isplitl [H0 H1 H2 H3 H4 H5 HS0 HS1 HS2 HS3]
  · iapply (Scf.wp_for Idealize.ShloMosaic.frame (wpE (defs₀ (F := F)) Variants.none (c : Thread nD τ) none) E
      k0_t1_loop.lb k0_t1_loop.ub k0_t1_loop.st k0_t1_ok ⟨⟩ (k0_t1_body (F := F) i arg2 harg2 arg3 harg3 arg4 harg4 arg5 harg5 arg6 harg6 arg7 harg7 arg8 harg8 arg9 harg9 arg10 harg10 arg11 harg11)
      (inv (F := F) c arg2 arg3 arg4 arg5 arg6 arg7 arg8 arg9 arg10 arg11 f0 f1 f2 f3 f4 f5) (fun k u => inv_step c i arg2 harg2 arg3 harg3 arg4 harg4 arg5 harg5 arg6 harg6 arg7 harg7 arg8 harg8 arg9 harg9 arg10 harg10 arg11 harg11 f0 f1 f2 f3 f4 E f5 k u))
    isplitl [H0 H1 H2 H3 H4 H5 HS0 HS1 HS2 HS3]
    · unfold inv
      isplitl [H0]; · iexact H0
      isplitl [H1]; · iexact H1
      isplitl [H2]; · iexact H2
      isplitl [H3]; · iexact H3
      isplitl [H4]; · iexact H4
      isplitl [H5]; · iexact H5
      isplitl [HS0]
      · iexists _; isplitl [HS0]; · iexact HS0
        ipureintro; exact View.read_writes_eq_canon _ _ _ (scorePieces_cover _ _ _)
      isplitl [HS1]; · iexists _; iexact HS1
      isplitl [HS2]
      · iexists _; isplitl [HS2]; · iexact HS2
        ipureintro; exact View.read_writes_eq_canon _ _ _ (maxPieces_cover _ _ _)
      iexists _; iexact HS3
    iintro %u HI
    iexact HI
  unfold inv
  iintro %u ⟨H0, H1, H2, H3, H4, H5, ⟨%e0, HS0, -⟩, ⟨%e1, HS1⟩, ⟨%e2, HS2, -⟩, ⟨%e3, HS3⟩⟩
  subst hf0 hf1 hf2 hf3 hf4
  iapply (le_wp_ret Idealize.ShloMosaic.frame (wpE (defs₀ (F := F)) Variants.none (c : Thread nD τ) none) E PUnit.unit K)
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]; · iexists _; iexact H5
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Body

end Cert.KernelIdeal.Attn

end
-- ==== Proof.Ideal.Frame.lean ====
/- The frame of the attention program: every run ends with the arguments unchanged and the semaphores at zero,
   the result's blocks being those of `tileOut`. -/
module

public import proofs.«01_k».proof.Proof.Ideal.Body
public import Idealize.ShloMosaic.Lib.Ring
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight output tiles cover the output block. -/
theorem out_cover (x0 : Vec F S4096x256 .bf16) (x1 : Vec F S256x256 .bf16) (x2 : Vec F S4096x256 .bf16) (x3 : Vec F S256x256 .bf16)
    (x4 : Vec F S4096x256 .bf16) (y : S4096x128.Idx) : ∃ p ∈ outPieces x0 x1 x2 x3 x4 k0_t1_loop.trips, y ∈ p.1.set :=
  View.cover_of_tiledL (outPieces x0 x1 x2 x3 x4 k0_t1_loop.trips) S512x128.size (by sl_kernel_rfl) y

/-- What the output's buffer holds after a grid point: its eight tiles. -/
def tileOut (c : Dev nD) (t : Fin cfg0.N) : Vec F S4096x128 .bf16 :=
  View.canon (outPieces (X0_0 m c t) (iblk m c 1 t) (X0_2 m c t) (iblk m c 3 t) (X0_4 m c t) k0_t1_loop.trips)

/-! ## The data of the pipeline -/

/-- The arrays as the launch finds them; after a point each input's buffer at its block and the output's at `tileOut`;
    nothing carried between points but the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => X0_4 m c t
    | ⟨5, _⟩ => (tileOut m c t)
  Φ _ := Pipeline.ΦA spec0 c
  q w := Pipeline.shareOf spec0 w
  owed _ := 0

/-- The arrays of the data are those the launch finds. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = (tileOut m c t) := by dsimp only [dats]

/-- Each input's buffer holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d

/-! ## The body obligation, at a generic point -/

/-- What the body is entered with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body's triple at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold tileOut
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ (X0_0 m c t) (iblk m c 1 t) (X0_2 m c t) (iblk m c 3 t) (X0_4 m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (out_cover _ _ _ _ _)

/-- The body at a point's buffers as the pipeline calls it. -/
theorem defs₀_row (t : Fin cfg0.N) :
    defs₀ (F := F) .tc cfg0.body (cfg0.bodyArgs t (cfg0.slots t)) = bodyAt0 t := by
  unfold defs₀; rw [Defs.onTc_tc]

/-- The obligation the pipeline's rule asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs to the pipeline's post, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end as they began and every semaphore ends at zero: the frame claim, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.Value.Math.lean ====
/- The mathematics of a softmax row: weights taken with base two from scaled scores, divided once at the end,
   are the softmax with base e divided weight by weight. -/
module

public import Idealize.ShloMosaic.PureOps.Ideal
public import Mathlib.Analysis.SpecialFunctions.Pow.Real
public import Mathlib.Data.EReal.Operations

@[expose] public section

noncomputable section

namespace Cert.Attn

open Idealize.ShloMosaic

/-- An extended real that is a number. -/
def Num (x : EReal) : Prop := ∃ r : ℝ, x = (r : EReal)

theorem Num.coe (r : ℝ) : Num (r : EReal) := ⟨r, rfl⟩

theorem Num.zero : Num 0 := ⟨0, rfl⟩

theorem Num.mul {x y : EReal} : Num x → Num y → Num (x * y) := by
  rintro ⟨a, rfl⟩ ⟨b, rfl⟩; exact ⟨a * b, (EReal.coe_mul a b).symm⟩

theorem Num.add {x y : EReal} : Num x → Num y → Num (x + y) := by
  rintro ⟨a, rfl⟩ ⟨b, rfl⟩; exact ⟨a + b, (EReal.coe_add a b).symm⟩

theorem Num.max {x y : EReal} (hx : Num x) (hy : Num y) : Num (max x y) := by
  rcases max_choice x y with h | h <;> rw [h] <;> assumption

theorem Num.div {x : EReal} {y : ℝ} (hy : y ≠ 0) (hx : Num x) : Num (Ideal.div x y) := by
  rw [Ideal.div_coe hy]; exact hx.mul (Num.coe _)

theorem Num.sum {ι : Type} (s : Finset ι) (f : ι → EReal) (h : ∀ i, Num (f i)) : Num (∑ i ∈ s, f i) := by
  classical
  induction s using Finset.induction_on with
  | empty => simpa using Num.zero
  | insert a s ha ih => rw [Finset.sum_insert ha]; exact (h a).add ih

/-- The greatest of finitely many numbers, at least one, is a number. -/
theorem Num.fold_max {ι : Type} (s : Finset ι) (hs : s.Nonempty) (f : ι → EReal) (h : ∀ i, Num (f i)) :
    Num (s.fold Max.max ⊥ f) := by
  classical
  induction s using Finset.induction_on with
  | empty => exact absurd hs (by simp)
  | insert a s ha ih =>
    rw [Finset.fold_insert ha]
    rcases s.eq_empty_or_nonempty with rfl | hne
    · rw [Finset.fold_empty, max_bot_right]; exact h a
    · exact (h a).max (ih hne)

/-- A number of less than infinite size. -/
theorem Num.of_abs_lt {x : EReal} (h1 : x ≠ ⊤) (h2 : x ≠ ⊥) : Num x := ⟨x.toReal, (EReal.coe_toReal h1 h2).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number at least zero multiplies into a sum of extended reals. -/
theorem mul_sum_of_nonneg {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A number multiplies into a sum of numbers. -/
theorem mul_sum_of_num {ι : Type} (s : Finset ι) (f : ι → EReal) (r : ℝ) (h : ∀ i, Num (f i)) :
    (r : EReal) * ∑ i ∈ s, f i = ∑ i ∈ s, (r : EReal) * f i := by
  choose g hg using h
  simp only [hg, ← EReal.coe_mul, ← coe_sum, Finset.mul_sum]

/-- A softmax row times the values: the weights with base two of the scores `s`, from any number `M`, summed against
    the values and divided once by their sum, are the softmax with base `e` of the scores `s · log 2`, from any number
    `M'`, each weight divided by the sum of all. -/
theorem softmax_row {N : ℕ} (hN : 0 < N) (s s' : Fin N → ℝ) (v : Fin N → EReal) (M M' : ℝ) (hs : ∀ n, s' n = s n * Real.log 2) :
    Ideal.div (∑ n, Ideal.exp2 ((s n : EReal) - M) * v n) (∑ n, Ideal.exp2 ((s n : EReal) - M) * 1)
      = ∑ n, v n * Ideal.div (Ideal.exp ((s' n : EReal) - M')) (∑ k, Ideal.exp ((s' k : EReal) - M')) := by
  haveI : Nonempty (Fin N) := ⟨⟨0, hN⟩⟩
  have e2 : ∀ n, Ideal.exp2 ((s n : EReal) - M) = ((Real.exp (s' n) * Real.exp (-(M * Real.log 2)) : ℝ) : EReal) := fun n => by
    rw [← EReal.coe_sub, Ideal.exp2_coe, ← Real.exp_add, hs]
    congr 1
    show (2 : ℝ) ^ (s n - M) = _
    rw [Real.rpow_def_of_pos (by norm_num)]; congr 1; ring
  have e1 : ∀ n, Ideal.exp ((s' n : EReal) - M') = ((Real.exp (s' n) * Real.exp (-M') : ℝ) : EReal) := fun n => by
    rw [← EReal.coe_sub, Ideal.exp_coe, ← Real.exp_add]; rfl
  simp only [e1, e2, mul_one, ← coe_sum, ← Finset.sum_mul]
  have hS : 0 < ∑ n, Real.exp (s' n) := Finset.sum_pos (fun n _ => Real.exp_pos _) Finset.univ_nonempty
  rw [Ideal.div_coe (mul_pos hS (Real.exp_pos _)).ne', mul_comm, mul_sum_of_nonneg _ _ _ (by positivity)]
  refine Finset.sum_congr rfl fun n _ => ?_
  rw [Ideal.div_coe (mul_pos hS (Real.exp_pos _)).ne', ← mul_assoc, ← EReal.coe_mul, mul_comm (v n), ← EReal.coe_mul]
  congr 2
  have := (Real.exp_pos (-(M * Real.log 2))).ne'
  have := (Real.exp_pos (-M')).ne'
  field_simp

end Cert.Attn

end
-- ==== Proof.Value.Row.lean ====
/- One row of the attention, from the queries, keys and values it reads. -/
module

public import proofs.«01_k».proof.Proof.Value.Math

@[expose] public section

noncomputable section

namespace Cert.Attn

open Idealize.ShloMosaic

/-- A sum over 256 lanes of which the last 64 contribute nothing is the sum over the first 192. -/
theorem sum_lanes (f : Fin 256 → EReal) (hf : ∀ d : Fin 256, 192 ≤ d.val → f d = 0) : ∑ d, f d = ∑ d : Fin 192, f ⟨d.val, by omega⟩ := by
  have h : ∑ d : Fin 256, f d = ∑ d : Fin 192, f (Fin.castAdd 64 d) + ∑ d : Fin 64, f (Fin.natAdd 192 d) := Fin.sum_univ_add (a := 192) (b := 64) f
  rw [h, Finset.sum_eq_zero (fun (d : Fin 64) _ => hf (Fin.natAdd 192 d) (Nat.le_add_right 192 d.val)), add_zero]
  rfl

/-- A row of the attention: queries and keys that are numbers, scaled queries `x` and padded keys `k` on one side, the scores
    divided by `√192` on the other. -/
theorem attn_row {Q : Fin 192 → EReal} {K : Fin 4352 → Fin 192 → EReal} (hQ : ∀ d, Num (Q d)) (hK : ∀ n d, Num (K n d))
    (x : Fin 256 → EReal) (k : Fin 4352 → Fin 256 → EReal)
    (hx : ∀ (d : Fin 256) (h : d.val < 192), x d = Q ⟨d.val, h⟩ * ((1 / (Real.sqrt 192 * Real.log 2) : ℝ) : EReal))
    (hk : ∀ n d, k n d = if h : d.val < 192 then K n ⟨d.val, h⟩ else 0)
    (v one : Fin 4352 → EReal) (hone : ∀ n, one n = 1) {M M' : EReal} (hM : Num M) (hM' : Num M') (s : Fin 4352 → EReal)
    (hs : ∀ n, s n = Ideal.div (∑ d, Q d * K n d) ((Real.sqrt 192 : ℝ) : EReal)) :
    Ideal.div (∑ n, Ideal.exp2 ((∑ d, x d * k n d) - M) * v n) (∑ n, Ideal.exp2 ((∑ d, x d * k n d) - M) * one n)
      = ∑ n, v n * Ideal.div (Ideal.exp (s n - M')) (∑ j, Ideal.exp (s j - M')) := by
  choose q hq using hQ
  choose kk hkk using hK
  obtain ⟨a, rfl⟩ := hM
  obtain ⟨a', rfl⟩ := hM'
  have h192 : Real.sqrt 192 ≠ 0 := by positivity
  have hlog : Real.log 2 ≠ 0 := (Real.log_pos (by norm_num)).ne'
  have e1 : ∀ n, ∑ d, x d * k n d = ((∑ d, q d * (1 / (Real.sqrt 192 * Real.log 2)) * kk n d : ℝ) : EReal) := fun n => by
    rw [sum_lanes _ fun d hd => by rw [hk n d, dif_neg (by omega), mul_zero], coe_sum]
    refine Finset.sum_congr rfl fun d _ => ?_
    rw [hx _ d.isLt, hk n, dif_pos d.isLt, EReal.coe_mul, EReal.coe_mul]
    exact congrArg₂ (· * ·) (congrArg (· * _) (hq d)) (hkk n d)
  have e2 : ∀ n, s n = (((∑ d, q d * kk n d) / Real.sqrt 192 : ℝ) : EReal) := fun n => by
    have e : ∑ d, Q d * K n d = ((∑ d, q d * kk n d : ℝ) : EReal) := by
      rw [coe_sum]
      exact Finset.sum_congr rfl fun d _ => by rw [hq, hkk, EReal.coe_mul]
    rw [hs n, e, Ideal.div_coe h192, ← EReal.coe_mul, mul_one_div]
  simp only [e1, e2, hone]
  refine softmax_row (by norm_num) _ _ v a a' fun n => ?_
  rw [Finset.sum_div, Finset.sum_mul]
  refine Finset.sum_congr rfl fun d _ => ?_
  field_simp

end Cert.Attn

end
-- ==== Proof.Value.Tile.lean ====
/- One query tile of the attention over the extended reals: its scores, their lane maxima and its output, read at
   an index. -/
module

public import proofs.«01_k».proof.Proof.Ideal.Run
public import proofs.«01_k».proof.Proof.Value.Math
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic

/-- Row `n` of a head's keys or values, context rows first. -/
def keyRow (c : Vec Ideal S256x256 .bf16) (l : Vec Ideal S4096x256 .bf16) (n : ℕ) (d : Fin 256) : EReal :=
  if h : n < 256 then c (ix2 ⟨n, h⟩ d) else if h' : n - 256 < 4096 then l (ix2 ⟨n - 256, h'⟩ d) else 0

/-- The score of row `i` of a query tile against key `n`. -/
def score (q : Vec Ideal S512x256 .bf16) (kc : Vec Ideal S256x256 .bf16) (kl : Vec Ideal S4096x256 .bf16) (i : Fin 512) (n : ℕ) : EReal :=
  ∑ d : Fin 256, q (ix2 i d) * keyRow kc kl n d

theorem keyRow_ctx (c : Vec Ideal S256x256 .bf16) (l : Vec Ideal S4096x256 .bf16) (n : Fin 256) (d : Fin 256) :
    keyRow c l n.val d = ctx c (ix2 n d) := by
  unfold keyRow ctx; rw [dif_pos n.isLt]
  exact (View.ld_unit_apply_of c _ _ _ _ _ (fun a => by match a with | ⟨0, _⟩ => simp | ⟨1, _⟩ => simp)).symm

theorem keyRow_latent (c : Vec Ideal S256x256 .bf16) (l : Vec Ideal S4096x256 .bf16) (o : ℕ) (h) (n : Fin 512) (d : Fin 256) :
    keyRow c l (o + 256 + n.val) d = rows l o h (ix2 n d) := by
  have h0 : o + 512 ≤ 4096 := h 0
  have := n.isLt
  unfold keyRow rows; rw [dif_neg (by omega), dif_pos (by omega)]
  refine (View.ld_unit_apply_of l _ _ _ _ _ (fun a => ?_)).symm
  match a with
  | ⟨0, _⟩ => show o + 256 + n.val - 256 = o + n.val; omega
  | ⟨1, _⟩ => show d.val = 0 + d.val; omega

theorem pay4_apply (q : Vec Ideal S512x256 .bf16) (x : Vec Ideal S256x256 .bf16) (i : Fin 512) (n : Fin 256) :
    k0_pay4 q x (ix2 i n) = ∑ d : Fin 256, q (ix2 i d) * x (ix2 n d) := by
  pointwise [k0_pay4, k0_pay3]

theorem pay6_apply (q : Vec Ideal S512x256 .bf16) (x : Vec Ideal S512x256 .bf16) (i : Fin 512) (n : Fin 512) :
    k0_pay6 q x (ix2 i n) = ∑ d : Fin 256, q (ix2 i d) * x (ix2 n d) := by
  pointwise [k0_pay6, k0_pay3]

theorem pay5_eq (q : Vec Ideal S512x256 .bf16) (x : Vec Ideal S256x256 .bf16) : k0_pay5 q x = k0_pay4 q x := by
  funext j; pointwise [k0_pay5]

theorem pay7_eq (q : Vec Ideal S512x256 .bf16) (x : Vec Ideal S512x256 .bf16) : k0_pay7 q x = k0_pay6 q x := by
  funext j; pointwise [k0_pay7]

theorem pay3_eq (q : Vec Ideal S512x256 .bf16) : k0_pay3 q = q := by
  funext j; pointwise [k0_pay3]

/-- The stored scores are the scores. -/
theorem scores_apply (q : Vec Ideal S512x256 .bf16) (kc : Vec Ideal S256x256 .bf16) (kl : Vec Ideal S4096x256 .bf16) (y : S512x4352.Idx) :
    scores q kc kl y = score q kc kl (y 0) (y 1).val := by
  have main : ∀ (o : ℕ) (h : ∀ a, (![o, 0] : Fin 2 → ℕ) a + S512x256.size a ≤ S4096x256.size a)
      (h' : ∀ a, (![0, o + 256] : Fin 2 → ℕ) a + S512x512.size a ≤ S512x4352.size a) (x : S512x512.Idx),
      k0_pay7 q (rows kl o h) x = score q kc kl ((Rect.unit (s := S512x4352) ![0, o + 256] S512x512.size h').emb x 0)
        ((Rect.unit (s := S512x4352) ![0, o + 256] S512x512.size h').emb x 1).val := by
    intro o h h' x
    obtain ⟨i, n, rfl⟩ : ∃ (a : Fin 512) (b : Fin 512), x = ix2 a b := ⟨x 0, x 1, eq_ix2 x⟩
    have e0 : (Rect.unit (s := S512x4352) ![0, o + 256] S512x512.size h').emb (ix2 i n) 0 = i :=
      Fin.ext ((Rect.idx_unit_val _ _ _ _ _).trans (by show 0 + i.val = i.val; omega))
    have e1 : ((Rect.unit (s := S512x4352) ![0, o + 256] S512x512.size h').emb (ix2 i n) 1).val = o + 256 + n.val :=
      (Rect.idx_unit_val _ _ _ _ _).trans rfl
    rw [e0, e1, pay7_eq, pay6_apply, score]
    exact Finset.sum_congr rfl fun d _ => by rw [keyRow_latent kc kl o h]
  refine View.canon_apply_of_pieces (fun y => score q kc kl (y 0) (y 1).val) _ ?_ y (scorePieces_cover q kc kl y)
  unfold scorePieces
  simp only [List.forall_mem_cons, List.not_mem_nil, false_imp_iff, implies_true, and_true]
  refine ⟨main 3584 _ _, main 3072 _ _, main 2560 _ _, main 2048 _ _, main 1536 _ _, main 1024 _ _, main 512 _ _, main 0 _ _, ?_⟩
  intro x
  obtain ⟨i, n, rfl⟩ : ∃ (a : Fin 512) (b : Fin 256), x = ix2 a b := ⟨x 0, x 1, eq_ix2 x⟩
  have e0 : (Rect.unit (s := S512x4352) ![0, 0] S512x256.size inb_S512x4352_S512x256_0_0).emb (ix2 i n) 0 = i :=
    Fin.ext ((Rect.idx_unit_val _ _ _ _ _).trans (by show 0 + i.val = i.val; omega))
  have e1 : ((Rect.unit (s := S512x4352) ![0, 0] S512x256.size inb_S512x4352_S512x256_0_0).emb (ix2 i n) 1).val = n.val :=
    (Rect.idx_unit_val _ _ _ _ _).trans (by show 0 + n.val = n.val; omega)
  show k0_pay5 q (ctx kc) (ix2 i n) = score q kc kl _ _
  rw [e0, e1, pay5_eq, pay4_apply, score]
  exact Finset.sum_congr rfl fun d _ => by rw [keyRow_ctx]

/-- Every element is a number. -/
def AllNum {s : Shape} (x : s.Idx → EReal) : Prop := ∀ j, Num (x j)

theorem AllNum.slice {s t : Shape} {x : s.Idx → EReal} (hx : AllNum x) (off : Fin s.rank → ℕ) (h : s.Slices off t) :
    AllNum (extractStridedSlice t off x h) := fun j => by
  unfold extractStridedSlice; exact hx _

theorem AllNum.max {s : Shape} {x y : FVec Ideal s .f32} (hx : AllNum x) (hy : AllNum y) : AllNum (maximumf x y) :=
  fun j => (hx j).max (hy j)

theorem AllNum.cast {s t : Shape} {x : s.Idx → EReal} (hx : AllNum x) (h : s.ShapeCasts t) : AllNum (shapeCast t x h) :=
  fun j => hx _

theorem allNum_pay4 {q : Vec Ideal S512x256 .bf16} {x : Vec Ideal S256x256 .bf16} (hq : AllNum q) (hx : AllNum x) : AllNum (k0_pay4 q x) := fun j => by
  rw [eq_ix2 j]; exact (pay4_apply q x _ _).symm ▸ Num.sum _ _ fun d => (hq _).mul (hx _)

theorem allNum_pay6 {q : Vec Ideal S512x256 .bf16} {x : Vec Ideal S512x256 .bf16} (hq : AllNum q) (hx : AllNum x) : AllNum (k0_pay6 q x) := fun j => by
  rw [eq_ix2 j]; exact (pay6_apply q x _ _).symm ▸ Num.sum _ _ fun d => (hq _).mul (hx _)

/-- A product of a tile with the rows of a block of keys is made of numbers. -/
theorem allNum_mm {q : Vec Ideal S512x256 .bf16} {x : Vec Ideal S512x256 .bf16} (hq : AllNum q) (hx : AllNum x) :
    AllNum (matmul (F := Ideal) (φ₁ := .bf16) (φ₂ := .bf16) dot_S512x256_S512x256_S512x512_1_1_0_0_n_n none (q : FVec Ideal S512x256 .bf16)
      (shapeCast S512x256 x shapeCasts_S512x256_S512x256 : FVec Ideal S512x256 .bf16) (constant (F := Ideal) S512x512 .f32 0x00000000#32)) := by
  have h := allNum_pay6 hq hx
  unfold k0_pay6 at h
  rw [pay3_eq] at h
  exact h

theorem allNum_rows {x : Vec Ideal S4096x256 .bf16} (hx : AllNum x) (o : ℕ) (h) : AllNum (rows x o h) := fun j => hx _

theorem allNum_ctx {x : Vec Ideal S256x256 .bf16} (hx : AllNum x) : AllNum (ctx x) := fun j => hx _

theorem allNum_pay28 {a c : FVec Ideal S512x128 .f32} {b : FVec Ideal S512x512 .f32} (ha : AllNum a) (hb : AllNum b) (hc : AllNum c) :
    AllNum (k0_pay28 a b c) := by
  dsimp only [k0_pay28]
  repeat' first | assumption | apply AllNum.cast | apply AllNum.max | apply AllNum.slice

theorem allNum_pay24 {q : FVec Ideal S512x256 .bf16} {a c : FVec Ideal S512x128 .f32} {b : FVec Ideal S512x512 .f32} {x y : Vec Ideal S512x256 .bf16}
    (hq : AllNum q) (ha : AllNum a) (hb : AllNum b) (hc : AllNum c) (hx : AllNum x) (hy : AllNum y) : AllNum (k0_pay24 q a b c x y) := by
  have h1 := allNum_mm hq hx
  have h2 := allNum_mm hq hy
  dsimp only [k0_pay24, k0_pay20, k0_pay22]
  repeat' first | assumption | apply AllNum.cast | apply AllNum.max | apply AllNum.slice

theorem allNum_pay16 {q : FVec Ideal S512x256 .bf16} {a c : FVec Ideal S512x128 .f32} {b : FVec Ideal S512x512 .f32} {x y : Vec Ideal S512x256 .bf16}
    (hq : AllNum q) (ha : AllNum a) (hb : AllNum b) (hc : AllNum c) (hx : AllNum x) (hy : AllNum y) : AllNum (k0_pay16 q a b c x y) := by
  have h1 := allNum_mm hq hx
  have h2 := allNum_mm hq hy
  dsimp only [k0_pay16, k0_pay12, k0_pay14]
  repeat' first | assumption | apply AllNum.cast | apply AllNum.max | apply AllNum.slice

theorem allNum_pay8 {q x : Vec Ideal S512x256 .bf16} {c : Vec Ideal S256x256 .bf16} (hq : AllNum q) (hc : AllNum c) (hx : AllNum x) :
    AllNum (k0_pay8 q c x) := by
  have h1 := allNum_pay4 hq hc
  have h2 := allNum_pay6 hq hx
  dsimp only [k0_pay8]
  repeat' first | assumption | apply AllNum.cast | apply AllNum.max | apply AllNum.slice

theorem allNum_pay9 {q x : Vec Ideal S512x256 .bf16} (hq : AllNum q) (hx : AllNum x) : AllNum (k0_pay9 q x) := allNum_pay6 hq hx

theorem allNum_pay11 {q x : Vec Ideal S512x256 .bf16} (hq : AllNum q) (hx : AllNum x) : AllNum (k0_pay11 q x) :=
  by dsimp only [k0_pay11]; exact AllNum.slice (allNum_pay9 hq hx) _ _

theorem allNum_pay17 {q x : Vec Ideal S512x256 .bf16} (hq : AllNum q) (hx : AllNum x) : AllNum (k0_pay17 q x) := allNum_mm hq hx

theorem allNum_pay19 {q x : Vec Ideal S512x256 .bf16} (hq : AllNum q) (hx : AllNum x) : AllNum (k0_pay19 q x) := by
  dsimp only [k0_pay19]; exact AllNum.slice (allNum_mm hq hx) _ _

/-- With numbers for queries and keys the lane maxima are numbers. -/
theorem allNum_laneMax {q : Vec Ideal S512x256 .bf16} {kc : Vec Ideal S256x256 .bf16} {kl : Vec Ideal S4096x256 .bf16}
    (hq : AllNum q) (hc : AllNum kc) (hl : AllNum kl) : AllNum (laneMax q kc kl) := by
  unfold laneMax
  rw [pay3_eq]
  have hr : ∀ o h, AllNum (rows kl o h) := fun o h => allNum_rows hl o h
  exact allNum_pay28 (allNum_pay24 hq (allNum_pay16 hq (allNum_pay8 hq (allNum_ctx hc) (hr _ _)) (allNum_pay9 hq (hr _ _)) (allNum_pay11 hq (hr _ _)) (hr _ _) (hr _ _))
    (allNum_mm hq (hr _ _)) (allNum_pay19 hq (hr _ _)) (hr _ _) (hr _ _)) (allNum_mm hq (hr _ _)) (by dsimp only [k0_pay27]; exact AllNum.slice (allNum_mm hq (hr _ _)) _ _)

/-- The pattern of minus infinity. -/
theorem ofBits_neg_inf : Ideal.ofBits .f32 0xFF800000#32 = ⊥ := by
  simp [Ideal.ofBits, Ideal.ieee]

/-- The maximum over the lanes of numbers is a number. -/
theorem num_pay29 {w : Vec Ideal S512x128 .f32} (hw : AllNum w) (i : Fin 512) : Num (k0_pay29 w (ix2 i 0)) := by
  pointwise [k0_pay29]
  rw [ofBits_neg_inf]
  exact Num.fold_max _ ⟨0, Finset.mem_univ _⟩ _ fun k => hw _

/-- The row maximum the kernel subtracts. -/
def rowMax (q : Vec Ideal S512x256 .bf16) (kc : Vec Ideal S256x256 .bf16) (kl : Vec Ideal S4096x256 .bf16) (i : Fin 512) : EReal :=
  k0_pay29 (View.ld (maxes q kc kl) (Rect.unit (s := S512x128) ![0, 0] S512x128.size inb_S512x128_S512x128_0_0)) (ix2 i 0)

theorem maxes_eq (q : Vec Ideal S512x256 .bf16) (kc : Vec Ideal S256x256 .bf16) (kl : Vec Ideal S4096x256 .bf16) : maxes q kc kl = laneMax q kc kl := by
  unfold maxes maxPieces
  exact View.canon_unit_zero (by funext a; match a with | ⟨0, _⟩ => rfl | ⟨1, _⟩ => rfl) _ _

theorem num_rowMax {q : Vec Ideal S512x256 .bf16} {kc : Vec Ideal S256x256 .bf16} {kl : Vec Ideal S4096x256 .bf16}
    (hq : AllNum q) (hc : AllNum kc) (hl : AllNum kl) (i : Fin 512) : Num (rowMax q kc kl i) :=
  num_pay29 (fun j => by rw [maxes_eq]; exact allNum_laneMax hq hc hl _) i

/-- A block's share at an index. -/
theorem part_apply (m : FVec Ideal S512x1 .f32) (s : Vec Ideal S512x512 .f32) (v : Vec Ideal S512x256 .bf16) (i : Fin 512) (l : Fin 256) :
    part m s v (ix2 i l) = ∑ k : Fin 512, Ideal.exp2 (s (ix2 i k) - m (ix2 i 0)) * v (ix2 k l) := by
  pointwise [part]
  rfl

theorem partCtx_apply (m : FVec Ideal S512x1 .f32) (s : Vec Ideal S512x256 .f32) (v : Vec Ideal S256x256 .bf16) (i : Fin 512) (l : Fin 256) :
    partCtx m s v (ix2 i l) = ∑ k : Fin 256, Ideal.exp2 (s (ix2 i k) - m (ix2 i 0)) * v (ix2 k l) := by
  pointwise [partCtx]
  rfl

theorem quot_apply (a : FVec Ideal S512x256 .f32) (i : Fin 512) (l : Fin 128) :
    quot a (ix2 i l) = Ideal.div (a (ix2 i ⟨l.val, by omega⟩)) (a (ix2 i ⟨128, by omega⟩)) := by
  pointwise [quot]

/-- A sum over the 4352 keys is the sum over the context block and the eight latent blocks. -/
theorem sum_keys (f : ℕ → EReal) : ∑ n : Fin 4352, f n.val
    = ((((((((∑ k : Fin 256, f k.val) + ∑ k : Fin 512, f (0 + 256 + k.val)) + ∑ k : Fin 512, f (512 + 256 + k.val))
      + ∑ k : Fin 512, f (1024 + 256 + k.val)) + ∑ k : Fin 512, f (1536 + 256 + k.val)) + ∑ k : Fin 512, f (2048 + 256 + k.val))
      + ∑ k : Fin 512, f (2560 + 256 + k.val)) + ∑ k : Fin 512, f (3072 + 256 + k.val)) + ∑ k : Fin 512, f (3584 + 256 + k.val) := by
  have e : ∀ o, ∑ k : Fin 512, f (o + k.val) = ∑ k ∈ Finset.range 512, f (o + k) := fun o => Fin.sum_univ_eq_sum_range (fun k => f (o + k)) 512
  simp only [e, Fin.sum_univ_eq_sum_range f]
  rw [show 4352 = 3840 + 512 from rfl, Finset.sum_range_add, show 3840 = 3328 + 512 from rfl, Finset.sum_range_add, show 3328 = 2816 + 512 from rfl, Finset.sum_range_add, show 2816 = 2304 + 512 from rfl, Finset.sum_range_add, show 2304 = 1792 + 512 from rfl, Finset.sum_range_add, show 1792 = 1280 + 512 from rfl, Finset.sum_range_add, show 1280 = 768 + 512 from rfl, Finset.sum_range_add, show 768 = 256 + 512 from rfl, Finset.sum_range_add]

/-- The weighted values of a tile at an index, before the division. -/
theorem total_apply (q : Vec Ideal S512x256 .bf16) (kc : Vec Ideal S256x256 .bf16) (kl : Vec Ideal S4096x256 .bf16)
    (vc : Vec Ideal S256x256 .bf16) (vl : Vec Ideal S4096x256 .bf16) (m : FVec Ideal S512x1 .f32) (i : Fin 512) (l : Fin 256) :
    total m (View.ld (scores q kc kl) (Rect.unit (s := S512x4352) ![0, 0] S512x256.size inb_S512x4352_S512x256_0_0))
      (cols (scores q kc kl) 256 inb_S512x4352_S512x512_0_256) (cols (scores q kc kl) 768 inb_S512x4352_S512x512_0_768) (cols (scores q kc kl) 1280 inb_S512x4352_S512x512_0_1280) (cols (scores q kc kl) 1792 inb_S512x4352_S512x512_0_1792) (cols (scores q kc kl) 2304 inb_S512x4352_S512x512_0_2304) (cols (scores q kc kl) 2816 inb_S512x4352_S512x512_0_2816) (cols (scores q kc kl) 3328 inb_S512x4352_S512x512_0_3328) (cols (scores q kc kl) 3840 inb_S512x4352_S512x512_0_3840)
      (ctx vc) (rows vl 0 inb_S4096x256_S512x256_0_0) (rows vl 512 inb_S4096x256_S512x256_512_0) (rows vl 1024 inb_S4096x256_S512x256_1024_0) (rows vl 1536 inb_S4096x256_S512x256_1536_0) (rows vl 2048 inb_S4096x256_S512x256_2048_0) (rows vl 2560 inb_S4096x256_S512x256_2560_0) (rows vl 3072 inb_S4096x256_S512x256_3072_0) (rows vl 3584 inb_S4096x256_S512x256_3584_0) (ix2 i l)
    = ∑ n : Fin 4352, Ideal.exp2 (score q kc kl i n.val - m (ix2 i 0)) * keyRow vc vl n.val l := by
  have hp : ∀ (o : ℕ) h h', part m (cols (scores q kc kl) (o + 256) h) (rows vl o h') (ix2 i l)
      = ∑ k : Fin 512, Ideal.exp2 (score q kc kl i (o + 256 + k.val) - m (ix2 i 0)) * keyRow vc vl (o + 256 + k.val) l := by
    intro o h h'
    rw [part_apply]
    refine Finset.sum_congr rfl fun k _ => ?_
    rw [keyRow_latent vc vl o h' k l]
    have hs : cols (scores q kc kl) (o + 256) h (ix2 i k) = score q kc kl i (o + 256 + k.val) := by
      refine (scores_apply q kc kl _).trans ?_
      have e0 : (Rect.unit (s := S512x4352) ![0, o + 256] S512x512.size h).emb (ix2 i k) 0 = i :=
        Fin.ext ((Rect.idx_unit_val _ _ _ _ _).trans (by show 0 + i.val = i.val; omega))
      have e1 : ((Rect.unit (s := S512x4352) ![0, o + 256] S512x512.size h).emb (ix2 i k) 1).val = o + 256 + k.val :=
        (Rect.idx_unit_val _ _ _ _ _).trans rfl
      rw [← e1]
      exact congrArg (fun z => score q kc kl z _) e0
    rw [hs]
  have hc : partCtx m (View.ld (scores q kc kl) (Rect.unit (s := S512x4352) ![0, 0] S512x256.size inb_S512x4352_S512x256_0_0)) (ctx vc) (ix2 i l)
      = ∑ k : Fin 256, Ideal.exp2 (score q kc kl i k.val - m (ix2 i 0)) * keyRow vc vl k.val l := by
    rw [partCtx_apply]
    refine Finset.sum_congr rfl fun k _ => ?_
    rw [keyRow_ctx vc vl k l]
    have hs : View.ld (scores q kc kl) (Rect.unit (s := S512x4352) ![0, 0] S512x256.size inb_S512x4352_S512x256_0_0) (ix2 i k) = score q kc kl i k.val := by
      refine (scores_apply q kc kl _).trans ?_
      have e0 : (Rect.unit (s := S512x4352) ![0, 0] S512x256.size inb_S512x4352_S512x256_0_0).emb (ix2 i k) 0 = i :=
        Fin.ext ((Rect.idx_unit_val _ _ _ _ _).trans (by show 0 + i.val = i.val; omega))
      have e1 : ((Rect.unit (s := S512x4352) ![0, 0] S512x256.size inb_S512x4352_S512x256_0_0).emb (ix2 i k) 1).val = k.val :=
        (Rect.idx_unit_val _ _ _ _ _).trans (by show 0 + k.val = k.val; omega)
      rw [← e1]
      exact congrArg (fun z => score q kc kl z _) e0
    rw [hs]
  rw [sum_keys fun n => Ideal.exp2 (score q kc kl i n - m (ix2 i 0)) * keyRow vc vl n l, ← hc, ← hp 0 inb_S512x4352_S512x512_0_256, ← hp 512 inb_S512x4352_S512x512_0_768,
    ← hp 1024 inb_S512x4352_S512x512_0_1280, ← hp 1536 inb_S512x4352_S512x512_0_1792, ← hp 2048 inb_S512x4352_S512x512_0_2304, ← hp 2560 inb_S512x4352_S512x512_0_2816, ← hp 3072 inb_S512x4352_S512x512_0_3328, ← hp 3584 inb_S512x4352_S512x512_0_3840]
  rfl

/-- A tile's output at an index. -/
theorem finish_apply (q : Vec Ideal S512x256 .bf16) (kc : Vec Ideal S256x256 .bf16) (kl : Vec Ideal S4096x256 .bf16)
    (vc : Vec Ideal S256x256 .bf16) (vl : Vec Ideal S4096x256 .bf16) (i : Fin 512) (l : Fin 128) :
    finish (scores q kc kl) (maxes q kc kl) vc vl (ix2 i l)
      = Ideal.div (∑ n : Fin 4352, Ideal.exp2 (score q kc kl i n.val - rowMax q kc kl i) * keyRow vc vl n.val ⟨l.val, by omega⟩)
          (∑ n : Fin 4352, Ideal.exp2 (score q kc kl i n.val - rowMax q kc kl i) * keyRow vc vl n.val ⟨128, by omega⟩) := by
  unfold finish fin
  rw [quot_apply, total_apply, total_apply]
  rfl

end Cert.KernelIdeal.Attn

end
-- ==== Proof.Value.Block.lean ====
/- A grid point's output block over the extended reals, read at an index: eight query tiles, each as in `Tile`. -/
module

public import proofs.«01_k».proof.Proof.Value.Tile
public import proofs.«01_k».proof.Proof.Ideal.Frame

@[expose] public section

set_option maxRecDepth 16384

noncomputable section

namespace Cert.KernelIdeal.Attn

open Cert.KernelIdeal Cert.KernelIdeal.Gen Cert.Attn
open Idealize.ShloMosaic

/-- Query tile `t` of a block of 4096 rows. -/
def tileQ (x : Vec Ideal S4096x256 .bf16) (t : ℕ) : Vec Ideal S512x256 .bf16 :=
  fun j => x (ix2 ⟨(512 * t + (j 0).val) % 4096, Nat.mod_lt _ (by decide)⟩ (j 1))

theorem tile_eq (x : Vec Ideal S4096x256 .bf16) (t : ℕ) (off : Fin 2 → ℕ) (h : ∀ a, off a + S512x256.size a ≤ S4096x256.size a)
    (ho : off = ![512 * t, 0]) : View.ld x (Rect.unit (s := S4096x256) off S512x256.size h) = tileQ x t := by
  subst ho
  funext j
  have h0 : 512 * t + 512 ≤ 4096 := h 0
  have hj : (j 0).val < 512 := (j 0).isLt
  refine (View.ld_unit_apply_of x _ _ _ _ (ix2 ⟨(512 * t + (j 0).val) % 4096, Nat.mod_lt _ (by decide)⟩ (j 1)) (fun a => ?_))
  match a with
  | ⟨0, _⟩ => exact Nat.mod_eq_of_lt (by omega)
  | ⟨1, _⟩ => show (j 1).val = 0 + (j 1).val; omega

theorem off1_eq : ∀ k : Fin k0_t1_loop.trips, k0_off1 k = ![512 * (2 * k.val + 1), 0] := by decide +kernel
theorem off2_eq : ∀ k : Fin k0_t1_loop.trips, k0_off2 k = ![512 * (2 * k.val), 0] := by decide +kernel
theorem off3_eq : ∀ k : Fin k0_t1_loop.trips, k.val + 1 < k0_t1_loop.trips → k0_off3 k = ![512 * (2 * (k.val + 1)), 0] := by decide +kernel
theorem off4_eq : ∀ k : Fin k0_t1_loop.trips, k0_off4 k = ![512 * (2 * k.val + 1), 0] := by decide +kernel

theorem tileAt_eq (x : Vec Ideal S4096x256 .bf16) (k : ℕ) (h : k < k0_t1_loop.trips) : tileAt x k = tileQ x (2 * k) := by
  cases k with
  | zero => exact tile_eq x 0 _ _ rfl
  | succ k =>
    rw [tileAt, dif_pos (by omega)]
    exact tile_eq x _ _ _ (off3_eq ⟨k, by omega⟩ h)

theorem qOdd_eq (x : Vec Ideal S4096x256 .bf16) (k : Fin k0_t1_loop.trips) : qOdd x k = tileQ x (2 * k.val + 1) :=
  tile_eq x _ _ _ (off1_eq k)

/-- The attention of one block, read at an index: a quotient of two sums over the keys. -/
def attn (x : Vec Ideal S4096x256 .bf16) (kc : Vec Ideal S256x256 .bf16) (kl : Vec Ideal S4096x256 .bf16)
    (vc : Vec Ideal S256x256 .bf16) (vl : Vec Ideal S4096x256 .bf16) (y : S4096x128.Idx) : EReal :=
  finish (scores (tileQ x ((y 0).val / 512)) kc kl) (maxes (tileQ x ((y 0).val / 512)) kc kl) vc vl
    (ix2 ⟨(y 0).val % 512, Nat.mod_lt _ (by decide)⟩ (y 1))

theorem piece_eq (x : Vec Ideal S4096x256 .bf16) (kc : Vec Ideal S256x256 .bf16) (kl : Vec Ideal S4096x256 .bf16)
    (vc : Vec Ideal S256x256 .bf16) (vl : Vec Ideal S4096x256 .bf16) (t : ℕ) (off : Fin 2 → ℕ) (h : ∀ a, off a + S512x128.size a ≤ S4096x128.size a)
    (ho : off = ![512 * t, 0]) (q : Vec Ideal S512x256 .bf16) (hq : q = tileQ x t) (j : S512x128.Idx) :
    finish (scores q kc kl) (maxes q kc kl) vc vl j = attn x kc kl vc vl ((Rect.unit (s := S4096x128) off S512x128.size h).emb j) := by
  subst ho hq
  have hj : (j 0).val < 512 := (j 0).isLt
  have e0 : ((Rect.unit (s := S4096x128) ![512 * t, 0] S512x128.size h).emb j 0).val = 512 * t + (j 0).val :=
    (Rect.idx_unit_val _ _ _ _ _).trans rfl
  have e1 : (Rect.unit (s := S4096x128) ![512 * t, 0] S512x128.size h).emb j 1 = j 1 :=
    Fin.ext ((Rect.idx_unit_val _ _ _ _ _).trans (by show 0 + (j 1).val = _; omega))
  have d0 : (512 * t + (j 0).val) / 512 = t := by omega
  have d1 : (512 * t + (j 0).val) % 512 = (j 0).val := by omega
  unfold attn
  rw [e1]
  simp only [e0, d0, d1]
  exact congrArg _ (eq_ix2 j)

theorem tile_pieces (x : Vec Ideal S4096x256 .bf16) (kc : Vec Ideal S256x256 .bf16) (kl : Vec Ideal S4096x256 .bf16)
    (vc : Vec Ideal S256x256 .bf16) (vl : Vec Ideal S4096x256 .bf16) (n : ℕ) (hn : n ≤ k0_t1_loop.trips) :
    ∀ p ∈ outPieces x kc kl vc vl n, ∀ j, p.2 j = attn x kc kl vc vl (p.1.emb j) := by
  induction n with
  | zero => intro p hp; exact absurd hp (by simp [outPieces])
  | succ n ih =>
    intro p hp
    rw [outPieces, dif_pos (by omega)] at hp
    simp only [List.cons_append, List.nil_append, List.mem_cons] at hp
    rcases hp with rfl | rfl | hp
    · exact piece_eq x kc kl vc vl _ _ (k0_off4_inb ⟨n, by omega⟩) (off4_eq _) _ (qOdd_eq x _)
    · exact piece_eq x kc kl vc vl _ _ (k0_off2_inb ⟨n, by omega⟩) (off2_eq _) _ (tileAt_eq x n (by omega))
    · exact ih (by omega) p hp

/-- What a grid point leaves in the output's buffer. -/
theorem canon_out (x : Vec Ideal S4096x256 .bf16) (kc : Vec Ideal S256x256 .bf16) (kl : Vec Ideal S4096x256 .bf16)
    (vc : Vec Ideal S256x256 .bf16) (vl : Vec Ideal S4096x256 .bf16) (y : S4096x128.Idx) :
    View.canon (outPieces x kc kl vc vl k0_t1_loop.trips) y = attn x kc kl vc vl y :=
  View.canon_apply_of_pieces (attn x kc kl vc vl) _ (tile_pieces x kc kl vc vl _ le_rfl) y (out_cover x kc kl vc vl y)

theorem allNum_tileQ {x : Vec Ideal S4096x256 .bf16} (hx : AllNum x) (t : ℕ) : AllNum (tileQ x t) := fun j => hx _

/-- A block's attention at row `r` and lane `l`: for some number `M`, the weights `exp2 (score − M)` applied to the values, over
    the weights applied to lane 128 of the values. -/
theorem attn_apply {x : Vec Ideal S4096x256 .bf16} {kc : Vec Ideal S256x256 .bf16} {kl : Vec Ideal S4096x256 .bf16}
    (hx : AllNum x) (hc : AllNum kc) (hl : AllNum kl) (vc : Vec Ideal S256x256 .bf16) (vl : Vec Ideal S4096x256 .bf16) (r : Fin 4096) (l : Fin 128) :
    ∃ M, Num M ∧ attn x kc kl vc vl (ix2 r l)
      = Ideal.div (∑ n : Fin 4352, Ideal.exp2 ((∑ d : Fin 256, x (ix2 r d) * keyRow kc kl n.val d) - M) * keyRow vc vl n.val ⟨l.val, by omega⟩)
          (∑ n : Fin 4352, Ideal.exp2 ((∑ d : Fin 256, x (ix2 r d) * keyRow kc kl n.val d) - M) * keyRow vc vl n.val ⟨128, by omega⟩) := by
  refine ⟨rowMax (tileQ x (r.val / 512)) kc kl ⟨r.val % 512, Nat.mod_lt _ (by decide)⟩, num_rowMax (allNum_tileQ hx _) hc hl _, ?_⟩
  have hs : ∀ n, score (tileQ x (r.val / 512)) kc kl ⟨r.val % 512, Nat.mod_lt _ (by decide)⟩ n = ∑ d : Fin 256, x (ix2 r d) * keyRow kc kl n d := by
    intro n
    refine Finset.sum_congr rfl fun d _ => ?_
    congr 1
    show x (ix2 _ _) = x (ix2 _ _)
    congr 2
    exact Fin.ext (by show (512 * (r.val / 512) + r.val % 512) % 4096 = r.val; omega)
  unfold attn
  refine (finish_apply _ kc kl vc vl _ _).trans ?_
  simp only [ix2] at hs ⊢
  simp only [hs]

end Cert.KernelIdeal.Attn

end
-- ==== Proof.Value.Blocks.lean ====
/- The input blocks of a grid point as parts of the slabs that the host prepares. -/
module

public import proofs.«01_k».proof.Proof.Value.Tile
public import proofs.«01_k».proof.Proof.Gen.KernelIdeal.Frame.Runs
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe

variable (m : (ℓ : Loc nD τ sig) → Buf (Elt Ideal) ℓ)

/-- A grid point's batch and head. -/
def bat (t : Fin cfg0.N) : Fin 4 := grid0.coords t 0
def head8 (t : Fin cfg0.N) : Fin 8 := grid0.coords t 1

theorem index_eq : ∀ t : Fin cfg0.N, win0_0.index t = ![(grid0.coords t 0).val, (grid0.coords t 1).val] ∧ win0_1.index t = ![64 + (grid0.coords t 0).val, (grid0.coords t 1).val]
    ∧ win0_2.index t = ![(grid0.coords t 0).val, (grid0.coords t 1).val] ∧ win0_3.index t = ![64 + (grid0.coords t 0).val, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

/-- The row of a slab that holds latent row `r` of the point's batch, the row that holds its context row, the column of its head. -/
def latRow (t : Fin cfg0.N) (r : Fin 4096) : Fin 17408 := ⟨4096 * (bat t).val + r.val, by have := (bat t).isLt; omega⟩
def ctxRow (t : Fin cfg0.N) (r : Fin 256) : Fin 17408 := ⟨16384 + 256 * (bat t).val + r.val, by have := (bat t).isLt; omega⟩
def col (t : Fin cfg0.N) (d : Fin 256) : Fin 2048 := ⟨256 * (head8 t).val + d.val, by have := (head8 t).isLt; omega⟩

theorem X0_0_apply (c : Dev nD) (t : Fin cfg0.N) (r : Fin 4096) (d : Fin 256) :
    X0_0 m c t (ix2 r d) = V m c main_v15 (ix2 (latRow t r) (col t d)) := by
  obtain ⟨h0, h1, h2, h3, h4, h5⟩ := index_eq t
  unfold X0_0 Pipeline.Window.fill
  rw [dif_pos (moved0_0 t _)]
  unfold iblk
  blk_simp [h0]
  refine congrArg (V m c main_v15) (funext fun a => Fin.ext ?_)
  match a with
  | ⟨0, _⟩ => blk_simp [h0]; show (grid0.coords t 0).val * 4096 + r.val = 4096 * (grid0.coords t 0).val + r.val; omega
  | ⟨1, _⟩ => blk_simp [h0]; show (grid0.coords t 1).val * 256 + d.val = 256 * (grid0.coords t 1).val + d.val; omega

theorem iblk1_apply (c : Dev nD) (t : Fin cfg0.N) (r d : Fin 256) :
    iblk m c 1 t (ix2 r d) = V m c main_v23 (ix2 (ctxRow t r) (col t d)) := by
  obtain ⟨h0, h1, h2, h3, h4, h5⟩ := index_eq t
  unfold iblk
  blk_simp [h1]
  refine congrArg (V m c main_v23) (funext fun a => Fin.ext ?_)
  match a with
  | ⟨0, _⟩ => blk_simp [h1]; show (64 + (grid0.coords t 0).val) * 256 + r.val = 16384 + 256 * (grid0.coords t 0).val + r.val; omega
  | ⟨1, _⟩ => blk_simp [h1]; show (grid0.coords t 1).val * 256 + d.val = 256 * (grid0.coords t 1).val + d.val; omega

theorem X0_2_apply (c : Dev nD) (t : Fin cfg0.N) (r : Fin 4096) (d : Fin 256) :
    X0_2 m c t (ix2 r d) = V m c main_v23 (ix2 (latRow t r) (col t d)) := by
  obtain ⟨h0, h1, h2, h3, h4, h5⟩ := index_eq t
  unfold X0_2 Pipeline.Window.fill
  rw [dif_pos (moved0_2 t _)]
  unfold iblk
  blk_simp [h2]
  refine congrArg (V m c main_v23) (funext fun a => Fin.ext ?_)
  match a with
  | ⟨0, _⟩ => blk_simp [h2]; show (grid0.coords t 0).val * 4096 + r.val = 4096 * (grid0.coords t 0).val + r.val; omega
  | ⟨1, _⟩ => blk_simp [h2]; show (grid0.coords t 1).val * 256 + d.val = 256 * (grid0.coords t 1).val + d.val; omega

theorem iblk3_apply (c : Dev nD) (t : Fin cfg0.N) (r d : Fin 256) :
    iblk m c 3 t (ix2 r d) = V m c main_v35 (ix2 (ctxRow t r) (col t d)) := by
  obtain ⟨h0, h1, h2, h3, h4, h5⟩ := index_eq t
  unfold iblk
  blk_simp [h3]
  refine congrArg (V m c main_v35) (funext fun a => Fin.ext ?_)
  match a with
  | ⟨0, _⟩ => blk_simp [h3]; show (64 + (grid0.coords t 0).val) * 256 + r.val = 16384 + 256 * (grid0.coords t 0).val + r.val; omega
  | ⟨1, _⟩ => blk_simp [h3]; show (grid0.coords t 1).val * 256 + d.val = 256 * (grid0.coords t 1).val + d.val; omega

theorem X0_4_apply (c : Dev nD) (t : Fin cfg0.N) (r : Fin 4096) (d : Fin 256) :
    X0_4 m c t (ix2 r d) = V m c main_v35 (ix2 (latRow t r) (col t d)) := by
  obtain ⟨h0, h1, h2, h3, h4, h5⟩ := index_eq t
  unfold X0_4 Pipeline.Window.fill
  rw [dif_pos (moved0_4 t _)]
  unfold iblk
  blk_simp [h4]
  refine congrArg (V m c main_v35) (funext fun a => Fin.ext ?_)
  match a with
  | ⟨0, _⟩ => blk_simp [h4]; show (grid0.coords t 0).val * 4096 + r.val = 4096 * (grid0.coords t 0).val + r.val; omega
  | ⟨1, _⟩ => blk_simp [h4]; show (grid0.coords t 1).val * 256 + d.val = 256 * (grid0.coords t 1).val + d.val; omega

end Cert.KernelIdeal.Attn

end
-- ==== Proof.Value.Slab.lean ====
/- The slabs that the host prepares for the kernel, read at an index. -/
module

public import proofs.«01_k».proof.Proof.Value.Blocks
public import Idealize.ShloMosaic.Lib.Claim

@[expose] public section

set_option maxRecDepth 16384

noncomputable section

namespace Cert.KernelIdeal.Attn

open Cert.KernelIdeal Cert.KernelIdeal.Gen Cert.Attn
open Idealize.ShloMosaic Idealize.ShloMosaic.TcCoe

variable (m : (ℓ : Loc nD τ sig) → Buf (Elt Ideal) ℓ)

/-- The latent rows of every batch over the context rows of every batch, a head's 256 lanes beside the next head's. -/
def slabOf (A : FVec Ideal S4x4096x8x256 .f32) (B : FVec Ideal S4x256x8x256 .f32) : FVec Ideal S17408x2048 .bf16 :=
  truncf .bf16 (concatenate S17408x2048 0
    [⟨S16384x2048, shapeCast S16384x2048 A shapeCasts_S4x4096x8x256_S16384x2048⟩, ⟨S1024x2048, shapeCast S1024x2048 B shapeCasts_S4x256x8x256_S1024x2048⟩]
    concatenates_S16384x2048_S1024x2048_S17408x2048_d0) bitsLt_bf16_f32

theorem ix4_ext {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl

theorem slabOf_lat (A : FVec Ideal S4x4096x8x256 .f32) (B : FVec Ideal S4x256x8x256 .f32) (t : Fin cfg0.N) (r : Fin 4096) (d : Fin 256) :
    slabOf A B (ix2 (latRow t r) (col t d)) = A (ix4 (bat t) r (head8 t) d) := by
  have h0 : (latRow t r).val = 4096 * (bat t).val + r.val := rfl
  have h1 : (col t d).val = 256 * (head8 t).val + d.val := rfl
  have hb := (bat t).isLt
  generalize latRow t r = R at *
  generalize col t d = C at *
  pointwise [slabOf]
  have hR : R.val < 16384 := by omega
  rw [dif_pos hR]
  exact congrArg A (ix4_ext (by show R.val / 4096 = _; omega) (by show R.val % 4096 = _; omega) (by show C.val / 256 = _; omega) (by show C.val % 256 = _; omega))

theorem slabOf_ctx (A : FVec Ideal S4x4096x8x256 .f32) (B : FVec Ideal S4x256x8x256 .f32) (t : Fin cfg0.N) (r : Fin 256) (d : Fin 256) :
    slabOf A B (ix2 (ctxRow t r) (col t d)) = B (ix4 (bat t) r (head8 t) d) := by
  have h0 : (ctxRow t r).val = 16384 + 256 * (bat t).val + r.val := rfl
  have h1 : (col t d).val = 256 * (head8 t).val + d.val := rfl
  have hb := (bat t).isLt
  generalize ctxRow t r = R at *
  generalize col t d = C at *
  pointwise [slabOf]
  have hR : ¬ R.val < 16384 := by omega
  rw [dif_neg hR]
  exact congrArg B (ix4_ext (by show (R.val - 16384) / 256 = _; omega) (by show (R.val - 16384) % 256 = _; omega) (by show C.val / 256 = _; omega) (by show C.val % 256 = _; omega))

/-- The scale of the queries, by its definition on the host. -/
def kap : FVec Ideal S_ .f32 := Host.divf (constant S_ FTy.f32 0x3F800000#32) (mulf (Host.sqrt (constant S_ FTy.f32 0x43400000#32)) (Host.log (constant S_ FTy.f32 0x40000000#32)))

theorem kap_eq : kap ix0 = ((1 / (Real.sqrt 192 * Real.log 2) : ℝ) : EReal) := by
  have h192 : Ideal.ofBits FTy.f32 0x43400000#32 = ((192 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have hl : 0 < Real.log 2 := Real.log_pos (by norm_num)
  have hs : 0 < Real.sqrt 192 := Real.sqrt_pos.mpr (by norm_num)
  pointwise [kap]
  rw [h192, h2, Ideal.sqrt_coe, Ideal.log_coe, if_neg (by norm_num), if_neg (by norm_num), ← EReal.coe_mul,
    Ideal.div_coe (by positivity), one_mul]

/-- The queries' lanes: scaled, the last 64 again behind. -/
def qCat (x : FVec Ideal S4x4096x8x192 .f32) : FVec Ideal S4x4096x8x256 .f32 :=
  concatenate S4x4096x8x256 3
    [⟨S4x4096x8x192, mulf x (broadcastInDim S4x4096x8x192 ![] bcast_S_S4x4096x8x192 kap)⟩,
     ⟨S4x4096x8x64, extractStridedSlice S4x4096x8x64 ![0, 0, 0, 128] (mulf x (broadcastInDim S4x4096x8x192 ![] bcast_S_S4x4096x8x192 kap)) slices_S4x4096x8x192_S4x4096x8x64_0_0_0_128⟩]
    concatenates_S4x4096x8x192_S4x4096x8x64_S4x4096x8x256_d3
def qCatCtx (x : FVec Ideal S4x256x8x192 .f32) : FVec Ideal S4x256x8x256 .f32 :=
  concatenate S4x256x8x256 3
    [⟨S4x256x8x192, mulf x (broadcastInDim S4x256x8x192 ![] bcast_S_S4x256x8x192 kap)⟩,
     ⟨S4x256x8x64, extractStridedSlice S4x256x8x64 ![0, 0, 0, 128] (mulf x (broadcastInDim S4x256x8x192 ![] bcast_S_S4x256x8x192 kap)) slices_S4x256x8x192_S4x256x8x64_0_0_0_128⟩]
    concatenates_S4x256x8x192_S4x256x8x64_S4x256x8x256_d3

/-- The keys' lanes: zeros behind. -/
def kCat (x : FVec Ideal S4x4096x8x192 .f32) : FVec Ideal S4x4096x8x256 .f32 :=
  concatenate S4x4096x8x256 3
    [⟨S4x4096x8x192, x⟩, ⟨S4x4096x8x64, broadcastInDim S4x4096x8x64 ![] bcast_S_S4x4096x8x64 (constant S_ FTy.f32 0#32)⟩]
    concatenates_S4x4096x8x192_S4x4096x8x64_S4x4096x8x256_d3
def kCatCtx (x : FVec Ideal S4x256x8x192 .f32) : FVec Ideal S4x256x8x256 .f32 :=
  concatenate S4x256x8x256 3
    [⟨S4x256x8x192, x⟩, ⟨S4x256x8x64, broadcastInDim S4x256x8x64 ![] bcast_S_S4x256x8x64 (constant S_ FTy.f32 0#32)⟩]
    concatenates_S4x256x8x192_S4x256x8x64_S4x256x8x256_d3

theorem V15 (c : Dev nD) : V m c main_v15 = slabOf (qCat (m (c, Proc.tc.devRef main_arg0))) (qCatCtx (m (c, Proc.tc.devRef main_arg3))) := by
  entry_read
  rfl

theorem V23 (c : Dev nD) : V m c main_v23 = slabOf (kCat (m (c, Proc.tc.devRef main_arg1))) (kCatCtx (m (c, Proc.tc.devRef main_arg4))) := by
  entry_read
  rfl

/-- The values' lanes: a one behind, then zeros. -/
def vCat (x : FVec Ideal S4x4096x8x128 .f32) : FVec Ideal S4x4096x8x256 .f32 :=
  concatenate S4x4096x8x256 3
    [⟨S4x4096x8x128, x⟩,
     ⟨S4x4096x8x128, concatenate S4x4096x8x128 3
        [⟨S4x4096x8x1, broadcastInDim S4x4096x8x1 ![] bcast_S_S4x4096x8x1 (constant (F := Ideal) S_ FTy.f32 0x3F800000#32)⟩,
         ⟨S4x4096x8x127, broadcastInDim S4x4096x8x127 ![] bcast_S_S4x4096x8x127 (constant S_ FTy.f32 0#32)⟩]
        concatenates_S4x4096x8x1_S4x4096x8x127_S4x4096x8x128_d3⟩]
    concatenates_S4x4096x8x128_S4x4096x8x128_S4x4096x8x256_d3
def vCatCtx (x : FVec Ideal S4x256x8x128 .f32) : FVec Ideal S4x256x8x256 .f32 :=
  concatenate S4x256x8x256 3
    [⟨S4x256x8x128, x⟩,
     ⟨S4x256x8x128, concatenate S4x256x8x128 3
        [⟨S4x256x8x1, broadcastInDim S4x256x8x1 ![] bcast_S_S4x256x8x1 (constant (F := Ideal) S_ FTy.f32 0x3F800000#32)⟩,
         ⟨S4x256x8x127, broadcastInDim S4x256x8x127 ![] bcast_S_S4x256x8x127 (constant S_ FTy.f32 0#32)⟩]
        concatenates_S4x256x8x1_S4x256x8x127_S4x256x8x128_d3⟩]
    concatenates_S4x256x8x128_S4x256x8x128_S4x256x8x256_d3

theorem V35 (c : Dev nD) : V m c main_v35 = slabOf (vCat (m (c, Proc.tc.devRef main_arg2))) (vCatCtx (m (c, Proc.tc.devRef main_arg5))) := by
  entry_read
  rfl

theorem vCat_apply (x : FVec Ideal S4x4096x8x128 .f32) (b : Fin 4) (r : Fin 4096) (h : Fin 8) (l : Fin 128) :
    vCat x (ix4 b r h ⟨l.val, by omega⟩) = x (ix4 b r h l) := by
  pointwise [vCat]

theorem vCat_one (x : FVec Ideal S4x4096x8x128 .f32) (b : Fin 4) (r : Fin 4096) (h : Fin 8) :
    vCat x (ix4 b r h ⟨128, by omega⟩) = 1 := by
  pointwise [vCat]

theorem vCatCtx_apply (x : FVec Ideal S4x256x8x128 .f32) (b : Fin 4) (r : Fin 256) (h : Fin 8) (l : Fin 128) :
    vCatCtx x (ix4 b r h ⟨l.val, by omega⟩) = x (ix4 b r h l) := by
  pointwise [vCatCtx]

theorem vCatCtx_one (x : FVec Ideal S4x256x8x128 .f32) (b : Fin 4) (r : Fin 256) (h : Fin 8) :
    vCatCtx x (ix4 b r h ⟨128, by omega⟩) = 1 := by
  pointwise [vCatCtx]

theorem qCat_apply (x : FVec Ideal S4x4096x8x192 .f32) (b : Fin 4) (r : Fin 4096) (h : Fin 8) (d : Fin 256) :
    qCat x (ix4 b r h d) = (if hd : d.val < 192 then x (ix4 b r h ⟨d.val, hd⟩) else x (ix4 b r h ⟨d.val - 64, by omega⟩)) * kap ix0 := by
  pointwise [qCat]
  by_cases hd : d.val < 192
  · rw [dif_pos hd, dif_pos hd]
  · rw [dif_neg hd, dif_neg hd]
    congr 3
    exact Fin.ext (by show 128 + (d.val - 192) = d.val - 64; omega)

theorem kCat_apply (x : FVec Ideal S4x4096x8x192 .f32) (b : Fin 4) (r : Fin 4096) (h : Fin 8) (d : Fin 256) :
    kCat x (ix4 b r h d) = if hd : d.val < 192 then x (ix4 b r h ⟨d.val, hd⟩) else 0 := by
  pointwise [kCat]

theorem kCatCtx_apply (x : FVec Ideal S4x256x8x192 .f32) (b : Fin 4) (r : Fin 256) (h : Fin 8) (d : Fin 256) :
    kCatCtx x (ix4 b r h d) = if hd : d.val < 192 then x (ix4 b r h ⟨d.val, hd⟩) else 0 := by
  pointwise [kCatCtx]

end Cert.KernelIdeal.Attn

end
-- ==== Proof.Value.Reference.lean ====
/- The reference's result over the extended reals, read at an index. -/
module

public import proofs.«01_k».proof.Proof.Gen.ReferenceIdeal.Run
public import proofs.«01_k».proof.Proof.Value.Math
public import Idealize.ShloMosaic.Lib.Pointwise

@[expose] public section

set_option maxRecDepth 16384

noncomputable section

namespace Cert.ReferenceIdeal.Attn

open Cert.ReferenceIdeal Cert.ReferenceIdeal.Gen Cert.Attn
open Idealize.ShloMosaic Idealize.ShloMosaic.TcCoe Idealize.SL.Sem

/-- The keys, context first, -/
def keys (kc : FVec Ideal S4x256x8x192 .f32) (kl : FVec Ideal S4x4096x8x192 .f32) : FVec Ideal S4x4352x8x192 .f32 :=
  concatenate S4x4352x8x192 1 [⟨S4x256x8x192, kc⟩, ⟨S4x4096x8x192, kl⟩] concatenates_S4x256x8x192_S4x4096x8x192_S4x4352x8x192_d1

/-- and the values. -/
def vals (vc : FVec Ideal S4x256x8x128 .f32) (vl : FVec Ideal S4x4096x8x128 .f32) : FVec Ideal S4x4352x8x128 .f32 :=
  concatenate S4x4352x8x128 1 [⟨S4x256x8x128, vc⟩, ⟨S4x4096x8x128, vl⟩] concatenates_S4x256x8x128_S4x4096x8x128_S4x4352x8x128_d1

/-- The scores. -/
def sc (q : FVec Ideal S4x4096x8x192 .f32) (k : FVec Ideal S4x4352x8x192 .f32) : FVec Ideal S4x8x4096x4352 .f32 :=
  Host.divf (Host.dotGeneral dot_S4x4096x8x192_S4x4352x8x192_S4x8x4096x4352_3_3_1_1_02_02 none q k) (broadcastInDim S4x8x4096x4352 ![] bcast_S_S4x8x4096x4352 (Host.sqrt (constant S_ .f32 0x43400000#32)))

/-- A row's maximum. -/
def mx (s : FVec Ideal S4x8x4096x4352 .f32) : FVec Ideal S4x8x4096 .f32 :=
  maximumf (broadcastInDim S4x8x4096 ![] bcast_S_S4x8x4096 (constant S_ .f32 0xFF800000#32)) (Host.reduce FloatOps.maximumf s (constant S_ .f32 0xFF800000#32) reducesTo_S4x8x4096x4352_S4x8x4096_d3 h_S_)

/-- The exponentials. -/
def ex (s : FVec Ideal S4x8x4096x4352 .f32) : FVec Ideal S4x8x4096x4352 .f32 :=
  Host.exp (subf s (broadcastInDim S4x8x4096x4352 ![0, 1, 2, 3] bcast_S4x8x4096x1_S4x8x4096x4352_0_1_2_3 (broadcastInDim S4x8x4096x1 ![0, 1, 2] bcast_S4x8x4096_S4x8x4096x1_0_1_2 (mx s))))

/-- The weights from the exponentials. -/
def nrm (e : FVec Ideal S4x8x4096x4352 .f32) : FVec Ideal S4x8x4096x4352 .f32 :=
  Host.divf e (broadcastInDim S4x8x4096x4352 ![0, 1, 2, 3] bcast_S4x8x4096x1_S4x8x4096x4352_0_1_2_3 (broadcastInDim S4x8x4096x1 ![0, 1, 2] bcast_S4x8x4096_S4x8x4096x1_0_1_2 (Host.reduceAdd e (constant S_ .f32 0x00000000#32) reducesTo_S4x8x4096x4352_S4x8x4096_d3 h_S_)))

/-- The weighted values, laid out. -/
def out (v : FVec Ideal S4x4352x8x128 .f32) (p : FVec Ideal S4x8x4096x4352 .f32) : FVec Ideal S16384x1024 .bf16 :=
  truncf .bf16 (shapeCast _ (transpose S4x4096x8x128 [0, 3, 1, 2] (Host.dotGeneral dot_S4x4352x8x128_S4x8x4096x4352_S4x8x128x4096_1_3_3_2_02_01 none v p) transposes_S4x8x128x4096_S4x4096x8x128_0_3_1_2) shapeCasts_S4x4096x8x128_S16384x1024) bitsLt_bf16_f32

/-- The result from the five arrays it depends on. -/
def res (q kl : FVec Ideal S4x4096x8x192 .f32) (vl : FVec Ideal S4x4096x8x128 .f32) (kc : FVec Ideal S4x256x8x192 .f32) (vc : FVec Ideal S4x256x8x128 .f32) : FVec Ideal S16384x1024 .bf16 :=
  out (vals vc vl) (nrm (ex (sc q (keys kc kl))))

/-- The reference's run: its result is `res` of the arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = res (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

theorem keys_apply (kc : FVec Ideal S4x256x8x192 .f32) (kl : FVec Ideal S4x4096x8x192 .f32) (b : Fin 4) (n : Fin 4352) (h : Fin 8) (d : Fin 192) :
    keys kc kl (ix4 b n h d) = if hn : n.val < 256 then kc (ix4 b ⟨n.val, hn⟩ h d) else kl (ix4 b ⟨n.val - 256, by omega⟩ h d) := by
  pointwise [keys]

theorem vals_apply (vc : FVec Ideal S4x256x8x128 .f32) (vl : FVec Ideal S4x4096x8x128 .f32) (b : Fin 4) (n : Fin 4352) (h : Fin 8) (l : Fin 128) :
    vals vc vl (ix4 b n h l) = if hn : n.val < 256 then vc (ix4 b ⟨n.val, hn⟩ h l) else vl (ix4 b ⟨n.val - 256, by omega⟩ h l) := by
  pointwise [vals]

theorem ofBits_192 : Ideal.ofBits FTy.f32 0x43400000#32 = ((192 : ℝ) : EReal) := by
  simp [Ideal.ofBits, Ideal.ieee, -EReal.coe_mul]; norm_num

theorem ofBits_bot : Ideal.ofBits FTy.f32 0xFF800000#32 = ⊥ := by
  simp [Ideal.ofBits, Ideal.ieee]

theorem sc_apply (q : FVec Ideal S4x4096x8x192 .f32) (k : FVec Ideal S4x4352x8x192 .f32) (b : Fin 4) (h : Fin 8) (r : Fin 4096) (n : Fin 4352) :
    sc q k (ix4 b h r n) = Ideal.div (∑ d : Fin 192, q (ix4 b r h d) * k (ix4 b n h d)) ((Real.sqrt 192 : ℝ) : EReal) := by
  pointwise [sc]
  rw [ofBits_192, Ideal.sqrt_coe, if_neg (by norm_num)]

/-- A maximum of numbers along a row that is not empty, started from −∞, is a number. -/
theorem num_reduce {n0 n1 n2 n3 : ℕ} {t u : Shape} (hn : 0 < n3) (h : (⟨4, ![n0, n1, n2, n3]⟩ : Shape).ReducesTo [3] t)
    (x : (⟨4, ![n0, n1, n2, n3]⟩ : Shape).Idx → EReal) (init : u.Idx → EReal) (hu : 0 < u.numel) (hi : ∀ i, init i = ⊥)
    (hx : ∀ i, Num (x i)) (x0 : FVec Ideal t .f32) (j : t.Idx) (h0 : x0 j = ⊥) :
    Num (maximumf x0 (Host.reduce (FloatOps.maximumf (F := Ideal) (φ := .f32)) x init h hu : FVec Ideal t .f32) j) := by
  have e : Host.reduce (FloatOps.maximumf (F := Ideal) (φ := .f32)) x init h hu j = (Finset.univ : Finset (Fin n3)).fold max ⊥ _ :=
    (Host.reduce_eq_fold max x init h hu j).trans ((congrArg (fun b => Finset.fold max b x _) (hi _)).trans (h.fold_fiber_r4_a3 j max ⊥ x))
  have : maximumf x0 (Host.reduce (FloatOps.maximumf (F := Ideal) (φ := .f32)) x init h hu : FVec Ideal t .f32) j
      = max (x0 j) (Host.reduce (FloatOps.maximumf (F := Ideal) (φ := .f32)) x init h hu j) := rfl
  rw [this, h0, e, max_eq_right bot_le]
  exact Num.fold_max _ ⟨⟨0, hn⟩, Finset.mem_univ _⟩ _ fun k => hx _

theorem mx_init (j : S4x8x4096.Idx) : (broadcastInDim S4x8x4096 ![] bcast_S_S4x8x4096 (constant (F := Ideal) S_ .f32 0xFF800000#32)) j = (⊥ : EReal) := by
  pointwise []
  exact ofBits_bot

theorem num_mx {s : FVec Ideal S4x8x4096x4352 .f32} (hs : ∀ i, Num (s i)) (j : S4x8x4096.Idx) : Num (mx s j) :=
  num_reduce (by decide) reducesTo_S4x8x4096x4352_S4x8x4096_d3 s _ h_S_ (fun _ => ofBits_bot) hs _ j (mx_init j)

theorem ex_apply (s : FVec Ideal S4x8x4096x4352 .f32) (b : Fin 4) (h : Fin 8) (r : Fin 4096) (n : Fin 4352) :
    ex s (ix4 b h r n) = Ideal.exp (s (ix4 b h r n) - mx s (ix3 b h r)) := by
  pointwise [ex]

theorem nrm_apply (e : FVec Ideal S4x8x4096x4352 .f32) (b : Fin 4) (h : Fin 8) (r : Fin 4096) (n : Fin 4352) :
    nrm e (ix4 b h r n) = Ideal.div (e (ix4 b h r n)) (∑ k, e (ix4 b h r k)) := by
  pointwise [nrm]

theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  rw [Fin.ext ha, Fin.ext hb, Fin.ext hc, Fin.ext hd]

theorem out_apply (v : FVec Ideal S4x4352x8x128 .f32) (p : FVec Ideal S4x8x4096x4352 .f32) (R : Fin 16384) (C : Fin 1024) (b : Fin 4) (r : Fin 4096) (h : Fin 8) (l : Fin 128)
    (hR : R.val = 4096 * b.val + r.val) (hC : C.val = 128 * h.val + l.val) :
    out v p (ix2 R C) = ∑ n : Fin 4352, v (ix4 b n h l) * p (ix4 b h r n) := by
  pointwise [out]
  have hb : R.val / 4096 = b.val := by omega
  have hr : R.val % 4096 = r.val := by omega
  have hh : C.val / 128 = h.val := by omega
  have hl : C.val % 128 = l.val := by omega
  refine Finset.sum_congr rfl fun x _ => ?_
  exact congrArg₂ (· * ·) (congrArg v (ix4_eq hb rfl hh hl)) (congrArg p (ix4_eq hb hh hr rfl))

end Cert.ReferenceIdeal.Attn

end
-- ==== Proof.Value.Final.lean ====
/- The kernel's result: the reference's attention, where the queries and keys are numbers. -/
module

public import proofs.«01_k».proof.Proof.Value.Row
public import proofs.«01_k».proof.Proof.Value.Block
public import proofs.«01_k».proof.Proof.Value.Slab
public import proofs.«01_k».proof.Proof.Value.Reference

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem

variable (m : (ℓ : Loc nD τ sig) → Buf (Elt Ideal) ℓ) (ρ : Dev nD → PrngReg)

/-- The arguments, as arrays. -/
def aq (c : Dev nD) : FVec Ideal S4x4096x8x192 .f32 := m (c, Proc.tc.devRef main_arg0)
def ak (c : Dev nD) : FVec Ideal S4x4096x8x192 .f32 := m (c, Proc.tc.devRef main_arg1)
def av (c : Dev nD) : FVec Ideal S4x4096x8x128 .f32 := m (c, Proc.tc.devRef main_arg2)
def akc (c : Dev nD) : FVec Ideal S4x256x8x192 .f32 := m (c, Proc.tc.devRef main_arg4)
def avc (c : Dev nD) : FVec Ideal S4x256x8x128 .f32 := m (c, Proc.tc.devRef main_arg5)

theorem x_apply (c : Dev nD) (t : Fin cfg0.N) (r : Fin 4096) (d : Fin 256) : X0_0 m c t (ix2 r d)
    = (if hd : d.val < 192 then aq m c (ix4 (bat t) r (head8 t) ⟨d.val, hd⟩) else aq m c (ix4 (bat t) r (head8 t) ⟨d.val - 64, by omega⟩))
      * ((1 / (Real.sqrt 192 * Real.log 2) : ℝ) : EReal) := by
  rw [X0_0_apply, V15, slabOf_lat, qCat_apply, kap_eq]; rfl

theorem kl_apply (c : Dev nD) (t : Fin cfg0.N) (r : Fin 4096) (d : Fin 256) : X0_2 m c t (ix2 r d)
    = if hd : d.val < 192 then ak m c (ix4 (bat t) r (head8 t) ⟨d.val, hd⟩) else 0 := by
  rw [X0_2_apply, V23, slabOf_lat, kCat_apply]; rfl

theorem kc_apply (c : Dev nD) (t : Fin cfg0.N) (r : Fin 256) (d : Fin 256) : iblk m c 1 t (ix2 r d)
    = if hd : d.val < 192 then akc m c (ix4 (bat t) r (head8 t) ⟨d.val, hd⟩) else 0 := by
  rw [iblk1_apply, V23, slabOf_ctx, kCatCtx_apply]; rfl

/-- A key of a grid point's block is that key of the reference, zeros behind. -/
theorem key_apply (c : Dev nD) (t : Fin cfg0.N) (n : Fin 4352) (d : Fin 256) : keyRow (iblk m c 1 t) (X0_2 m c t) n.val d
    = if hd : d.val < 192 then Cert.ReferenceIdeal.Attn.keys (akc m c) (ak m c) (ix4 (bat t) n (head8 t) ⟨d.val, hd⟩) else 0 := by
  unfold keyRow
  by_cases hn : n.val < 256
  · rw [dif_pos hn]
    refine (kc_apply m c t _ d).trans ?_
    by_cases hd : d.val < 192
    · rw [dif_pos hd, dif_pos hd, Cert.ReferenceIdeal.Attn.keys_apply, dif_pos hn]
    · rw [dif_neg hd, dif_neg hd]
  · have hn' : n.val - 256 < 4096 := by omega
    rw [dif_neg hn, dif_pos hn']
    refine (kl_apply m c t _ d).trans ?_
    by_cases hd : d.val < 192
    · rw [dif_pos hd, dif_pos hd, Cert.ReferenceIdeal.Attn.keys_apply, dif_neg hn]
    · rw [dif_neg hd, dif_neg hd]

/-- Likewise a value, -/
theorem val_apply (c : Dev nD) (t : Fin cfg0.N) (n : Fin 4352) (l : Fin 128) : keyRow (iblk m c 3 t) (X0_4 m c t) n.val ⟨l.val, by omega⟩
    = Cert.ReferenceIdeal.Attn.vals (avc m c) (av m c) (ix4 (bat t) n (head8 t) l) := by
  rw [Cert.ReferenceIdeal.Attn.vals_apply]
  unfold keyRow
  by_cases hn : n.val < 256
  · rw [dif_pos hn, dif_pos hn]
    refine (iblk3_apply m c t _ _).trans ?_
    rw [V35, slabOf_ctx, vCatCtx_apply]; rfl
  · have hn' : n.val - 256 < 4096 := by omega
    rw [dif_neg hn, dif_pos hn', dif_neg hn]
    refine (X0_4_apply m c t _ _).trans ?_
    rw [V35, slabOf_lat, vCat_apply]; rfl

/-- and behind the values there is a one. -/
theorem one_apply (c : Dev nD) (t : Fin cfg0.N) (n : Fin 4352) : keyRow (iblk m c 3 t) (X0_4 m c t) n.val ⟨128, by omega⟩ = 1 := by
  unfold keyRow
  by_cases hn : n.val < 256
  · rw [dif_pos hn]
    refine (iblk3_apply m c t _ _).trans ?_
    rw [V35, slabOf_ctx, vCatCtx_one]
  · have hn' : n.val - 256 < 4096 := by omega
    rw [dif_neg hn, dif_pos hn']
    refine (X0_4_apply m c t _ _).trans ?_
    rw [V35, slabOf_lat, vCat_one]

variable {m} in
theorem num_keys {c : Dev nD} (hk : AllNum (ak m c)) (hkc : AllNum (akc m c)) : AllNum (Cert.ReferenceIdeal.Attn.keys (akc m c) (ak m c)) := fun j => by
  obtain ⟨b, n, h, d, rfl⟩ : ∃ (b : Fin 4) (n : Fin 4352) (h : Fin 8) (d : Fin 192), j = ix4 b n h d := ⟨_, _, _, _, eq_ix4 j⟩
  rw [Cert.ReferenceIdeal.Attn.keys_apply]
  split
  · exact hkc _
  · exact hk _

variable {m} in
theorem num_x {c : Dev nD} (hq : AllNum (aq m c)) (t : Fin cfg0.N) : AllNum (X0_0 m c t) := fun j => by
  obtain ⟨r, d, rfl⟩ : ∃ (r : Fin 4096) (d : Fin 256), j = ix2 r d := ⟨_, _, eq_ix2 j⟩
  rw [x_apply]
  split
  · exact (hq _).mul (Num.coe _)
  · exact (hq _).mul (Num.coe _)

variable {m} in
theorem num_kl {c : Dev nD} (hk : AllNum (ak m c)) (t : Fin cfg0.N) : AllNum (X0_2 m c t) := fun j => by
  obtain ⟨r, d, rfl⟩ : ∃ (r : Fin 4096) (d : Fin 256), j = ix2 r d := ⟨_, _, eq_ix2 j⟩
  rw [kl_apply]
  split
  · exact hk _
  · exact Num.zero

variable {m} in
theorem num_kc {c : Dev nD} (hk : AllNum (akc m c)) (t : Fin cfg0.N) : AllNum (s := S256x256) (iblk m c 1 t) := fun j => by
  obtain ⟨r, d, rfl⟩ : ∃ (r : Fin 256) (d : Fin 256), j = ix2 r d := ⟨_, _, eq_ix2 j⟩
  rw [kc_apply]
  split
  · exact hk _
  · exact Num.zero

variable {m} in
theorem num_sc {c : Dev nD} (hq : AllNum (aq m c)) (hk : AllNum (ak m c)) (hkc : AllNum (akc m c)) :
    AllNum (Cert.ReferenceIdeal.Attn.sc (aq m c) (Cert.ReferenceIdeal.Attn.keys (akc m c) (ak m c))) := fun j => by
  obtain ⟨b, h, r, n, rfl⟩ : ∃ (b : Fin 4) (h : Fin 8) (r : Fin 4096) (n : Fin 4352), j = ix4 b h r n := ⟨_, _, _, _, eq_ix4 j⟩
  rw [Cert.ReferenceIdeal.Attn.sc_apply]
  exact Num.div (by positivity) (Num.sum _ _ fun d => (hq _).mul (num_keys hk hkc _))

/-- The kernel's result. -/
theorem arr_eq (c : Dev nD) (hq : AllNum (aq m c)) (hk : AllNum (ak m c)) (hkc : AllNum (akc m c)) :
    (dats m 0 c).arrAt 5 cfg0.N = Cert.ReferenceIdeal.Attn.res (aq m c) (ak m c) (av m c) (akc m c) (avc m c) := by
  refine (dats m 0 c).arrAt_eq_of_covers 5 _ (by decide +kernel) fun t hf y => ?_
  blk_simp
  rw [after0_5]
  unfold tileOut
  rw [canon_out]
  obtain ⟨r, l, rfl⟩ : ∃ (r : Fin 4096) (l : Fin 128), y = ix2 r l := ⟨_, _, eq_ix2 y⟩
  obtain ⟨M, hM, e⟩ := attn_apply (num_x hq t) (num_kc hkc t) (num_kl hk t) (iblk m c 3 t) (X0_4 m c t) r l
  refine e.trans ?_
  have hb := (bat t).isLt
  have hh := (head8 t).isLt
  have he : ((cfg0.win 5).blk t).view.emb (ix2 r l)
      = ix2 (⟨4096 * (bat t).val + r.val, by omega⟩ : Fin 16384) (⟨128 * (head8 t).val + l.val, by omega⟩ : Fin 1024) := by
    obtain ⟨h0, h1, h2, h3, h4, h5⟩ := index_eq t
    refine funext fun a => Fin.ext ?_
    match a with
    | ⟨0, _⟩ => blk_simp [h5]; show (grid0.coords t 0).val * 4096 + r.val = 4096 * (grid0.coords t 0).val + r.val; omega
    | ⟨1, _⟩ => blk_simp [h5]; show (grid0.coords t 1).val * 128 + l.val = 128 * (grid0.coords t 1).val + l.val; omega
  rw [he]
  unfold Cert.ReferenceIdeal.Attn.res
  rw [Cert.ReferenceIdeal.Attn.out_apply _ _ _ _ (bat t) r (head8 t) l rfl rfl]
  simp only [Cert.ReferenceIdeal.Attn.nrm_apply, Cert.ReferenceIdeal.Attn.ex_apply]
  refine (congrArg₂ Ideal.div (Finset.sum_congr rfl fun n _ => congrArg (_ * ·) (val_apply m c t n l)) rfl).trans ?_
  exact attn_row (Q := fun d => aq m c (ix4 (bat t) r (head8 t) d))
    (K := fun n d => Cert.ReferenceIdeal.Attn.keys (akc m c) (ak m c) (ix4 (bat t) n (head8 t) d))
    (fun d => hq _) (fun n d => num_keys hk hkc _) (fun d => X0_0 m c t (ix2 r d)) (fun n d => keyRow (iblk m c 1 t) (X0_2 m c t) n.val d)
    (fun d hd => by rw [x_apply, dif_pos hd]) (fun n d => key_apply m c t n d) _ _ (fun n => one_apply m c t n) hM
    (Cert.ReferenceIdeal.Attn.num_mx (num_sc hq hk hkc) _) _ fun n => Cert.ReferenceIdeal.Attn.sc_apply _ _ _ _ _ _

/-- The kernel's run, where the queries and keys are numbers: its result is the reference's attention of the arguments, which end unchanged. -/
theorem run_value (h : ∀ c, AllNum (aq m c) ∧ AllNum (ak m c) ∧ AllNum (akc m c)) :
    θ_run defs (onTc (τ := τ) (main (F := Ideal))) ⟨m, fun _ => 0, ρ⟩ (fun r => ∀ c : Dev nD,
      r.2.mem ((c.tc : Thread nD τ).loc main_v36) = Cert.ReferenceIdeal.Attn.res (aq m c) (ak m c) (av m c) (akc m c) (avc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).1 5).trans (arr_eq m c (h c).1 (h c).2.1 (h c).2.2), hr.2 c⟩)
    (θ_run_and (run_main m ρ) (unchanged m ρ))

end Cert.KernelIdeal.Attn

end
-- ==== Proof.Value.Pre.lean ====
/- What the precondition says: the queries and the keys are numbers. -/
module

public import proofs.«01_k».proof.Defs
public import proofs.«01_k».proof.Proof.Value.Tile
public import proofs.«01_k».proof.Proof.Gen.KernelIdeal
public import Idealize.ShloMosaic.Lib.Pointwise

@[expose] public section

set_option maxRecDepth 16384

noncomputable section

namespace Cert.Pre_finite

open Idealize.ShloMosaic Cert.Attn

/-- The shape facts the precondition's function takes. -/
theorem facts : Facts := ⟨by decide, by decide⟩

theorem ofBits_top : Ideal.ofBits FTy.f32 0x7F800000#32 = ⊤ := by
  simp [Ideal.ofBits, Ideal.ieee]

/-- A value whose absolute value lies below infinity is a number. -/
theorem num_of_lt {x : EReal} (h : Ideal.cmp .olt (FloatOps.absf (F := Ideal) (φ := .f32) x) ⊤ = 1#1) : Num x := by
  refine Num.of_abs_lt ?_ ?_
  · rintro rfl
    simp [Ideal.cmp, FloatOps.absf] at h
  · rintro rfl
    simp [Ideal.cmp, FloatOps.absf] at h

theorem num_of_pre [Facts] {q k : FVec Ideal S4x4096x8x192 .f32} {v : FVec Ideal S4x4096x8x128 .f32} {qc kc : FVec Ideal S4x256x8x192 .f32} {vc : FVec Ideal S4x256x8x128 .f32}
    (h : (fn (F := Ideal) q k v qc kc vc).1 = (fun _ => 1#1) ∧ (fn (F := Ideal) q k v qc kc vc).2 = (fun _ => 1#1)) :
    (∀ j, Num (q j)) ∧ (∀ j, Num (k j)) ∧ ∀ j, Num (kc j) := by
  have h1 : ∀ j, Ideal.cmp .olt (FloatOps.absf (F := Ideal) (φ := .f32) (q j)) (Ideal.ofBits FTy.f32 0x7F800000#32) &&& Ideal.cmp .olt (FloatOps.absf (F := Ideal) (φ := .f32) (k j)) (Ideal.ofBits FTy.f32 0x7F800000#32) = 1#1 :=
    fun j => congrFun h.1 j
  have h2 : ∀ j, Ideal.cmp .olt (FloatOps.absf (F := Ideal) (φ := .f32) (kc j)) (Ideal.ofBits FTy.f32 0x7F800000#32) = 1#1 :=
    fun j => congrFun h.2 j
  have hand : ∀ a b : BitVec 1, a &&& b = 1#1 → a = 1#1 ∧ b = 1#1 := by decide
  simp only [ofBits_top] at h1 h2
  exact ⟨fun j => num_of_lt (hand _ _ (h1 j)).1, fun j => num_of_lt (hand _ _ (h1 j)).2, fun j => num_of_lt (h2 j)⟩

end Cert.Pre_finite

end
-- ==== Proof.Down.Value.lean ====
/- The feed-forward down projection: what the kernel leaves is the reference's residual sum. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Down

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg)

/-- The arguments: hidden rows, weights, the stream, the modulation. -/
def ah (c : Dev nD) : FVec Ideal S16384x8192 .bf16 := m (c, Proc.tc.devRef main_arg0)
def aw (c : Dev nD) : FVec Ideal S8192x2048 .f32 := m (c, Proc.tc.devRef main_arg1)
def ax (c : Dev nD) : FVec Ideal S4x4096x2048 .f32 := m (c, Proc.tc.devRef main_arg2)
def am (c : Dev nD) : FVec Ideal S4x12288 .f32 := m (c, Proc.tc.devRef main_arg3)

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 32 * 6 + 5, 0, t.val / 4 % 2]
    ∧ win0_4.index t = ![t.val / 8, t.val / 4 % 2] :=
  (by decide +kernel : ∀ t : Fin grid0.N, _)

theorem lt_N (t : Fin cfg0.N) : t.val < 128 := t.isLt

/-- A grid point's blocks of the four arguments. -/
def bh (c : Dev nD) (t : Fin cfg0.N) : S1024x2048.Idx → EReal := iblk m c 0 t
def bw (c : Dev nD) (t : Fin cfg0.N) : S2048x1024.Idx → EReal := iblk m c 1 t
def bx (c : Dev nD) (t : Fin cfg0.N) : S1024x1024.Idx → EReal := iblk m c 2 t
def bm (c : Dev nD) (t : Fin cfg0.N) : S1x1x1024.Idx → EReal := iblk m c 3 t

/-- What the output block holds after a grid point. -/
def acc (c : Dev nD) (n : ℕ) (h : n < cfg0.N) : S1024x1024.Idx → EReal := outsAt0 m c n h

/-- A grid point's product of its blocks. -/
def prod (c : Dev nD) (t : Fin cfg0.N) (r d : Fin 1024) : EReal := ∑ k : Fin 2048, bh m c t (ix2 r k) * bw m c t (ix2 k d)

theorem acc_A (c : Dev nD) (t : Fin cfg0.N) (h : t.val % 4 = 0) (r d : Fin 1024) :
    acc m c t.val t.isLt (ix2 r d) = prod m c t r d := by
  unfold acc
  rw [outsAt0_A m c t h (by omega) (by omega)]
  frame_out
  pointwise [k0_pay1]
  rfl

theorem acc_B (c : Dev nD) (t : Fin cfg0.N) (h0 : ¬t.val % 4 = 0) (h2 : ¬t.val % 4 = 3) (r d : Fin 1024) :
    acc m c t.val t.isLt (ix2 r d) = acc m c (t.val - 1) (Nat.lt_of_le_of_lt (Nat.sub_le _ _) t.isLt) (ix2 r d) + prod m c t r d := by
  unfold acc
  rw [outsAt0_B m c t h0 (by omega) h2]
  frame_out
  pointwise [k0_pay2, k0_pay1]
  rfl

theorem acc_C (c : Dev nD) (t : Fin cfg0.N) (h2 : t.val % 4 = 3) (r d : Fin 1024) :
    acc m c t.val t.isLt (ix2 r d) = bx m c t (ix2 r d)
      + bm m c t (ix3 0 0 d) * (acc m c (t.val - 1) (Nat.lt_of_le_of_lt (Nat.sub_le _ _) t.isLt) (ix2 r d) + prod m c t r d) := by
  unfold acc
  rw [outsAt0_C m c t (by omega) (by omega) h2]
  frame_out
  pointwise [k0_pay3, k0_pay2, k0_pay1]
  rfl

theorem ix2_eq {n0 n1 : ℕ} {a a' : Fin n0} {b b' : Fin n1} (ha : a.val = a'.val) (hb : b.val = b'.val) : ix2 a b = ix2 a' b' := by
  rw [Fin.ext ha, Fin.ext hb]

theorem V_h (c : Dev nD) : V m c main_arg0 = ah m c := by entry_read; rfl
theorem V_w (c : Dev nD) : V m c main_v0 = (aw m c : S8192x2048.Idx → EReal) := by entry_read; rfl
theorem V_x (c : Dev nD) (R : Fin 16384) (C : Fin 2048) :
    V m c main_v1 (ix2 R C) = ax m c (ix3 ⟨R.val / 4096, by omega⟩ ⟨R.val % 4096, by omega⟩ C) := by
  have : V m c main_v1 = shapeCast S16384x2048 (ax m c) shapeCasts_S4x4096x2048_S16384x2048 := by entry_read; rfl
  rw [this]
  pointwise []
theorem V_m (c : Dev nD) (R : Fin 48) (C : Fin 2048) (hR : R.val < 24) :
    V m c main_v4 (ix3 R 0 C) = am m c (ix2 ⟨R.val / 6, by omega⟩ ⟨R.val % 6 * 2048 + C.val, by omega⟩) := by
  have : V m c main_v4 = shapeCast S48x1x2048 (concatenate S8x12288 0 [⟨S4x12288, am m c⟩, ⟨S4x12288, broadcastInDim S4x12288 ![] bcast_S_S4x12288 (constant S_ .f32 0x00000000#32)⟩] concatenates_S4x12288_S4x12288_S8x12288_d0) shapeCasts_S8x12288_S48x1x2048 := by entry_read; rfl
  rw [this]
  pointwise []
  exact dif_pos (by omega)

theorem bh_apply (c : Dev nD) (t : Fin cfg0.N) (r : Fin 1024) (k : Fin 2048) : bh m c t (ix2 r k)
    = ah m c (ix2 ⟨1024 * (t.val / 8) + r.val, by have := lt_N t; omega⟩ ⟨2048 * (t.val % 4) + k.val, by omega⟩) := by
  obtain ⟨h0, h1, h2, h3, h4⟩ := idx t
  unfold bh iblk
  rw [← V_h]
  blk_simp [h0]
  refine congrArg (V m c main_arg0) (funext fun a => Fin.ext ?_)
  match a with
  | ⟨0, _⟩ => blk_simp [h0]; show t.val / 8 * 1024 + r.val = 1024 * (t.val / 8) + r.val; omega
  | ⟨1, _⟩ => blk_simp [h0]; show t.val % 4 * 2048 + k.val = 2048 * (t.val % 4) + k.val; omega

theorem bw_apply (c : Dev nD) (t : Fin cfg0.N) (k : Fin 2048) (d : Fin 1024) : bw m c t (ix2 k d)
    = aw m c (ix2 ⟨2048 * (t.val % 4) + k.val, by omega⟩ ⟨1024 * (t.val / 4 % 2) + d.val, by omega⟩) := by
  obtain ⟨h0, h1, h2, h3, h4⟩ := idx t
  refine Eq.trans ?_ (congrFun (V_w m c) _)
  unfold bw iblk
  blk_simp [h1]
  refine congrArg (V m c main_v0) (funext fun a => Fin.ext ?_)
  match a with
  | ⟨0, _⟩ => blk_simp [h1]; show t.val % 4 * 2048 + k.val = 2048 * (t.val % 4) + k.val; omega
  | ⟨1, _⟩ => blk_simp [h1]; show t.val / 4 % 2 * 1024 + d.val = 1024 * (t.val / 4 % 2) + d.val; omega

theorem bx_apply (c : Dev nD) (t : Fin cfg0.N) (r d : Fin 1024) : bx m c t (ix2 r d)
    = ax m c (ix3 ⟨(1024 * (t.val / 8) + r.val) / 4096, by have := lt_N t; omega⟩ ⟨(1024 * (t.val / 8) + r.val) % 4096, by omega⟩
      ⟨1024 * (t.val / 4 % 2) + d.val, by omega⟩) := by
  obtain ⟨h0, h1, h2, h3, h4⟩ := idx t
  refine Eq.trans ?_ (V_x m c ⟨1024 * (t.val / 8) + r.val, by have := lt_N t; omega⟩ ⟨1024 * (t.val / 4 % 2) + d.val, by omega⟩)
  unfold bx iblk
  blk_simp [h2]
  refine congrArg (V m c main_v1) (funext fun a => Fin.ext ?_)
  match a with
  | ⟨0, _⟩ => blk_simp [h2]; show t.val / 8 * 1024 + r.val = 1024 * (t.val / 8) + r.val; omega
  | ⟨1, _⟩ => blk_simp [h2]; show t.val / 4 % 2 * 1024 + d.val = 1024 * (t.val / 4 % 2) + d.val; omega

theorem bm_apply (c : Dev nD) (t : Fin cfg0.N) (d : Fin 1024) : bm m c t (ix3 0 0 d)
    = am m c (ix2 ⟨t.val / 32, by have := lt_N t; omega⟩ ⟨10240 + (1024 * (t.val / 4 % 2) + d.val), by omega⟩) := by
  obtain ⟨h0, h1, h2, h3, h4⟩ := idx t
  have hN := lt_N t
  refine Eq.trans ?_ ((V_m m c ⟨t.val / 32 * 6 + 5, by omega⟩ ⟨1024 * (t.val / 4 % 2) + d.val, by omega⟩ (by show t.val / 32 * 6 + 5 < 24; omega)).trans
    (congrArg (am m c) (ix2_eq (by show (t.val / 32 * 6 + 5) / 6 = t.val / 32; omega) (by show (t.val / 32 * 6 + 5) % 6 * 2048 + (1024 * (t.val / 4 % 2) + d.val) = 10240 + (1024 * (t.val / 4 % 2) + d.val); omega))))
  unfold bm iblk
  blk_simp [h3]
  refine congrArg (V m c main_v4) (funext fun a => Fin.ext ?_)
  match a with
  | ⟨0, _⟩ => blk_simp [h3]; rfl
  | ⟨1, _⟩ => blk_simp [h3]
  | ⟨2, _⟩ => blk_simp [h3]; show t.val / 4 % 2 * 1024 + d.val = 1024 * (t.val / 4 % 2) + d.val; omega

/-- The reference's result: the stream plus the fifth modulation times the product. -/
def res (h : S16384x8192.Idx → EReal) (w : S8192x2048.Idx → EReal) (x : S4x4096x2048.Idx → EReal) (md : S4x12288.Idx → EReal) (R : Fin 16384) (C : Fin 2048) : EReal :=
  x (ix3 ⟨R.val / 4096, by omega⟩ ⟨R.val % 4096, by omega⟩ C)
    + md (ix2 ⟨R.val / 4096, by omega⟩ ⟨10240 + C.val, by omega⟩) * ∑ k : Fin 8192, h (ix2 R k) * w (ix2 k C)

/-- A sum over 8192 terms in four stretches of 2048. -/
theorem sum_four (f : Fin 8192 → EReal) : ∑ k, f k
    = (((∑ k : Fin 2048, f ⟨k.val, by omega⟩) + ∑ k : Fin 2048, f ⟨2048 + k.val, by omega⟩)
      + ∑ k : Fin 2048, f ⟨4096 + k.val, by omega⟩) + ∑ k : Fin 2048, f ⟨6144 + k.val, by omega⟩ := by
  have h1 := Fin.sum_univ_add (a := 2048 + 2048 + 2048) (b := 2048) f
  have h2 := Fin.sum_univ_add (a := 2048 + 2048) (b := 2048) fun i => f (Fin.castAdd 2048 i)
  have h3 := Fin.sum_univ_add (a := 2048) (b := 2048) fun i => f (Fin.castAdd 2048 (Fin.castAdd 2048 i))
  rw [h3] at h2
  rw [h2] at h1
  exact h1

theorem final (c : Dev nD) (t : Fin cfg0.N) (h : t.val % 4 = 3) (r d : Fin 1024) :
    acc m c t.val t.isLt (ix2 r d) = res (ah m c) (aw m c) (ax m c) (am m c)
      ⟨1024 * (t.val / 8) + r.val, by have := lt_N t; omega⟩ ⟨1024 * (t.val / 4 % 2) + d.val, by omega⟩ := by
  have hN := lt_N t
  have e2 := acc_B m c ⟨t.val - 1, by omega⟩ (by show ¬(t.val - 1) % 4 = 0; omega) (by show ¬(t.val - 1) % 4 = 3; omega) r d
  have e1 := acc_B m c ⟨t.val - 1 - 1, by omega⟩ (by show ¬(t.val - 1 - 1) % 4 = 0; omega) (by show ¬(t.val - 1 - 1) % 4 = 3; omega) r d
  have e0 := acc_A m c ⟨t.val - 1 - 1 - 1, by omega⟩ (by show (t.val - 1 - 1 - 1) % 4 = 0; omega) r d
  have p : ∀ (s : Fin cfg0.N) (j : ℕ) (hj : j < 4), s.val % 4 = j → s.val / 8 = t.val / 8 → s.val / 4 % 2 = t.val / 4 % 2 →
      prod m c s r d = ∑ k : Fin 2048, ah m c (ix2 ⟨1024 * (t.val / 8) + r.val, by omega⟩ ⟨2048 * j + k.val, by omega⟩)
        * aw m c (ix2 ⟨2048 * j + k.val, by omega⟩ ⟨1024 * (t.val / 4 % 2) + d.val, by omega⟩) := by
    intro s j hj h1 h2 h3
    refine Finset.sum_congr rfl fun k _ => ?_
    rw [bh_apply, bw_apply]
    simp only [h1, h2, h3]
  rw [acc_C m c t h r d]
  unfold res
  rw [bx_apply, bm_apply, sum_four]
  refine (congrArg (fun u => _ + _ * (u + _)) (e2.trans (congrArg (· + _) (e1.trans (congrArg (· + _) e0))))).trans ?_
  rw [p t 3 (by omega) (by omega) rfl rfl, p ⟨t.val - 1, by omega⟩ 2 (by omega) (by show (t.val - 1) % 4 = 2; omega) (by show (t.val - 1) / 8 = _; omega) (by show (t.val - 1) / 4 % 2 = _; omega),
    p ⟨t.val - 1 - 1, by omega⟩ 1 (by omega) (by show (t.val - 1 - 1) % 4 = 1; omega) (by show (t.val - 1 - 1) / 8 = _; omega) (by show (t.val - 1 - 1) / 4 % 2 = _; omega),
    p ⟨t.val - 1 - 1 - 1, by omega⟩ 0 (by omega) (by show (t.val - 1 - 1 - 1) % 4 = 0; omega) (by show (t.val - 1 - 1 - 1) / 8 = _; omega) (by show (t.val - 1 - 1 - 1) / 4 % 2 = _; omega)]
  have hb : (1024 * (t.val / 8) + r.val) / 4096 = t.val / 32 := by omega
  simp only [hb, Nat.mul_zero, Nat.zero_add, Nat.mul_one]

/-- The reference's result array. -/
def out (h : S16384x8192.Idx → EReal) (w : S8192x2048.Idx → EReal) (x : S4x4096x2048.Idx → EReal) (md : S4x12288.Idx → EReal) : S16384x2048.Idx → EReal :=
  fun i => res h w x md (i 0) (i 1)

theorem arr_eq (c : Dev nD) : (dats m 0 c).arrAt 4 cfg0.N = out (ah m c) (aw m c) (ax m c) (am m c) := by
  refine (dats m 0 c).arrAt_eq_of_covers 4 _ (by decide +kernel) fun t hf y => ?_
  blk_simp
  rw [after0_4]
  obtain ⟨r, d, rfl⟩ : ∃ (r : Fin 1024) (d : Fin 1024), y = ix2 r d := ⟨_, _, eq_ix2 y⟩
  refine (final m c t ((flush0_4 t).mp hf) r d).trans ?_
  have hN := lt_N t
  have he : ((cfg0.win 4).blk t).view.emb (ix2 r d)
      = ix2 (⟨1024 * (t.val / 8) + r.val, by omega⟩ : Fin 16384) (⟨1024 * (t.val / 4 % 2) + d.val, by omega⟩ : Fin 2048) := by
    obtain ⟨h0, h1, h2, h3, h4⟩ := idx t
    refine funext fun a => Fin.ext ?_
    match a with
    | ⟨0, _⟩ => blk_simp [h4]; show t.val / 8 * 1024 + r.val = 1024 * (t.val / 8) + r.val; omega
    | ⟨1, _⟩ => blk_simp [h4]; show t.val / 4 % 2 * 1024 + d.val = 1024 * (t.val / 4 % 2) + d.val; omega
  rw [he]
  rfl

/-- The kernel's run: its result is the reference's, of the arguments, which end unchanged. -/
theorem run_value : θ_run defs (onTc (τ := τ) (main (F := Ideal))) ⟨m, fun _ => 0, ρ⟩ (fun r => ∀ c : Dev nD,
      r.2.mem ((c.tc : Thread nD τ).loc main_v5) = out (ah m c) (aw m c) (ax m c) (am m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (arr_eq m c), (h c).2⟩) (Cert.Kernel2Ideal.Value.run_blocks m ρ)

end Cert.Kernel2Ideal.Down

namespace Cert.Reference2Ideal.Down

open Cert.Reference2Ideal Cert.Reference2Ideal.Gen
open Idealize.ShloMosaic Idealize.ShloMosaic.TcCoe Idealize.SL.Sem

/-- The reference's host term, at an index. -/
theorem term_apply (h : FVec Ideal S16384x8192 .bf16) (w : FVec Ideal S8192x2048 .f32) (x : FVec Ideal S4x4096x2048 .f32) (md : FVec Ideal S4x12288 .f32) :
    (shapeCast S16384x2048 (addf x (mulf (broadcastInDim S4x4096x2048 ![0, 1, 2] bcast_S4x1x2048_S4x4096x2048_0_1_2 (shapeCast S4x1x2048 (extractStridedSlice S1x4x1x2048 ![5, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_5_0_0_0) shapeCasts_S1x4x1x2048_S4x1x2048)) (Host.dotGeneral dot_S4x4096x8192_S8192x2048_S4x4096x2048_2_0_01_1_n_n none (shapeCast S4x4096x8192 (extf .f32 h bitsLt_bf16_f32) shapeCasts_S16384x8192_S4x4096x8192) w))) shapeCasts_S4x4096x2048_S16384x2048 : FVec Ideal S16384x2048 .f32)
      = Cert.Kernel2Ideal.Down.out h w x md := by
  funext i
  obtain ⟨R, C, rfl⟩ : ∃ (R : Fin 16384) (C : Fin 2048), i = ix2 R C := ⟨_, _, eq_ix2 i⟩
  show _ = Cert.Kernel2Ideal.Down.res h w x md R C
  unfold Cert.Kernel2Ideal.Down.res
  pointwise []

end Cert.Reference2Ideal.Down

end
-- ==== Proof.Up.Value.lean ====
/- The feed-forward up projection: what the kernel leaves is the reference's hidden rows. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.Kernel3Ideal.Up

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg)

/-- The arguments: the stream, the norm's gain, the modulation, the weights. -/
def ax (c : Dev nD) : FVec Ideal S4x4096x2048 .f32 := m (c, Proc.tc.devRef main_arg0)
def ag (c : Dev nD) : FVec Ideal S2048 .f32 := m (c, Proc.tc.devRef main_arg1)
def am (c : Dev nD) : FVec Ideal S4x12288 .f32 := m (c, Proc.tc.devRef main_arg2)
def aw (c : Dev nD) : FVec Ideal S2048x8192 .f32 := m (c, Proc.tc.devRef main_arg3)

/-- A row normed by its mean square, times the gain, modulated. -/
def rowNorm {n : ℕ} (x : (⟨2, ![n, 2048]⟩ : Shape).Idx → EReal) (g : S1x2048.Idx → EReal) (sc sh : S1x1x2048.Idx → EReal) (r : Fin n) (d : Fin 2048) : EReal :=
  x (ix2 r d) * Ideal.rsqrt (Ideal.div (∑ k : Fin 2048, x (ix2 r k) * x (ix2 r k)) (Ideal.ofBits FTy.f32 1157627904#32) + Ideal.ofBits FTy.f32 897988541#32)
    * g (ix2 0 d) * (1 + sc (ix3 0 0 d)) + sh (ix3 0 0 d)

theorem pay1_apply (v12 : Vec Ideal S1x2048 .f32) (v14 : Vec Ideal S1x1x2048 .f32) (v18 : Vec Ideal S1x1x2048 .f32) (v24 : Vec Ideal S128x2048 .f32) (r : Fin 128) (d : Fin 2048) :
    k0_pay1 v12 v14 v18 v24 (ix2 r d) = rowNorm (n := 128) v24 v12 v14 v18 r d := by
  pointwise [k0_pay1]
  rfl

theorem pay2_apply (v3 : Vec Ideal S1024x2048 .bf16) (v4 : Vec Ideal S2048x1024 .bf16) (r : Fin 1024) (d : Fin 1024) :
    k0_pay2 v3 v4 (ix2 r d) = max (∑ x : Fin 2048, v3 (ix2 r x) * v4 (ix2 x d) : EReal) 0 * max (∑ x : Fin 2048, v3 (ix2 r x) * v4 (ix2 x d) : EReal) 0 := by
  pointwise [k0_pay2]

theorem off1_eq : ∀ k : Fin k0_t1_loop.trips, k0_off1 k = ![128 * k.val, 0] := by decide +kernel
theorem trips_eq : k0_t1_loop.trips = 8 := by decide +kernel

/-- A row of a trip's stretch lies in its rectangle. -/
theorem row_mem (k : Fin k0_t1_loop.trips) (r : Fin 1024) (d : Fin 2048) (h : 128 * k.val ≤ r.val) (h' : r.val < 128 * k.val + 128)
    (hi : ∀ a, k0_off1 k a + S128x2048.size a ≤ S1024x2048.size a) : ix2 r d ∈ (Rect.unit (s := S1024x2048) (k0_off1 k) S128x2048.size hi).set := by
  have ho := off1_eq k
  refine Rect.mem_set_unit.mpr fun a => ?_
  rw [congrFun ho a]
  match a with
  | ⟨0, _⟩ => exact ⟨h, h'⟩
  | ⟨1, _⟩ => exact ⟨Nat.zero_le _, by show d.val < 0 + 2048; omega⟩

section Loop

variable (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1024x2048 .bf16) (harg8 : arg8.IsWhole) (k0_h1 : k0_cond1 i = 1#1)
  (v12 : Vec Ideal S1x2048 .f32) (v14 : Vec Ideal S1x1x2048 .f32) (v18 : Vec Ideal S1x1x2048 .f32) (x : Vec Ideal S1024x2048 .f32)

/-- One trip stores one piece: its 128 rows. -/
theorem trip_eq (k : Fin k0_t1_loop.trips) : tripL_k0_t1 (F := Ideal) 𝒱 c bd i arg2 harg2 arg3 harg3 arg4 harg4 arg5 harg5 arg6 harg6 arg7 harg7 arg8 harg8 k0_h1 v12 v14 v18 (harg2.unread x) k
    = [⟨Rect.unit (s := S1024x2048) (k0_off1 k) S128x2048.size (k0_off1_inb i k k0_h1), k0_pay1 v12 v14 v18 (View.ld x (Rect.unit (s := S1024x2048) (k0_off1 k) S128x2048.size (k0_off1_inb i k k0_h1)))⟩] := by
  unfold tripL_k0_t1 trip_k0_t1
  simp only [View.readAt_eq_ld, Memref.IsWhole.read_unread]

/-- The pieces of the first `n` trips: each agrees with the normed rows, -/
theorem pieces_eq (n : ℕ) (hn : n ≤ k0_t1_loop.trips) :
    ∀ p ∈ pb_k0_t1 (F := Ideal) 𝒱 c bd i arg2 harg2 arg3 harg3 arg4 harg4 arg5 harg5 arg6 harg6 arg7 harg7 arg8 harg8 k0_h1 v12 v14 v18 (harg2.unread x) n,
      ∀ j, p.2 j = (fun y : S1024x2048.Idx => rowNorm (n := 1024) x v12 v14 v18 (y 0) (y 1)) (p.1.emb j) := by
  induction n with
  | zero => intro p hp; exact absurd hp List.not_mem_nil
  | succ n ih =>
    intro p hp
    rw [pb_k0_t1_succ 𝒱 c bd i arg2 harg2 arg3 harg3 arg4 harg4 arg5 harg5 arg6 harg6 arg7 harg7 arg8 harg8 k0_h1 v12 v14 v18 (harg2.unread x) ⟨n, by omega⟩, trip_eq] at hp
    simp only [List.cons_append, List.nil_append, List.mem_cons] at hp
    rcases hp with rfl | hp
    · intro j
      obtain ⟨r, d, rfl⟩ : ∃ (r : Fin 128) (d : Fin 2048), j = ix2 r d := ⟨_, _, eq_ix2 j⟩
      have ho := off1_eq ⟨n, by omega⟩
      have hn8 : n < 8 := by have := trips_eq; omega
      have e : ∀ d' : Fin 2048, (Rect.unit (s := S1024x2048) (k0_off1 ⟨n, by omega⟩) S128x2048.size (k0_off1_inb i ⟨n, by omega⟩ k0_h1)).emb (ix2 r d')
          = ix2 (⟨128 * n + r.val, by omega⟩ : Fin 1024) d' := by
        intro d'
        refine funext fun a => Fin.ext ((Rect.idx_unit_val _ _ _ _ _).trans ((congrArg (· + _) (congrFun ho a)).trans ?_))
        match a with
        | ⟨0, _⟩ => rfl
        | ⟨1, _⟩ => show 0 + d'.val = d'.val; omega
      refine (pay1_apply _ _ _ _ r d).trans ?_
      show _ = (fun y : S1024x2048.Idx => rowNorm (n := 1024) x v12 v14 v18 (y 0) (y 1)) _
      rw [e d]
      have l : ∀ d' : Fin 2048, View.ld x (Rect.unit (s := S1024x2048) (k0_off1 ⟨n, by omega⟩) S128x2048.size (k0_off1_inb i ⟨n, by omega⟩ k0_h1)) (ix2 r d')
          = x (ix2 (⟨128 * n + r.val, by omega⟩ : Fin 1024) d') := fun d' => congrArg x (e d')
      unfold rowNorm
      simp only [l]
      rfl
    · exact ih (by omega) p hp

/-- and every row below is in one of them. -/
theorem pieces_cover (n : ℕ) (hn : n ≤ k0_t1_loop.trips) (r : Fin 1024) (d : Fin 2048) (hr : r.val < 128 * n) :
    ∃ p ∈ pb_k0_t1 (F := Ideal) 𝒱 c bd i arg2 harg2 arg3 harg3 arg4 harg4 arg5 harg5 arg6 harg6 arg7 harg7 arg8 harg8 k0_h1 v12 v14 v18 (harg2.unread x) n, ix2 r d ∈ p.1.set := by
  induction n with
  | zero => omega
  | succ n ih =>
    rw [pb_k0_t1_succ 𝒱 c bd i arg2 harg2 arg3 harg3 arg4 harg4 arg5 harg5 arg6 harg6 arg7 harg7 arg8 harg8 k0_h1 v12 v14 v18 (harg2.unread x) ⟨n, by omega⟩, trip_eq]
    by_cases hc : r.val < 128 * n
    · obtain ⟨p, hp, hy⟩ := ih (by omega) hc
      exact ⟨p, List.mem_cons_of_mem _ hp, hy⟩
    · exact ⟨_, List.mem_cons_self, row_mem ⟨n, by omega⟩ r d (by show 128 * n ≤ r.val; omega) (by show r.val < 128 * n + 128; omega) (k0_off1_inb i ⟨n, by omega⟩ k0_h1)⟩

/-- What the loop leaves in the scratch. -/
theorem canon_eq (r : Fin 1024) (d : Fin 2048) :
    View.canon (pb_k0_t1 (F := Ideal) 𝒱 c bd i arg2 harg2 arg3 harg3 arg4 harg4 arg5 harg5 arg6 harg6 arg7 harg7 arg8 harg8 k0_h1 v12 v14 v18 (harg2.unread x) k0_t1_loop.trips) (ix2 r d)
      = rowNorm (n := 1024) x v12 v14 v18 r d :=
  View.canon_apply_of_pieces (fun y : S1024x2048.Idx => rowNorm (n := 1024) x v12 v14 v18 (y 0) (y 1)) _
    (pieces_eq 𝒱 c bd i arg2 harg2 arg3 harg3 arg4 harg4 arg5 harg5 arg6 harg6 arg7 harg7 arg8 harg8 k0_h1 v12 v14 v18 x _ le_rfl) (ix2 r d)
    (pieces_cover 𝒱 c bd i arg2 harg2 arg3 harg3 arg4 harg4 arg5 harg5 arg6 harg6 arg7 harg7 arg8 harg8 k0_h1 v12 v14 v18 x _ le_rfl r d (by rw [trips_eq]; omega))

end Loop

/-- A grid point's blocks. -/
def bx (c : Dev nD) (t : Fin cfg0.N) : S1024x2048.Idx → EReal := iblk m c 0 t
def bg (c : Dev nD) (t : Fin cfg0.N) : S1x2048.Idx → EReal := iblk m c 1 t
def bsh (c : Dev nD) (t : Fin cfg0.N) : S1x1x2048.Idx → EReal := iblk m c 2 t
def bsc (c : Dev nD) (t : Fin cfg0.N) : S1x1x2048.Idx → EReal := iblk m c 3 t
def bw (c : Dev nD) (t : Fin cfg0.N) : S2048x1024.Idx → EReal := iblk m c 4 t

/-- What the scratch and the output block hold after a grid point. -/
def scr (c : Dev nD) (n : ℕ) (h : n < cfg0.N) : S1024x2048.Idx → EReal := (outsAt0 m c n h).2
def blk (c : Dev nD) (n : ℕ) (h : n < cfg0.N) : S1024x1024.Idx → EReal := (outsAt0 m c n h).1

theorem s_A (c : Dev nD) (t : Fin cfg0.N) (h : t.val % 8 = 0) (r : Fin 1024) (d : Fin 2048) :
    scr m c t.val t.isLt (ix2 r d) = rowNorm (n := 1024) (bx m c t) (bg m c t) (bsc m c t) (bsh m c t) r d := by
  unfold scr
  rw [outsAt0_A m c t h]
  frame_out
  exact canon_eq _ _ _ _ _ _ _ _ _ _ _ _ _ _ _ _ _ _ _ _ _ _ _ r d

theorem s_B (c : Dev nD) (t : Fin cfg0.N) (h : ¬t.val % 8 = 0) :
    scr m c t.val t.isLt = scr m c (t.val - 1) (Nat.lt_of_le_of_lt (Nat.sub_le _ _) t.isLt) := by
  unfold scr
  rw [outsAt0_B m c t h]
  rfl

/-- The scratch read back whole. -/
theorem readCov_scratch (L : List (View.Piece (Elt Ideal) S1024x2048 .bf16)) :
    (View.whole cc0_scratch0).readCov L (Rect.unit (s := S1024x2048) ![0, 0] S1024x2048.size inb_S1024x2048_S1024x2048_0_0).toLoadRect = View.canon L := by
  rw [View.readCov_eq_canon']
  refine funext fun j => congrArg _ (funext fun a => Fin.ext ?_)
  refine (Rect.idx_unit_val _ _ _ _ _).trans ?_
  match a with
  | ⟨0, _⟩ => exact Nat.zero_add _
  | ⟨1, _⟩ => exact Nat.zero_add _

theorem o_eq (c : Dev nD) (t : Fin cfg0.N) (r : Fin 1024) (d : Fin 1024) :
    blk m c t.val t.isLt (ix2 r d) = max (∑ k : Fin 2048, scr m c t.val t.isLt (ix2 r k) * bw m c t (ix2 k d)) 0
      * max (∑ k : Fin 2048, scr m c t.val t.isLt (ix2 r k) * bw m c t (ix2 k d)) 0 := by
  by_cases h : t.val % 8 = 0
  · simp only [s_A m c t h]
    unfold blk
    rw [outsAt0_A m c t h]
    frame_out
    refine (pay2_apply _ _ r d).trans ?_
    rw [readCov_scratch]
    have e' := Finset.sum_congr (s₁ := Finset.univ) rfl fun (k : Fin 2048) _ => congrArg (· * bw m c t (ix2 k d))
      (canon_eq Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) scM0_0 (Memref.isWhole_whole _) ((hcond0_0 t).mpr h) (iblk m c 1 t) (iblk m c 3 t) (iblk m c 2 t) (iblk m c 0 t) r k)
    exact congrArg (fun u => max u 0 * max u 0) e'
  · rw [s_B m c t h]
    unfold blk
    rw [outsAt0_B m c t h]
    frame_out
    simp only [read_unread_whole]
    exact pay2_apply _ _ r d

theorem idx : ∀ t : Fin cfg0.N, win0_0.index t = ![t.val / 8, 0] ∧ win0_1.index t = ![0, 0]
    ∧ win0_2.index t = ![t.val / 32 * 6 + 3, 0, 0] ∧ win0_3.index t = ![t.val / 32 * 6 + 4, 0, 0]
    ∧ win0_4.index t = ![0, t.val % 8] ∧ win0_5.index t = ![t.val / 8, t.val % 8] :=
  (by decide +kernel : ∀ t : Fin grid0.N, _)

theorem lt_N (t : Fin cfg0.N) : t.val < 128 := t.isLt

theorem ix2_eq {n0 n1 : ℕ} {a a' : Fin n0} {b b' : Fin n1} (ha : a.val = a'.val) (hb : b.val = b'.val) : ix2 a b = ix2 a' b' := by
  rw [Fin.ext ha, Fin.ext hb]

theorem V_x (c : Dev nD) (R : Fin 16384) (C : Fin 2048) :
    V m c main_v0 (ix2 R C) = ax m c (ix3 ⟨R.val / 4096, by omega⟩ ⟨R.val % 4096, by omega⟩ C) := by
  have : V m c main_v0 = shapeCast S16384x2048 (ax m c) shapeCasts_S4x4096x2048_S16384x2048 := by entry_read; rfl
  rw [this]
  pointwise []
theorem V_g (c : Dev nD) (C : Fin 2048) : V m c main_v1 (ix2 0 C) = ag m c (ix1 C) := by
  have : V m c main_v1 = broadcastInDim S1x2048 ![1] bcast_S2048_S1x2048_1 (ag m c) := by entry_read; rfl
  rw [this]
  pointwise []
theorem V_w (c : Dev nD) : V m c main_v5 = (aw m c : S2048x8192.Idx → EReal) := by entry_read; rfl
theorem V_m (c : Dev nD) (R : Fin 48) (C : Fin 2048) (hR : R.val < 24) :
    V m c main_v4 (ix3 R 0 C) = am m c (ix2 ⟨R.val / 6, by omega⟩ ⟨R.val % 6 * 2048 + C.val, by omega⟩) := by
  have : V m c main_v4 = shapeCast S48x1x2048 (concatenate S8x12288 0 [⟨S4x12288, am m c⟩, ⟨S4x12288, broadcastInDim S4x12288 ![] bcast_S_S4x12288 (constant S_ .f32 0x00000000#32)⟩] concatenates_S4x12288_S4x12288_S8x12288_d0) shapeCasts_S8x12288_S48x1x2048 := by entry_read; rfl
  rw [this]
  pointwise []
  exact dif_pos (by omega)

theorem bx_apply (c : Dev nD) (t : Fin cfg0.N) (r : Fin 1024) (d : Fin 2048) : bx m c t (ix2 r d)
    = ax m c (ix3 ⟨(1024 * (t.val / 8) + r.val) / 4096, by have := lt_N t; omega⟩ ⟨(1024 * (t.val / 8) + r.val) % 4096, by omega⟩ d) := by
  obtain ⟨h0, h1, h2, h3, h4, h5⟩ := idx t
  refine Eq.trans ?_ (V_x m c ⟨1024 * (t.val / 8) + r.val, by have := lt_N t; omega⟩ d)
  unfold bx iblk
  blk_simp [h0]
  refine congrArg (V m c main_v0) (funext fun a => Fin.ext ?_)
  match a with
  | ⟨0, _⟩ => blk_simp [h0]; show t.val / 8 * 1024 + r.val = 1024 * (t.val / 8) + r.val; omega
  | ⟨1, _⟩ => blk_simp [h0]

theorem bg_apply (c : Dev nD) (t : Fin cfg0.N) (d : Fin 2048) : bg m c t (ix2 0 d) = ag m c (ix1 d) := by
  obtain ⟨h0, h1, h2, h3, h4, h5⟩ := idx t
  refine Eq.trans ?_ (V_g m c d)
  unfold bg iblk
  blk_simp [h1]
  refine congrArg (V m c main_v1) (funext fun a => Fin.ext ?_)
  match a with
  | ⟨0, _⟩ => blk_simp [h1]
  | ⟨1, _⟩ => blk_simp [h1]

theorem bsh_apply (c : Dev nD) (t : Fin cfg0.N) (d : Fin 2048) : bsh m c t (ix3 0 0 d)
    = am m c (ix2 ⟨t.val / 32, by have := lt_N t; omega⟩ ⟨6144 + d.val, by omega⟩) := by
  obtain ⟨h0, h1, h2, h3, h4, h5⟩ := idx t
  have hN := lt_N t
  refine Eq.trans ?_ ((V_m m c ⟨t.val / 32 * 6 + 3, by omega⟩ d (by show t.val / 32 * 6 + 3 < 24; omega)).trans
    (congrArg (am m c) (ix2_eq (by show (t.val / 32 * 6 + 3) / 6 = t.val / 32; omega) (by show (t.val / 32 * 6 + 3) % 6 * 2048 + d.val = 6144 + d.val; omega))))
  unfold bsh iblk
  blk_simp [h2]
  refine congrArg (V m c main_v4) (funext fun a => Fin.ext ?_)
  match a with
  | ⟨0, _⟩ => blk_simp [h2]; rfl
  | ⟨1, _⟩ => blk_simp [h2]
  | ⟨2, _⟩ => blk_simp [h2]

theorem bsc_apply (c : Dev nD) (t : Fin cfg0.N) (d : Fin 2048) : bsc m c t (ix3 0 0 d)
    = am m c (ix2 ⟨t.val / 32, by have := lt_N t; omega⟩ ⟨8192 + d.val, by omega⟩) := by
  obtain ⟨h0, h1, h2, h3, h4, h5⟩ := idx t
  have hN := lt_N t
  refine Eq.trans ?_ ((V_m m c ⟨t.val / 32 * 6 + 4, by omega⟩ d (by show t.val / 32 * 6 + 4 < 24; omega)).trans
    (congrArg (am m c) (ix2_eq (by show (t.val / 32 * 6 + 4) / 6 = t.val / 32; omega) (by show (t.val / 32 * 6 + 4) % 6 * 2048 + d.val = 8192 + d.val; omega))))
  unfold bsc iblk
  blk_simp [h3]
  refine congrArg (V m c main_v4) (funext fun a => Fin.ext ?_)
  match a with
  | ⟨0, _⟩ => blk_simp [h3]; rfl
  | ⟨1, _⟩ => blk_simp [h3]
  | ⟨2, _⟩ => blk_simp [h3]

theorem bw_apply (c : Dev nD) (t : Fin cfg0.N) (k : Fin 2048) (d : Fin 1024) : bw m c t (ix2 k d)
    = aw m c (ix2 k ⟨1024 * (t.val % 8) + d.val, by omega⟩) := by
  obtain ⟨h0, h1, h2, h3, h4, h5⟩ := idx t
  refine Eq.trans ?_ (congrFun (V_w m c) _)
  unfold bw iblk
  blk_simp [h4]
  refine congrArg (V m c main_v5) (funext fun a => Fin.ext ?_)
  match a with
  | ⟨0, _⟩ => blk_simp [h4]
  | ⟨1, _⟩ => blk_simp [h4]; show t.val % 8 * 1024 + d.val = 1024 * (t.val % 8) + d.val; omega

/-- The reference's normed and modulated row, -/
def xn (x : S4x4096x2048.Idx → EReal) (g : S2048.Idx → EReal) (md : S4x12288.Idx → EReal) (R : Fin 16384) (d : Fin 2048) : EReal :=
  x (ix3 ⟨R.val / 4096, by omega⟩ ⟨R.val % 4096, by omega⟩ d)
      * Ideal.rsqrt (Ideal.div (∑ k : Fin 2048, x (ix3 ⟨R.val / 4096, by omega⟩ ⟨R.val % 4096, by omega⟩ k) * x (ix3 ⟨R.val / 4096, by omega⟩ ⟨R.val % 4096, by omega⟩ k))
        (Ideal.ofBits FTy.f32 1157627904#32) + Ideal.ofBits FTy.f32 897988541#32)
    * g (ix1 d) * (1 + md (ix2 ⟨R.val / 4096, by omega⟩ ⟨8192 + d.val, by omega⟩)) + md (ix2 ⟨R.val / 4096, by omega⟩ ⟨6144 + d.val, by omega⟩)

/-- and its hidden entry: the square of the product's positive part. -/
def res (x : S4x4096x2048.Idx → EReal) (g : S2048.Idx → EReal) (md : S4x12288.Idx → EReal) (w : S2048x8192.Idx → EReal) (R : Fin 16384) (C : Fin 8192) : EReal :=
  max (∑ k : Fin 2048, xn x g md R k * w (ix2 k C)) 0 * max (∑ k : Fin 2048, xn x g md R k * w (ix2 k C)) 0

/-- The scratch holds the normed rows of the point's row block. -/
theorem scr_eq (c : Dev nD) (n : ℕ) : ∀ (h : n < cfg0.N) (r : Fin 1024) (d : Fin 2048),
    scr m c n h (ix2 r d) = xn (ax m c) (ag m c) (am m c) ⟨1024 * (n / 8) + r.val, by have := lt_N ⟨n, h⟩; simp only at this; omega⟩ d := by
  induction n with
  | zero =>
    intro h r d
    have e := s_A m c ⟨0, h⟩ rfl r d
    refine e.trans ?_
    unfold rowNorm xn
    simp only [bx_apply, bg_apply, bsc_apply, bsh_apply]
    have hb : (1024 * (0 / 8) + r.val) / 4096 = 0 / 32 := by omega
    simp only [hb]
  | succ n ih =>
    intro h r d
    have hN := lt_N ⟨n + 1, h⟩
    simp only at hN
    by_cases h0 : (n + 1) % 8 = 0
    · have e := s_A m c ⟨n + 1, h⟩ h0 r d
      refine e.trans ?_
      unfold rowNorm xn
      simp only [bx_apply, bg_apply, bsc_apply, bsh_apply]
      have hb : (1024 * ((n + 1) / 8) + r.val) / 4096 = (n + 1) / 32 := by omega
      simp only [hb]
    · refine (congrFun (s_B m c ⟨n + 1, h⟩ h0) _).trans ((ih (by omega) r d).trans ?_)
      have hd : n / 8 = (n + 1) / 8 := by omega
      simp only [hd]

theorem final (c : Dev nD) (t : Fin cfg0.N) (r d : Fin 1024) :
    blk m c t.val t.isLt (ix2 r d) = res (ax m c) (ag m c) (am m c) (aw m c)
      ⟨1024 * (t.val / 8) + r.val, by have := lt_N t; omega⟩ ⟨1024 * (t.val % 8) + d.val, by omega⟩ := by
  rw [o_eq]
  unfold res
  simp only [scr_eq, bw_apply]

/-- The reference's result array. -/
def out (x : S4x4096x2048.Idx → EReal) (g : S2048.Idx → EReal) (md : S4x12288.Idx → EReal) (w : S2048x8192.Idx → EReal) : S16384x8192.Idx → EReal :=
  fun i => res x g md w (i 0) (i 1)

theorem arr_eq (c : Dev nD) : (dats m 0 c).arrAt 5 cfg0.N = out (ax m c) (ag m c) (am m c) (aw m c) := by
  refine (dats m 0 c).arrAt_eq_of_covers 5 _ (by decide +kernel) fun t hf y => ?_
  blk_simp
  rw [after0_5]
  obtain ⟨r, d, rfl⟩ : ∃ (r : Fin 1024) (d : Fin 1024), y = ix2 r d := ⟨_, _, eq_ix2 y⟩
  refine (final m c t r d).trans ?_
  have hN := lt_N t
  have he : ((cfg0.win 5).blk t).view.emb (ix2 r d)
      = ix2 (⟨1024 * (t.val / 8) + r.val, by omega⟩ : Fin 16384) (⟨1024 * (t.val % 8) + d.val, by omega⟩ : Fin 8192) := by
    obtain ⟨h0, h1, h2, h3, h4, h5⟩ := idx t
    refine funext fun a => Fin.ext ?_
    match a with
    | ⟨0, _⟩ => blk_simp [h5]; show t.val / 8 * 1024 + r.val = 1024 * (t.val / 8) + r.val; omega
    | ⟨1, _⟩ => blk_simp [h5]; show t.val % 8 * 1024 + d.val = 1024 * (t.val % 8) + d.val; omega
  rw [he]
  rfl

/-- The kernel's run: its result is the reference's, of the arguments, which end unchanged. -/
theorem run_value : θ_run defs (onTc (τ := τ) (main (F := Ideal))) ⟨m, fun _ => 0, ρ⟩ (fun r => ∀ c : Dev nD,
      r.2.mem ((c.tc : Thread nD τ).loc main_v6) = out (ax m c) (ag m c) (am m c) (aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨((hr.1 c).1 5).trans (arr_eq m c), hr.2 c⟩)
    (θ_run_and (run_main m ρ) (unchanged m ρ))

end Cert.Kernel3Ideal.Up

namespace Cert.Reference3Ideal.Up

open Cert.Reference3Ideal Cert.Reference3Ideal.Gen
open Idealize.ShloMosaic Idealize.ShloMosaic.TcCoe Idealize.SL.Sem

/-- The reference's normed and modulated rows, as the host computes them. -/
def rows (x : FVec Ideal S4x4096x2048 .f32) (g : FVec Ideal S2048 .f32) (md : FVec Ideal S4x12288 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (shapeCast S4x1x2048 (extractStridedSlice S1x4x1x2048 ![4, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_4_0_0_0) shapeCasts_S1x4x1x2048_S4x1x2048)))) (broadcastInDim S4x4096x2048 ![0, 1, 2] bcast_S4x1x2048_S4x4096x2048_0_1_2 (shapeCast S4x1x2048 (extractStridedSlice S1x4x1x2048 ![3, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_3_0_0_0) shapeCasts_S1x4x1x2048_S4x1x2048))

theorem rows_apply (x : FVec Ideal S4x4096x2048 .f32) (g : FVec Ideal S2048 .f32) (md : FVec Ideal S4x12288 .f32) (R : Fin 16384) (d : Fin 2048) :
    rows x g md (ix3 ⟨R.val / 4096, by omega⟩ ⟨R.val % 4096, by omega⟩ d) = Cert.Kernel3Ideal.Up.xn x g md R d := by
  pointwise [rows]
  rfl

/-- The reference's host term, read at every index. -/
theorem term_eq (x : FVec Ideal S4x4096x2048 .f32) (g : FVec Ideal S2048 .f32) (md : FVec Ideal S4x12288 .f32) (w : FVec Ideal S2048x8192 .f32) :
    (truncf .bf16 (shapeCast S16384x8192 (mulf (maximumf (Host.dotGeneral dot_S4x4096x2048_S2048x8192_S4x4096x8192_2_0_01_1_n_n none (rows x g md) w : FVec Ideal S4x4096x8192 .f32) (broadcastInDim S4x4096x8192 ![] bcast_S_S4x4096x8192 (constant S_ .f32 0x00000000#32)))
        (maximumf (Host.dotGeneral dot_S4x4096x2048_S2048x8192_S4x4096x8192_2_0_01_1_n_n none (rows x g md) w : FVec Ideal S4x4096x8192 .f32) (broadcastInDim S4x4096x8192 ![] bcast_S_S4x4096x8192 (constant S_ .f32 0x00000000#32)))) shapeCasts_S4x4096x8192_S16384x8192) bitsLt_bf16_f32 : FVec Ideal S16384x8192 .bf16)
      = Cert.Kernel3Ideal.Up.out x g md w := by
  funext i
  obtain ⟨R, C, rfl⟩ : ∃ (R : Fin 16384) (C : Fin 8192), i = ix2 R C := ⟨_, _, eq_ix2 i⟩
  show _ = Cert.Kernel3Ideal.Up.res x g md w R C
  unfold Cert.Kernel3Ideal.Up.res
  pointwise []
  simp only [rows_apply]

end Cert.Reference3Ideal.Up

end
-- ==== Proof.In.IdealRun.lean ====
/- The input projection's body: one run of it in each of its three cases. -/
module

public import proofs.«01_k».proof.Proof.Gen.Kernel4Ideal.Frame
public import proofs.«01_k».proof.Proof.Gen.Kernel4Ideal.Skeleton
public import proofs.«01_k».proof.Proof.Gen.Kernel4Ideal.Loops
public import Idealize.ShloMosaic.Lib.Ring
public import Idealize.ShloMosaic.Lib.Claim

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true
set_option maxHeartbeats 1000000

/-- The body at the first point of a row block of the stream: it norms the block, and stores the gates and the first columns. -/
noncomputable def runA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1280x2048 .bf16) (harg7 : arg7.IsWhole) (arg8 : Memref sig .tc .vmem S1x1280 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S1024x1280 .bf16) (harg11 : arg11.IsWhole) (arg12 : Memref sig .tc .vmem S1024x128 .f32) (harg12 : arg12.IsWhole) (arg13 : Memref sig .tc .vmem S1024x2048 .bf16) (harg13 : arg13.IsWhole) (h1 : k0_cond1 i = 1#1) (h2 : k0_cond2 i = 1#1) (h3 : ¬k0_cond3 i = 1#1)
    (x0 : Vec F S1024x2048 .f32) (x1 : Vec F S1024x2048 .f32) (x2 : Vec F S1x2048 .f32) (x3 : Vec F S1x1x2048 .f32) (x4 : Vec F S1x1x2048 .f32) (x5 : Vec F S1280x2048 .bf16) (x6 : Vec F S1x1280 .f32) (x7 : Vec F S128x2048 .bf16) (x8 : Vec F S1x128 .f32) :
    Σ' (L9 : List (View.Piece (Elt F) S1024x1280 .bf16)) (L10 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    have hrd : ∀ (𝒱 : Variants) (bd : Option 𝒱.V) (v28 : Vec F S1x2048 .f32) (v30 v34 : Vec F S1x1x2048 .f32) (Xs : BufTy.Contents (Elt F) arg2.view.ty) (G : BufTy.Contents (Elt F) arg13.view.ty) (B : LoadRect S1024x2048),
        arg13.view.readAt (Elt F) B (arg13.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 h1 h2 v28 v30 v34 Xs (Scf.trips k0_t1_loop.lb k0_t1_loop.ub k0_t1_loop.st)))
          = arg13.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 h1 h2 v28 v30 v34 Xs (Scf.trips k0_t1_loop.lb k0_t1_loop.ub k0_t1_loop.st)) B :=
      fun 𝒱 bd v28 v30 v34 Xs G B => View.readAt_writes_of_cover _ G _ B
        (fun J => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 h1 h2 v28 v30 v34 Xs (Scf.trips k0_t1_loop.lb k0_t1_loop.ub k0_t1_loop.st)) S128x2048.size (by sl_kernel_rfl) (B.idx J))
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS

/-- The body at the first point of the context's row block: the same from the context's window. -/
noncomputable def runB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1280x2048 .bf16) (harg7 : arg7.IsWhole) (arg8 : Memref sig .tc .vmem S1x1280 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S1024x1280 .bf16) (harg11 : arg11.IsWhole) (arg12 : Memref sig .tc .vmem S1024x128 .f32) (harg12 : arg12.IsWhole) (arg13 : Memref sig .tc .vmem S1024x2048 .bf16) (harg13 : arg13.IsWhole) (h1 : k0_cond1 i = 1#1) (h2 : ¬k0_cond2 i = 1#1) (h3 : k0_cond3 i = 1#1)
    (x0 : Vec F S1024x2048 .f32) (x1 : Vec F S1024x2048 .f32) (x2 : Vec F S1x2048 .f32) (x3 : Vec F S1x1x2048 .f32) (x4 : Vec F S1x1x2048 .f32) (x5 : Vec F S1280x2048 .bf16) (x6 : Vec F S1x1280 .f32) (x7 : Vec F S128x2048 .bf16) (x8 : Vec F S1x128 .f32) :
    Σ' (L9 : List (View.Piece (Elt F) S1024x1280 .bf16)) (L10 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    have hrd : ∀ (𝒱 : Variants) (bd : Option 𝒱.V) (v28 : Vec F S1x2048 .f32) (v30 v34 : Vec F S1x1x2048 .f32) (Xs : BufTy.Contents (Elt F) arg3.view.ty) (G : BufTy.Contents (Elt F) arg13.view.ty) (B : LoadRect S1024x2048),
        arg13.view.readAt (Elt F) B (arg13.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 h1 h3 v28 v30 v34 Xs (Scf.trips k0_t2_loop.lb k0_t2_loop.ub k0_t2_loop.st)))
          = arg13.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 h1 h3 v28 v30 v34 Xs (Scf.trips k0_t2_loop.lb k0_t2_loop.ub k0_t2_loop.st)) B :=
      fun 𝒱 bd v28 v30 v34 Xs G B => View.readAt_writes_of_cover _ G _ B
        (fun J => View.cover_of_tiledL (pb_k0_t2 (F := F) 𝒱 c bd i arg2 harg2 arg3 harg3 arg4 harg4 arg5 harg5 arg6 harg6 arg7 harg7 arg8 harg8 arg9 harg9 arg10 harg10 arg11 harg11 arg12 harg12 arg13 harg13 h1 h3 v28 v30 v34 Xs (Scf.trips k0_t2_loop.lb k0_t2_loop.ub k0_t2_loop.st)) S128x2048.size (by sl_kernel_rfl) (B.idx J))
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS

/-- The body at a row block's other points: it reads the normed rows left there and stores its columns, the gates' buffer untouched. -/
noncomputable def runC (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1280x2048 .bf16) (harg7 : arg7.IsWhole) (arg8 : Memref sig .tc .vmem S1x1280 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S1024x1280 .bf16) (harg11 : arg11.IsWhole) (arg12 : Memref sig .tc .vmem S1024x128 .f32) (harg12 : arg12.IsWhole) (arg13 : Memref sig .tc .vmem S1024x2048 .bf16) (harg13 : arg13.IsWhole) (h1 : ¬k0_cond1 i = 1#1)
    (x0 : Vec F S1024x2048 .f32) (x1 : Vec F S1024x2048 .f32) (x2 : Vec F S1x2048 .f32) (x3 : Vec F S1x1x2048 .f32) (x4 : Vec F S1x1x2048 .f32) (x5 : Vec F S1280x2048 .bf16) (x6 : Vec F S1x1280 .f32) (x7 : Vec F S128x2048 .bf16) (x8 : Vec F S1x128 .f32) (x10 : Vec F S1024x128 .f32) (xs : Vec F S1024x2048 .bf16) :
    { L9 : List (View.Piece (Elt F) S1024x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare x10 ∗ owns (c : Thread nD τ) arg13 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hfs
    sl_exec (disch := first | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    iexists _; isplitr; · ipureintro; exact harg13.read_unread _
    iexact HS

end Cert.Kernel4Ideal.In

end
-- ==== Proof.In.IdealFrame.lean ====
/- The frame of the input projection: every run ends with the arguments unchanged and the semaphores at zero; what each
   grid point leaves in the result's buffers, in the gates' and in the scratch is `zOut`, `gOut` and `rows`. -/
module

public import proofs.«01_k».proof.Proof.In.IdealRun
public import Idealize.ShloMosaic.Lib.Pipeline.FrameSuffix
public import Idealize.ShloMosaic.Lib.Pipeline.TableIdle

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points' cases -/

theorem lt_N (t : Fin cfg0.N) : t.val < 153 := lt_of_lt_of_eq t.isLt N_0

/-- The first branch is taken at a row block's first point, -/
theorem cond1_iff : ∀ t : Fin cfg0.N, k0_cond1 (grid0.coords t) = 1#1 ↔ t.val % 9 = 0 :=
  (fun t => by
    have ht : t.val < 153 := lt_N t
    have e0 : (grid0.coords t 0).val = t.val / 9 % 17 := Pipeline.Grid.coords_val t 0 (by decide) rfl
    have e1 : (grid0.coords t 1).val = t.val / 1 % 9 := Pipeline.Grid.coords_val t 1 (by decide) rfl
    simp only [k0_cond1, e0, e1]
    word_cmp
   : ∀ t : Fin grid0.N, k0_cond1 (grid0.coords t) = 1#1 ↔ t.val % 9 = 0)

/-- the second at the points of the stream's rows, -/
theorem cond2_iff : ∀ t : Fin cfg0.N, k0_cond2 (grid0.coords t) = 1#1 ↔ t.val < 144 :=
  (fun t => by
    have ht : t.val < 153 := lt_N t
    have e0 : (grid0.coords t 0).val = t.val / 9 % 17 := Pipeline.Grid.coords_val t 0 (by decide) rfl
    have e1 : (grid0.coords t 1).val = t.val / 1 % 9 := Pipeline.Grid.coords_val t 1 (by decide) rfl
    simp only [k0_cond2, e0, e1]
    word_cmp
   : ∀ t : Fin grid0.N, k0_cond2 (grid0.coords t) = 1#1 ↔ t.val < 144)

/-- the third at those of the context's. -/
theorem cond3_iff : ∀ t : Fin cfg0.N, k0_cond3 (grid0.coords t) = 1#1 ↔ ¬t.val < 144 :=
  (fun t => by
    have ht : t.val < 153 := lt_N t
    have e0 : (grid0.coords t 0).val = t.val / 9 % 17 := Pipeline.Grid.coords_val t 0 (by decide) rfl
    have e1 : (grid0.coords t 1).val = t.val / 1 % 9 := Pipeline.Grid.coords_val t 1 (by decide) rfl
    simp only [k0_cond3, e0, e1]
    word_cmp
   : ∀ t : Fin grid0.N, k0_cond3 (grid0.coords t) = 1#1 ↔ ¬t.val < 144)

/-- A point's row block's first point. -/
def top (t : Fin cfg0.N) : Fin cfg0.N := ⟨t.val - t.val % 9, Nat.lt_of_le_of_lt (Nat.sub_le _ _) t.isLt⟩

theorem top_mod (t : Fin cfg0.N) : (top t).val % 9 = 0 := by show (t.val - t.val % 9) % 9 = 0; omega
theorem top_self (t : Fin cfg0.N) (h : t.val % 9 = 0) : top t = t := Fin.ext (by show t.val - t.val % 9 = t.val; omega)
theorem top_pred (t : Fin cfg0.N) (h : ¬t.val % 9 = 0) :
    top ⟨t.val - 1, Nat.lt_of_le_of_lt (Nat.sub_le _ _) t.isLt⟩ = top t :=
  Fin.ext (by show t.val - 1 - (t.val - 1) % 9 = t.val - t.val % 9; omega)

/-! ## The buffers at a grid point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1280 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The scratch of the normed rows. -/
abbrev scM0_0 : Memref sig .tc .vmem S1024x2048 .bf16 := Memref.whole cc0_scratch0

/-- The invariant between points, its scratch as a memref owned at some contents. -/
theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-! ## What the body leaves -/

/-- The pieces stored at the first point of a row block of the stream: into the result's buffer, -/
def zA (c : Dev nD) (t : Fin cfg0.N) (h : t.val % 9 = 0) (h' : t.val < 144) : List (View.Piece (Elt F) S1024x1280 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (fun e => (cond3_iff t).mp e h') (iblk m c 0 t) (iblk m c 1 t) (iblk m c 2 t) (iblk m c 3 t) (iblk m c 4 t) (iblk m c 5 t) (iblk m c 6 t) (iblk m c 7 t) (iblk m c 8 t)).1
/-- into the gates', -/
def gA (c : Dev nD) (t : Fin cfg0.N) (h : t.val % 9 = 0) (h' : t.val < 144) : List (View.Piece (Elt F) S1024x128 .f32) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (fun e => (cond3_iff t).mp e h') (iblk m c 0 t) (iblk m c 1 t) (iblk m c 2 t) (iblk m c 3 t) (iblk m c 4 t) (iblk m c 5 t) (iblk m c 6 t) (iblk m c 7 t) (iblk m c 8 t)).2.1
/-- and into the scratch. -/
def sA (c : Dev nD) (t : Fin cfg0.N) (h : t.val % 9 = 0) (h' : t.val < 144) : List (View.Piece (Elt F) S1024x2048 .bf16) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (fun e => (cond3_iff t).mp e h') (iblk m c 0 t) (iblk m c 1 t) (iblk m c 2 t) (iblk m c 3 t) (iblk m c 4 t) (iblk m c 5 t) (iblk m c 6 t) (iblk m c 7 t) (iblk m c 8 t)).2.2.1

theorem zA_cover (c : Dev nD) (t : Fin cfg0.N) (h : t.val % 9 = 0) (h' : t.val < 144) (y : S1024x1280.Idx) : ∃ p ∈ zA m c t h h', y ∈ p.1.set :=
  View.cover_of_tiledL (zA m c t h h') S1024x1280.size (by sl_kernel_rfl) y
theorem gA_cover (c : Dev nD) (t : Fin cfg0.N) (h : t.val % 9 = 0) (h' : t.val < 144) (y : S1024x128.Idx) : ∃ p ∈ gA m c t h h', y ∈ p.1.set :=
  View.cover_of_tiledL (gA m c t h h') S1024x128.size (by sl_kernel_rfl) y
theorem sA_cover (c : Dev nD) (t : Fin cfg0.N) (h : t.val % 9 = 0) (h' : t.val < 144) (y : S1024x2048.Idx) : ∃ p ∈ sA m c t h h', y ∈ p.1.set :=
  View.cover_of_tiledL (sA m c t h h') S128x2048.size (by sl_kernel_rfl) y

/-- The pieces stored at the first point of the context's row block: into the result's buffer, -/
def zB (c : Dev nD) (t : Fin cfg0.N) (h : t.val % 9 = 0) (h' : ¬t.val < 144) : List (View.Piece (Elt F) S1024x1280 .bf16) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) (fun e => h' ((cond2_iff t).mp e)) ((cond3_iff t).mpr h') (iblk m c 0 t) (iblk m c 1 t) (iblk m c 2 t) (iblk m c 3 t) (iblk m c 4 t) (iblk m c 5 t) (iblk m c 6 t) (iblk m c 7 t) (iblk m c 8 t)).1
/-- into the gates', -/
def gB (c : Dev nD) (t : Fin cfg0.N) (h : t.val % 9 = 0) (h' : ¬t.val < 144) : List (View.Piece (Elt F) S1024x128 .f32) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) (fun e => h' ((cond2_iff t).mp e)) ((cond3_iff t).mpr h') (iblk m c 0 t) (iblk m c 1 t) (iblk m c 2 t) (iblk m c 3 t) (iblk m c 4 t) (iblk m c 5 t) (iblk m c 6 t) (iblk m c 7 t) (iblk m c 8 t)).2.1
/-- and into the scratch. -/
def sB (c : Dev nD) (t : Fin cfg0.N) (h : t.val % 9 = 0) (h' : ¬t.val < 144) : List (View.Piece (Elt F) S1024x2048 .bf16) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) (fun e => h' ((cond2_iff t).mp e)) ((cond3_iff t).mpr h') (iblk m c 0 t) (iblk m c 1 t) (iblk m c 2 t) (iblk m c 3 t) (iblk m c 4 t) (iblk m c 5 t) (iblk m c 6 t) (iblk m c 7 t) (iblk m c 8 t)).2.2.1

theorem zB_cover (c : Dev nD) (t : Fin cfg0.N) (h : t.val % 9 = 0) (h' : ¬t.val < 144) (y : S1024x1280.Idx) : ∃ p ∈ zB m c t h h', y ∈ p.1.set :=
  View.cover_of_tiledL (zB m c t h h') S1024x1280.size (by sl_kernel_rfl) y
theorem gB_cover (c : Dev nD) (t : Fin cfg0.N) (h : t.val % 9 = 0) (h' : ¬t.val < 144) (y : S1024x128.Idx) : ∃ p ∈ gB m c t h h', y ∈ p.1.set :=
  View.cover_of_tiledL (gB m c t h h') S1024x128.size (by sl_kernel_rfl) y
theorem sB_cover (c : Dev nD) (t : Fin cfg0.N) (h : t.val % 9 = 0) (h' : ¬t.val < 144) (y : S1024x2048.Idx) : ∃ p ∈ sB m c t h h', y ∈ p.1.set :=
  View.cover_of_tiledL (sB m c t h h') S128x2048.size (by sl_kernel_rfl) y

/-- The normed rows a row block's first point leaves in the scratch, -/
def rowsAt (c : Dev nD) (t : Fin cfg0.N) (h : t.val % 9 = 0) : Vec F S1024x2048 .bf16 :=
  if h' : t.val < 144 then View.canon (sA m c t h h') else View.canon (sB m c t h h')
/-- and the gates it leaves in their buffer. -/
def gatesAt (c : Dev nD) (t : Fin cfg0.N) (h : t.val % 9 = 0) : Vec F S1024x128 .f32 :=
  if h' : t.val < 144 then View.canon (gA m c t h h') else View.canon (gB m c t h h')
/-- Every point finds or leaves its row block's rows, -/
def rows (c : Dev nD) (t : Fin cfg0.N) : Vec F S1024x2048 .bf16 := rowsAt m c (top t) (top_mod t)
/-- and its row block's gates. -/
def gOut (c : Dev nD) (t : Fin cfg0.N) : Vec F S1024x128 .f32 := gatesAt m c (top t) (top_mod t)

/-- The pieces stored at a row block's other points. -/
def zC (c : Dev nD) (t : Fin cfg0.N) (h : ¬t.val % 9 = 0) : List (View.Piece (Elt F) S1024x1280 .bf16) :=
  (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => h ((cond1_iff t).mp e)) (iblk m c 0 t) (iblk m c 1 t) (iblk m c 2 t) (iblk m c 3 t) (iblk m c 4 t) (iblk m c 5 t) (iblk m c 6 t) (iblk m c 7 t) (iblk m c 8 t) (gOut m c t) (rows m c t)).1
theorem zC_cover (c : Dev nD) (t : Fin cfg0.N) (h : ¬t.val % 9 = 0) (y : S1024x1280.Idx) : ∃ p ∈ zC m c t h, y ∈ p.1.set :=
  View.cover_of_tiledL (zC m c t h) S1024x1280.size (by sl_kernel_rfl) y

/-- What a point leaves in the result's buffer. -/
def zOut (c : Dev nD) (t : Fin cfg0.N) : Vec F S1024x1280 .bf16 :=
  if h : t.val % 9 = 0 then (if h' : t.val < 144 then View.canon (zA m c t h h') else View.canon (zB m c t h h')) else View.canon (zC m c t h)

theorem rows_A (c : Dev nD) (t : Fin cfg0.N) (h : t.val % 9 = 0) (h' : t.val < 144) : rows m c t = View.canon (sA m c t h h') := by
  unfold rows
  have e : ∀ t' (k : t'.val % 9 = 0), t' = t → rowsAt m c t' k = rowsAt m c t h := by rintro _ _ rfl; rfl
  exact (e _ _ (top_self t h)).trans (dif_pos h')
theorem rows_B (c : Dev nD) (t : Fin cfg0.N) (h : t.val % 9 = 0) (h' : ¬t.val < 144) : rows m c t = View.canon (sB m c t h h') := by
  unfold rows
  have e : ∀ t' (k : t'.val % 9 = 0), t' = t → rowsAt m c t' k = rowsAt m c t h := by rintro _ _ rfl; rfl
  exact (e _ _ (top_self t h)).trans (dif_neg h')
theorem rows_C (c : Dev nD) (t : Fin cfg0.N) (h : ¬t.val % 9 = 0) :
    rows m c ⟨t.val - 1, Nat.lt_of_le_of_lt (Nat.sub_le _ _) t.isLt⟩ = rows m c t := by
  unfold rows
  have e : ∀ t' (k : t'.val % 9 = 0), t' = top t → rowsAt m c t' k = rowsAt m c (top t) (top_mod t) := by rintro _ _ rfl; rfl
  exact e _ _ (top_pred t h)
theorem gOut_A (c : Dev nD) (t : Fin cfg0.N) (h : t.val % 9 = 0) (h' : t.val < 144) : gOut m c t = View.canon (gA m c t h h') := by
  unfold gOut
  have e : ∀ t' (k : t'.val % 9 = 0), t' = t → gatesAt m c t' k = gatesAt m c t h := by rintro _ _ rfl; rfl
  exact (e _ _ (top_self t h)).trans (dif_pos h')
theorem gOut_B (c : Dev nD) (t : Fin cfg0.N) (h : t.val % 9 = 0) (h' : ¬t.val < 144) : gOut m c t = View.canon (gB m c t h h') := by
  unfold gOut
  have e : ∀ t' (k : t'.val % 9 = 0), t' = t → gatesAt m c t' k = gatesAt m c t h := by rintro _ _ rfl; rfl
  exact (e _ _ (top_self t h)).trans (dif_neg h')
theorem gOut_C (c : Dev nD) (t : Fin cfg0.N) (h : ¬t.val % 9 = 0) :
    gOut m c ⟨t.val - 1, Nat.lt_of_le_of_lt (Nat.sub_le _ _) t.isLt⟩ = gOut m c t := by
  unfold gOut
  have e : ∀ t' (k : t'.val % 9 = 0), t' = top t → gatesAt m c t' k = gatesAt m c (top t) (top_mod t) := by rintro _ _ rfl; rfl
  exact e _ _ (top_pred t h)
theorem zOut_A (c : Dev nD) (t : Fin cfg0.N) (h : t.val % 9 = 0) (h' : t.val < 144) : zOut m c t = View.canon (zA m c t h h') :=
  (dif_pos h).trans (dif_pos h')
theorem zOut_B (c : Dev nD) (t : Fin cfg0.N) (h : t.val % 9 = 0) (h' : ¬t.val < 144) : zOut m c t = View.canon (zB m c t h h') :=
  (dif_pos h).trans (dif_neg h')
theorem zOut_C (c : Dev nD) (t : Fin cfg0.N) (h : ¬t.val % 9 = 0) : zOut m c t = View.canon (zC m c t h) := dif_neg h

/-! ## The data of the pipeline -/

/-- Before the first point the scratch holds anything; after a point, that point's row block's rows. -/
def PhiS (c : Dev nD) : (n : ℕ) → n ≤ cfg0.N → sProp 𝕄
  | 0, _ => Pipeline.ΦA spec0 c
  | n + 1, hn => iprop(iprop(owns (c : Thread nD τ) scM0_0 fullShare (rows m c ⟨n, hn⟩)) ∗ (∃ r, prngReg c r))

/-- The arrays as the launch finds them; after a point each input's buffer at its block, the result's at `zOut`, the
    gates' at `gOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => zOut m c t
    | ⟨10, _⟩ => gOut m c t
  Φ t := PhiS m c t.val (Nat.le_of_lt_succ t.isLt)
  q w := Pipeline.shareOf spec0 w
  owed _ := 0

/-- The arrays of the data are those the launch finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = zOut m c t := by dsimp only [dats]
theorem after0_10 (c : Dev nD) (t : Fin cfg0.N) : (dats m 0 c).after 10 t = gOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem idle_eq (t : Fin cfg0.N) : cfg0.idle 10 (grid0.coords t) = !(k0_cond1 (grid0.coords t) == 1#1) := rfl

theorem idle_iff (t : Fin cfg0.N) : cfg0.idle 10 (grid0.coords t) = true ↔ ¬t.val % 9 = 0 := by
  rw [idle_eq, ← cond1_iff t]
  simp

/-- The gates' buffer holds nothing yet at a row block's first point only. -/
theorem fresh_eq : ∀ (n : ℕ), n ≤ cfg0.N → (cfg0.fresh 10 n = true ↔ n % 9 = 0)
  | 0, _ => by rw [Pipeline.Cfg.fresh_zero]; simp
  | n + 1, h => by
    have hi := idle_iff ⟨n, h⟩
    have hf := flush0_10 ⟨n, h⟩
    have ih := fresh_eq n (Nat.le_of_lt h)
    rw [Pipeline.Cfg.fresh_succ cfg0 10 n h, Bool.or_eq_true, Bool.and_eq_true]
    refine Iff.trans (or_congr hf (and_congr hi ih)) ?_
    show n % 9 = 8 ∨ (¬n % 9 = 0 ∧ n % 9 = 0) ↔ (n + 1) % 9 = 0
    omega

/-- The gates' buffer at a row block's other points holds what the point before left. -/
theorem before0_10 (c : Dev nD) (t : Fin cfg0.N) (h : ¬t.val % 9 = 0) (d) : (dats m 0 c).before 10 t d = gOut m c t := by
  rw [Dat.before_out_traj _ 10 rfl (fun _ _ => rfl) (fun t _ hi _ => by
      rw [after0_10, after0_10]; exact (gOut_C m c t ((idle_iff t).mp hi)).symm) t.val t rfl d,
    if_neg (fun e => h ((fresh_eq t.val (Nat.le_of_lt t.isLt)).mp e)), after0_10]
  exact gOut_C m c t h

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem PhiS_pos (c : Dev nD) (n : ℕ) (h : n ≤ cfg0.N) (hz : n ≠ 0) :
    PhiS m c n h = iprop(iprop(owns (c : Thread nD τ) scM0_0 fullShare (rows m c ⟨n - 1, by omega⟩)) ∗ (∃ r, prngReg c r)) := by
  cases n with
  | zero => exact absurd rfl hz
  | succ n => rfl

/-- Whatever the point, the scratch is owned at some contents. -/
theorem PhiS_some (c : Dev nD) (n : ℕ) (h : n ≤ cfg0.N) :
    PhiS m c n h ⊢ iprop(iprop((∃ d, owns (c : Thread nD τ) scM0_0 fullShare d)) ∗ (∃ r, prngReg c r)) := by
  cases n with
  | zero => rw [← PhiA0_eq]; exact .rfl
  | succ n =>
    unfold PhiS
    iintro ⟨HS, Hg⟩
    isplitl [HS]
    · iexists _; iexact HS
    iexact Hg

/-! ## The body's obligation -/

/-- What the body is entered with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 3200000 in
theorem sound_A (c : Dev nD) (t : Fin cfg0.N) (h : t.val % 9 = 0) (h' : t.val < 144) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.succ = iprop(iprop(owns (c : Thread nD τ) scM0_0 fullShare (rows m c t)) ∗ (∃ r, prngReg c r)) from rfl, Phi_castSucc]
  rw [zOut_A m c t h h', gOut_A m c t h h', rows_A m c t h h']
  refine (sep_mono_left (PhiS_some m c _ _)).trans ?_
  unfold zA gA sA
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ ((cond1_iff t).mpr h) ((cond2_iff t).mpr h') (fun e => (cond3_iff t).mp e h') (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, ⟨%e9, H9⟩, ⟨%e10, H10⟩, ⟨%es, HS⟩⟩
  isplitl [HS Hg]
  · isplitl [HS]
    · unfold owns; iexists _; isplitr
      swap; · iexact HS
      ipureintro; exact View.read_writes_eq_canon _ _ _ (sA_cover m c t h h')
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (zA_cover m c t h h')
  unfold owns; iexists _; isplitr
  swap; · iexact H10
  ipureintro; exact View.read_writes_eq_canon _ _ _ (gA_cover m c t h h')

set_option maxHeartbeats 3200000 in
theorem sound_B (c : Dev nD) (t : Fin cfg0.N) (h : t.val % 9 = 0) (h' : ¬t.val < 144) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.succ = iprop(iprop(owns (c : Thread nD τ) scM0_0 fullShare (rows m c t)) ∗ (∃ r, prngReg c r)) from rfl, Phi_castSucc]
  rw [zOut_B m c t h h', gOut_B m c t h h', rows_B m c t h h']
  refine (sep_mono_left (PhiS_some m c _ _)).trans ?_
  unfold zB gB sB
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ ((cond1_iff t).mpr h) (fun e => h' ((cond2_iff t).mp e)) ((cond3_iff t).mpr h') (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, ⟨%e9, H9⟩, ⟨%e10, H10⟩, ⟨%es, HS⟩⟩
  isplitl [HS Hg]
  · isplitl [HS]
    · unfold owns; iexists _; isplitr
      swap; · iexact HS
      ipureintro; exact View.read_writes_eq_canon _ _ _ (sB_cover m c t h h')
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (zB_cover m c t h h')
  unfold owns; iexists _; isplitr
  swap; · iexact H10
  ipureintro; exact View.read_writes_eq_canon _ _ _ (gB_cover m c t h h')

set_option maxHeartbeats 3200000 in
theorem sound_C (c : Dev nD) (t : Fin cfg0.N) (h : ¬t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_10 m c t h]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.succ = iprop(iprop(owns (c : Thread nD τ) scM0_0 fullShare (rows m c t)) ∗ (∃ r, prngReg c r)) from rfl, Phi_castSucc]
  rw [PhiS_pos m c _ _ (fun e => h (by rw [e])), rows_C m c t h, zOut_C m c t h]
  unfold zC
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ (fun e => h ((cond1_iff t).mp e)) (iblk m c 0 t) (iblk m c 1 t) (iblk m c 2 t) (iblk m c 3 t) (iblk m c 4 t) (iblk m c 5 t) (iblk m c 6 t) (iblk m c 7 t) (iblk m c 8 t) (gOut m c t) (rows m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [HS]; · iexact HS
  iintro ⟨H0, H1, H2, H3, H4, H5, H6, H7, H8, ⟨%e9, H9⟩, H10, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (zC_cover m c t h)
  iexact H10

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 9 = 0
  · by_cases h' : t.val < 144
    · exact sound_A m c t h h'
    · exact sound_B m c t h h'
  · exact sound_C m c t h

theorem defs₀_row (t : Fin cfg0.N) :
    defs₀ (F := F) .tc cfg0.body (cfg0.bodyArgs t (cfg0.slots t)) = bodyAt0 t := by
  unfold defs₀; rw [Defs.onTc_tc]

theorem leaves_0 (c : Dev nD) (t : Fin cfg0.N) : (dats m 0 c).leavesExact 0 t = owns (c : Thread nD τ) (ms0_0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (ms0_1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (ms0_2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (ms0_3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (ms0_4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (ms0_5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (ms0_6 t) fullShare ((dats m 0 c).after 6 t) := by
  unfold Dat.leavesExact; rw [show cfg0.idle 6 (cfg0.grid.coords t) = false from rfl]
theorem leaves_7 (c : Dev nD) (t : Fin cfg0.N) : (dats m 0 c).leavesExact 7 t = owns (c : Thread nD τ) (ms0_7 t) fullShare ((dats m 0 c).after 7 t) := by
  unfold Dat.leavesExact; rw [show cfg0.idle 7 (cfg0.grid.coords t) = false from rfl]
theorem leaves_8 (c : Dev nD) (t : Fin cfg0.N) : (dats m 0 c).leavesExact 8 t = owns (c : Thread nD τ) (ms0_8 t) fullShare ((dats m 0 c).after 8 t) := by
  unfold Dat.leavesExact; rw [show cfg0.idle 8 (cfg0.grid.coords t) = false from rfl]
theorem leaves_9 (c : Dev nD) (t : Fin cfg0.N) : (dats m 0 c).leavesExact 9 t = owns (c : Thread nD τ) (ms0_9 t) fullShare ((dats m 0 c).after 9 t) := by
  unfold Dat.leavesExact; rw [show cfg0.idle 9 (cfg0.grid.coords t) = false from rfl]

/-- The gates' buffer as the body leaves it: at the points that store nothing into it, as it was found. -/
theorem leaves_10 (c : Dev nD) (t : Fin cfg0.N) :
    owns (c : Thread nD τ) (ms0_10 t) fullShare ((dats m 0 c).after 10 t) ⊢ ((dats m 0 c).leavesExact 10 t : sProp 𝕄) := by
  unfold Dat.leavesExact
  cases hi : cfg0.idle 10 (cfg0.grid.coords t)
  · exact .rfl
  · cases hf : (cfg0.win 10).flush t
    · dsimp only
      iintro H
      iexists (gOut m c t)
      rw [before0_10 m c t ((idle_iff t).mp hi), after0_10]
      iexact H
    · exact .rfl

/-- What the pipeline takes back from the body. -/
def bodyLeft (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem post_left (c : Dev nD) (t : Fin cfg0.N) : bodyPost m c t ⊢ bodyLeft m c t := by
  unfold bodyPost bodyLeft
  rw [leaves_0, leaves_1, leaves_2, leaves_3, leaves_4, leaves_5, leaves_6, leaves_7, leaves_8, leaves_9]
  iintro ⟨HΦ, Ho, H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_10 m c t)
  iexact H10

/-- The obligation the pipeline's rule asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_left m c t

theorem hin (c : Dev nD) : Pipeline.ΦA spec0 c ⊢ (dats m 0 c).Φ 0 := by
  rw [show (dats m 0 c).Φ 0 = PhiS m c 0 (Nat.zero_le _) from rfl]
  unfold PhiS
  exact Idealize.SL.BI.Entails.refl _

theorem hout (c : Dev nD) : (dats m 0 c).Φ (Fin.last cfg0.N) ⊢ Pipeline.ΦA spec0 c := by
  have e : ∀ t : Fin (cfg0.N + 1), (dats m 0 c).Φ t = PhiS m c t.val (Nat.le_of_lt_succ t.isLt) := fun _ => rfl
  rw [e, PhiA0_eq]
  exact PhiS_some m c _ _

/-! ## The run and the frame -/

set_option backward.isDefEq.respectTransparency.types false in
/-- The whole program runs to the pipeline's post, with every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end as they began and every semaphore ends at zero: the frame claim, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel4Ideal.In

end
-- ==== Proof.In.Rows.lean ====
/- The input projection: what each grid point leaves in the scratch and in the two results' buffers, entry by entry. -/
module

public import proofs.«01_k».proof.Proof.In.IdealFrame
public import Idealize.ShloMosaic.Lib.Pipeline.ValueKit
public import Idealize.ShloMosaic.Lib.Pipeline.ReadBack

@[expose] public section

set_option maxRecDepth 16384

noncomputable section

namespace Cert.Kernel4Ideal.In

open Cert.Kernel4Ideal Cert.Kernel4Ideal.Gen
open Idealize.ShloMosaic Idealize.ShloMosaic.TcCoe Idealize.SL.Sem

variable (m : (ℓ : Loc nD τ sig) → Buf (Elt Ideal) ℓ) (ρ : Dev nD → PrngReg)

/-- A row normed by its mean square, times the gain, modulated. -/
def rowNorm {n : ℕ} (x : (⟨2, ![n, 2048]⟩ : Shape).Idx → EReal) (g : S1x2048.Idx → EReal) (sc sh : S1x1x2048.Idx → EReal) (r : Fin n) (d : Fin 2048) : EReal :=
  x (ix2 r d) * Ideal.rsqrt (Ideal.div (∑ k : Fin 2048, x (ix2 r k) * x (ix2 r k)) (Ideal.ofBits FTy.f32 1157627904#32) + Ideal.ofBits FTy.f32 897988541#32)
    * g (ix2 0 d) * (1 + sc (ix3 0 0 d)) + sh (ix3 0 0 d)

theorem pay1_apply (v28 : Vec Ideal S1x2048 .f32) (v30 : Vec Ideal S1x1x2048 .f32) (v34 : Vec Ideal S1x1x2048 .f32) (v40 : Vec Ideal S128x2048 .f32) (r : Fin 128) (d : Fin 2048) :
    k0_pay1 v28 v30 v34 v40 (ix2 r d) = rowNorm (n := 128) v40 v28 v30 v34 r d := by
  pointwise [k0_pay1]
  rfl
theorem pay2_apply (v28 : Vec Ideal S1x2048 .f32) (v30 : Vec Ideal S1x1x2048 .f32) (v34 : Vec Ideal S1x1x2048 .f32) (v40 : Vec Ideal S128x2048 .f32) (r : Fin 128) (d : Fin 2048) :
    k0_pay2 v28 v30 v34 v40 (ix2 r d) = rowNorm (n := 128) v40 v28 v30 v34 r d := by
  pointwise [k0_pay2]
  rfl
/-- The gates: the normed rows times the gates' packed rows, plus their bias. -/
theorem pay3_apply (a : Vec Ideal S1024x2048 .bf16) (w : Vec Ideal S128x2048 .bf16) (b : Vec Ideal S1x128 .f32) (r : Fin 1024) (d : Fin 128) :
    k0_pay3 a w b (ix2 r d) = (∑ k : Fin 2048, a (ix2 r k) * w (ix2 d k) : EReal) + b (ix2 0 d) := by
  pointwise [k0_pay3]
/-- The block: the normed rows times the block's packed rows, plus its bias. -/
theorem pay4_apply (a : Vec Ideal S1024x2048 .bf16) (w : Vec Ideal S1280x2048 .bf16) (b : Vec Ideal S1x1280 .f32) (r : Fin 1024) (d : Fin 1280) :
    k0_pay4 a w b (ix2 r d) = (∑ k : Fin 2048, a (ix2 r k) * w (ix2 d k) : EReal) + b (ix2 0 d) := by
  pointwise [k0_pay4]

theorem off1_eq : ∀ k : Fin k0_t1_loop.trips, k0_off1 k = ![128 * k.val, 0] := by decide +kernel
theorem trips1_eq : k0_t1_loop.trips = 8 := by decide +kernel

/-- A row of a trip's stretch lies in its rectangle. -/
theorem row1_mem (k : Fin k0_t1_loop.trips) (r : Fin 1024) (d : Fin 2048) (h : 128 * k.val ≤ r.val) (h' : r.val < 128 * k.val + 128)
    (hi : ∀ a, k0_off1 k a + S128x2048.size a ≤ S1024x2048.size a) : ix2 r d ∈ (Rect.unit (s := S1024x2048) (k0_off1 k) S128x2048.size hi).set := by
  have ho := off1_eq k
  refine Rect.mem_set_unit.mpr fun a => ?_
  rw [congrFun ho a]
  match a with
  | ⟨0, _⟩ => exact ⟨h, h'⟩
  | ⟨1, _⟩ => exact ⟨Nat.zero_le _, by show d.val < 0 + 2048; omega⟩

section Loop1

variable (𝒱 : Variants) (c : Dev nD) (bd : Option 𝒱.V) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1280x2048 .bf16) (harg7 : arg7.IsWhole) (arg8 : Memref sig .tc .vmem S1x1280 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S1024x1280 .bf16) (harg11 : arg11.IsWhole) (arg12 : Memref sig .tc .vmem S1024x128 .f32) (harg12 : arg12.IsWhole) (arg13 : Memref sig .tc .vmem S1024x2048 .bf16) (harg13 : arg13.IsWhole) (k0_h1 : k0_cond1 i = 1#1) (k0_h2 : k0_cond2 i = 1#1)
  (v28 : Vec Ideal S1x2048 .f32) (v30 : Vec Ideal S1x1x2048 .f32) (v34 : Vec Ideal S1x1x2048 .f32) (x : Vec Ideal S1024x2048 .f32)

/-- One trip stores one piece: its 128 rows. -/
theorem trip1_eq (k : Fin k0_t1_loop.trips) : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) k
    = [⟨Rect.unit (s := S1024x2048) (k0_off1 k) S128x2048.size (k0_off1_inb i k k0_h1 k0_h2), k0_pay1 v28 v30 v34 (View.ld x (Rect.unit (s := S1024x2048) (k0_off1 k) S128x2048.size (k0_off1_inb i k k0_h1 k0_h2)))⟩] := by
  unfold tripL_k0_t1 trip_k0_t1
  simp only [View.readAt_eq_ld, Memref.IsWhole.read_unread]

/-- The pieces of the first `n` trips: each agrees with the normed rows, -/
theorem pieces1_eq (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) n,
      ∀ j, p.2 j = (fun y : S1024x2048.Idx => rowNorm (n := 1024) x v28 v30 v34 (y 0) (y 1)) (p.1.emb j) := by
  induction n with
  | zero => intro p hp; exact absurd hp List.not_mem_nil
  | succ n ih =>
    intro p hp
    rw [pb_k0_t1_succ 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) ⟨n, by omega⟩, trip1_eq] at hp
    simp only [List.cons_append, List.nil_append, List.mem_cons] at hp
    rcases hp with rfl | hp
    · intro j
      obtain ⟨r, d, rfl⟩ : ∃ (r : Fin 128) (d : Fin 2048), j = ix2 r d := ⟨_, _, eq_ix2 j⟩
      have ho := off1_eq ⟨n, by omega⟩
      have hn8 : n < 8 := by have := trips1_eq; omega
      have e : ∀ d' : Fin 2048, (Rect.unit (s := S1024x2048) (k0_off1 ⟨n, by omega⟩) S128x2048.size (k0_off1_inb i ⟨n, by omega⟩ k0_h1 k0_h2)).emb (ix2 r d')
          = ix2 (⟨128 * n + r.val, by omega⟩ : Fin 1024) d' := by
        intro d'
        refine funext fun a => Fin.ext ((Rect.idx_unit_val _ _ _ _ _).trans ((congrArg (· + _) (congrFun ho a)).trans ?_))
        match a with
        | ⟨0, _⟩ => rfl
        | ⟨1, _⟩ => show 0 + d'.val = d'.val; omega
      refine (pay1_apply _ _ _ _ r d).trans ?_
      show _ = (fun y : S1024x2048.Idx => rowNorm (n := 1024) x v28 v30 v34 (y 0) (y 1)) _
      rw [e d]
      have l : ∀ d' : Fin 2048, View.ld x (Rect.unit (s := S1024x2048) (k0_off1 ⟨n, by omega⟩) S128x2048.size (k0_off1_inb i ⟨n, by omega⟩ k0_h1 k0_h2)) (ix2 r d')
          = x (ix2 (⟨128 * n + r.val, by omega⟩ : Fin 1024) d') := fun d' => congrArg x (e d')
      unfold rowNorm
      simp only [l]
      rfl
    · exact ih (by omega) p hp

/-- and every row below is in one of them. -/
theorem pieces1_cover (n : ℕ) (hn : n ≤ k0_t1_loop.trips) (r : Fin 1024) (d : Fin 2048) (hr : r.val < 128 * n) :
    ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) n, ix2 r d ∈ p.1.set := by
  induction n with
  | zero => omega
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) ⟨n, by omega⟩, trip1_eq]
    by_cases hc : r.val < 128 * n
    · obtain ⟨p, hp, hy⟩ := ih (by omega) hc
      exact ⟨p, List.mem_cons_of_mem _ hp, hy⟩
    · exact ⟨_, List.mem_cons_self, row1_mem ⟨n, by omega⟩ r d (by show 128 * n ≤ r.val; omega) (by show r.val < 128 * n + 128; omega) (k0_off1_inb i ⟨n, by omega⟩ k0_h1 k0_h2)⟩

/-- What the loop leaves in the scratch. -/
theorem canon1_eq (r : Fin 1024) (d : Fin 2048) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 (harg2.unread x) k0_t1_loop.trips) (ix2 r d)
      = rowNorm (n := 1024) x v28 v30 v34 r d :=
  View.canon_apply_of_pieces (fun y : S1024x2048.Idx => rowNorm (n := 1024) x v28 v30 v34 (y 0) (y 1)) _
    (pieces1_eq 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 x _ le_rfl) (ix2 r d)
    (pieces1_cover 𝒱 c bd i arg2 harg2 arg3 harg3 arg4 harg4 arg5 harg5 arg6 harg6 arg7 harg7 arg8 harg8 arg9 harg9 arg10 harg10 arg11 harg11 arg12 harg12 arg13 harg13 k0_h1 k0_h2 v28 v30 v34 x _ le_rfl r d (by rw [trips1_eq]; omega))

end Loop1

theorem off2_eq : ∀ k : Fin k0_t2_loop.trips, k0_off2 k = ![128 * k.val, 0] := by decide +kernel
theorem trips2_eq : k0_t2_loop.trips = 8 := by decide +kernel

/-- A row of a trip's stretch lies in its rectangle. -/
theorem row2_mem (k : Fin k0_t2_loop.trips) (r : Fin 1024) (d : Fin 2048) (h : 128 * k.val ≤ r.val) (h' : r.val < 128 * k.val + 128)
    (hi : ∀ a, k0_off2 k a + S128x2048.size a ≤ S1024x2048.size a) : ix2 r d ∈ (Rect.unit (s := S1024x2048) (k0_off2 k) S128x2048.size hi).set := by
  have ho := off2_eq k
  refine Rect.mem_set_unit.mpr fun a => ?_
  rw [congrFun ho a]
  match a with
  | ⟨0, _⟩ => exact ⟨h, h'⟩
  | ⟨1, _⟩ => exact ⟨Nat.zero_le _, by show d.val < 0 + 2048; omega⟩

section Loop2

variable (𝒱 : Variants) (c : Dev nD) (bd : Option 𝒱.V) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1280x2048 .bf16) (harg7 : arg7.IsWhole) (arg8 : Memref sig .tc .vmem S1x1280 .f32) (harg8 : arg8.IsWhole) (arg9 : Memref sig .tc .vmem S128x2048 .bf16) (harg9 : arg9.IsWhole) (arg10 : Memref sig .tc .vmem S1x128 .f32) (harg10 : arg10.IsWhole) (arg11 : Memref sig .tc .vmem S1024x1280 .bf16) (harg11 : arg11.IsWhole) (arg12 : Memref sig .tc .vmem S1024x128 .f32) (harg12 : arg12.IsWhole) (arg13 : Memref sig .tc .vmem S1024x2048 .bf16) (harg13 : arg13.IsWhole) (k0_h1 : k0_cond1 i = 1#1) (k0_h3 : k0_cond3 i = 1#1)
  (v28 : Vec Ideal S1x2048 .f32) (v30 : Vec Ideal S1x1x2048 .f32) (v34 : Vec Ideal S1x1x2048 .f32) (x : Vec Ideal S1024x2048 .f32)

/-- One trip stores one piece: its 128 rows. -/
theorem trip2_eq (k : Fin k0_t2_loop.trips) : tripL_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) k
    = [⟨Rect.unit (s := S1024x2048) (k0_off2 k) S128x2048.size (k0_off2_inb i k k0_h1 k0_h3), k0_pay2 v28 v30 v34 (View.ld x (Rect.unit (s := S1024x2048) (k0_off2 k) S128x2048.size (k0_off2_inb i k k0_h1 k0_h3)))⟩] := by
  unfold tripL_k0_t2 trip_k0_t2
  simp only [View.readAt_eq_ld, Memref.IsWhole.read_unread]

/-- The pieces of the first `n` trips: each agrees with the normed rows, -/
theorem pieces2_eq (n : ℕ) (hn : n ≤ k0_t2_loop.trips) :
    ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) n,
      ∀ j, p.2 j = (fun y : S1024x2048.Idx => rowNorm (n := 1024) x v28 v30 v34 (y 0) (y 1)) (p.1.emb j) := by
  induction n with
  | zero => intro p hp; exact absurd hp List.not_mem_nil
  | succ n ih =>
    intro p hp
    rw [pb_k0_t2_succ 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) ⟨n, by omega⟩, trip2_eq] at hp
    simp only [List.cons_append, List.nil_append, List.mem_cons] at hp
    rcases hp with rfl | hp
    · intro j
      obtain ⟨r, d, rfl⟩ : ∃ (r : Fin 128) (d : Fin 2048), j = ix2 r d := ⟨_, _, eq_ix2 j⟩
      have ho := off2_eq ⟨n, by omega⟩
      have hn8 : n < 8 := by have := trips2_eq; omega
      have e : ∀ d' : Fin 2048, (Rect.unit (s := S1024x2048) (k0_off2 ⟨n, by omega⟩) S128x2048.size (k0_off2_inb i ⟨n, by omega⟩ k0_h1 k0_h3)).emb (ix2 r d')
          = ix2 (⟨128 * n + r.val, by omega⟩ : Fin 1024) d' := by
        intro d'
        refine funext fun a => Fin.ext ((Rect.idx_unit_val _ _ _ _ _).trans ((congrArg (· + _) (congrFun ho a)).trans ?_))
        match a with
        | ⟨0, _⟩ => rfl
        | ⟨1, _⟩ => show 0 + d'.val = d'.val; omega
      refine (pay2_apply _ _ _ _ r d).trans ?_
      show _ = (fun y : S1024x2048.Idx => rowNorm (n := 1024) x v28 v30 v34 (y 0) (y 1)) _
      rw [e d]
      have l : ∀ d' : Fin 2048, View.ld x (Rect.unit (s := S1024x2048) (k0_off2 ⟨n, by omega⟩) S128x2048.size (k0_off2_inb i ⟨n, by omega⟩ k0_h1 k0_h3)) (ix2 r d')
          = x (ix2 (⟨128 * n + r.val, by omega⟩ : Fin 1024) d') := fun d' => congrArg x (e d')
      unfold rowNorm
      simp only [l]
      rfl
    · exact ih (by omega) p hp

/-- and every row below is in one of them. -/
theorem pieces2_cover (n : ℕ) (hn : n ≤ k0_t2_loop.trips) (r : Fin 1024) (d : Fin 2048) (hr : r.val < 128 * n) :
    ∃ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) n, ix2 r d ∈ p.1.set := by
  induction n with
  | zero => omega
  | succ n ih =>
    rw [pb_k0_t2_succ 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) ⟨n, by omega⟩, trip2_eq]
    by_cases hc : r.val < 128 * n
    · obtain ⟨p, hp, hy⟩ := ih (by omega) hc
      exact ⟨p, List.mem_cons_of_mem _ hp, hy⟩
    · exact ⟨_, List.mem_cons_self, row2_mem ⟨n, by omega⟩ r d (by show 128 * n ≤ r.val; omega) (by show r.val < 128 * n + 128; omega) (k0_off2_inb i ⟨n, by omega⟩ k0_h1 k0_h3)⟩

/-- What the loop leaves in the scratch. -/
theorem canon2_eq (r : Fin 1024) (d : Fin 2048) :
    View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 (harg3.unread x) k0_t2_loop.trips) (ix2 r d)
      = rowNorm (n := 1024) x v28 v30 v34 r d :=
  View.canon_apply_of_pieces (fun y : S1024x2048.Idx => rowNorm (n := 1024) x v28 v30 v34 (y 0) (y 1)) _
    (pieces2_eq 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 x _ le_rfl) (ix2 r d)
    (pieces2_cover 𝒱 c bd i arg2 harg2 arg3 harg3 arg4 harg4 arg5 harg5 arg6 harg6 arg7 harg7 arg8 harg8 arg9 harg9 arg10 harg10 arg11 harg11 arg12 harg12 arg13 harg13 k0_h1 k0_h3 v28 v30 v34 x _ le_rfl r d (by rw [trips2_eq]; omega))

end Loop2

/-- A grid point's blocks. -/
def bx (c : Dev nD) (t : Fin cfg0.N) : S1024x2048.Idx → EReal := iblk m c 0 t
def bc (c : Dev nD) (t : Fin cfg0.N) : S1024x2048.Idx → EReal := iblk m c 1 t
def bg (c : Dev nD) (t : Fin cfg0.N) : S1x2048.Idx → EReal := iblk m c 2 t
def bsh (c : Dev nD) (t : Fin cfg0.N) : S1x1x2048.Idx → EReal := iblk m c 3 t
def bsc (c : Dev nD) (t : Fin cfg0.N) : S1x1x2048.Idx → EReal := iblk m c 4 t
def bw (c : Dev nD) (t : Fin cfg0.N) : S1280x2048.Idx → EReal := iblk m c 5 t
def bb (c : Dev nD) (t : Fin cfg0.N) : S1x1280.Idx → EReal := iblk m c 6 t
def bwg (c : Dev nD) (t : Fin cfg0.N) : S128x2048.Idx → EReal := iblk m c 7 t
def bbg (c : Dev nD) (t : Fin cfg0.N) : S1x128.Idx → EReal := iblk m c 8 t
/-- What the scratch and the two results' buffers hold after a grid point. -/
def scr (c : Dev nD) (t : Fin cfg0.N) : S1024x2048.Idx → EReal := rows (F := Ideal) m c t
def blk (c : Dev nD) (t : Fin cfg0.N) : S1024x1280.Idx → EReal := zOut (F := Ideal) m c t
def gat (c : Dev nD) (t : Fin cfg0.N) : S1024x128.Idx → EReal := gOut (F := Ideal) m c t

theorem scr_A (c : Dev nD) (t : Fin cfg0.N) (h : t.val % 9 = 0) (h' : t.val < 144) (r : Fin 1024) (d : Fin 2048) :
    scr m c t (ix2 r d) = rowNorm (n := 1024) (bx m c t) (bg m c t) (bsc m c t) (bsh m c t) r d := by
  unfold scr
  rw [rows_A m c t h h']
  unfold sA runA
  frame_out
  exact canon1_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (iblk m c 2 t) (iblk m c 4 t) (iblk m c 3 t) (iblk m c 0 t) r d

theorem scr_B (c : Dev nD) (t : Fin cfg0.N) (h : t.val % 9 = 0) (h' : ¬t.val < 144) (r : Fin 1024) (d : Fin 2048) :
    scr m c t (ix2 r d) = rowNorm (n := 1024) (bc m c t) (bg m c t) (bsc m c t) (bsh m c t) r d := by
  unfold scr
  rw [rows_B m c t h h']
  unfold sB runB
  frame_out
  exact canon2_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond3_iff t).mpr h') (iblk m c 2 t) (iblk m c 4 t) (iblk m c 3 t) (iblk m c 1 t) r d

/-- The scratch read back whole. -/
theorem readCov_scratch (L : List (View.Piece (Elt Ideal) S1024x2048 .bf16)) :
    (View.whole cc0_scratch0).readCov L (Rect.unit (s := S1024x2048) ![0, 0] S1024x2048.size inb_S1024x2048_S1024x2048_0_0).toLoadRect = View.canon L := by
  rw [View.readCov_eq_canon']
  refine funext fun j => congrArg _ (funext fun a => Fin.ext ?_)
  refine (Rect.idx_unit_val _ _ _ _ _).trans ?_
  match a with
  | ⟨0, _⟩ => exact Nat.zero_add _
  | ⟨1, _⟩ => exact Nat.zero_add _

theorem blk_eq (c : Dev nD) (t : Fin cfg0.N) (r : Fin 1024) (d : Fin 1280) :
    blk m c t (ix2 r d) = (∑ k : Fin 2048, scr m c t (ix2 r k) * bw m c t (ix2 d k)) + bb m c t (ix2 0 d) := by
  by_cases h : t.val % 9 = 0
  · by_cases h' : t.val < 144
    · simp only [scr_A m c t h h']
      unfold blk
      rw [zOut_A m c t h h']
      unfold zA runA
      frame_out
      refine (pay4_apply _ _ _ r d).trans ?_
      rw [readCov_scratch]
      exact congrArg (· + bb m c t (ix2 0 d)) (Finset.sum_congr (s₁ := Finset.univ) rfl fun (k : Fin 2048) _ => congrArg (· * bw m c t (ix2 d k))
        (canon1_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (iblk m c 2 t) (iblk m c 4 t) (iblk m c 3 t) (iblk m c 0 t) r k))
    · simp only [scr_B m c t h h']
      unfold blk
      rw [zOut_B m c t h h']
      unfold zB runB
      frame_out
      refine (pay4_apply _ _ _ r d).trans ?_
      rw [readCov_scratch]
      exact congrArg (· + bb m c t (ix2 0 d)) (Finset.sum_congr (s₁ := Finset.univ) rfl fun (k : Fin 2048) _ => congrArg (· * bw m c t (ix2 d k))
        (canon2_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond3_iff t).mpr h') (iblk m c 2 t) (iblk m c 4 t) (iblk m c 3 t) (iblk m c 1 t) r k))
  · unfold scr
    unfold blk
    rw [zOut_C m c t h]
    unfold zC runC
    frame_out
    simp only [read_unread_whole]
    exact pay4_apply _ _ _ r d

theorem gat_top (c : Dev nD) (t : Fin cfg0.N) (h : t.val % 9 = 0) (r : Fin 1024) (d : Fin 128) :
    gat m c t (ix2 r d) = (∑ k : Fin 2048, scr m c t (ix2 r k) * bwg m c t (ix2 d k)) + bbg m c t (ix2 0 d) := by
  by_cases h' : t.val < 144
  · simp only [scr_A m c t h h']
    unfold gat
    rw [gOut_A m c t h h']
    unfold gA runA
    frame_out
    refine (pay3_apply _ _ _ r d).trans ?_
    rw [readCov_scratch]
    exact congrArg (· + bbg m c t (ix2 0 d)) (Finset.sum_congr (s₁ := Finset.univ) rfl fun (k : Fin 2048) _ => congrArg (· * bwg m c t (ix2 d k))
      (canon1_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr h') (iblk m c 2 t) (iblk m c 4 t) (iblk m c 3 t) (iblk m c 0 t) r k))
  · simp only [scr_B m c t h h']
    unfold gat
    rw [gOut_B m c t h h']
    unfold gB runB
    frame_out
    refine (pay3_apply _ _ _ r d).trans ?_
    rw [readCov_scratch]
    exact congrArg (· + bbg m c t (ix2 0 d)) (Finset.sum_congr (s₁ := Finset.univ) rfl fun (k : Fin 2048) _ => congrArg (· * bwg m c t (ix2 d k))
      (canon2_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond3_iff t).mpr h') (iblk m c 2 t) (iblk m c 4 t) (iblk m c 3 t) (iblk m c 1 t) r k))

/-- The scratch and the gates' buffer hold what the row block's first point left. -/
theorem scr_top (c : Dev nD) (t : Fin cfg0.N) : scr m c t = scr m c (top t) := by
  unfold scr rows
  have e : ∀ t' (k : t'.val % 9 = 0), t' = top t → rowsAt (F := Ideal) m c (top t) (top_mod t) = rowsAt m c t' k := by rintro _ _ rfl; rfl
  exact e _ _ (top_self (top t) (top_mod t))
theorem gat_top' (c : Dev nD) (t : Fin cfg0.N) : gat m c t = gat m c (top t) := by
  unfold gat gOut
  have e : ∀ t' (k : t'.val % 9 = 0), t' = top t → gatesAt (F := Ideal) m c (top t) (top_mod t) = gatesAt m c t' k := by rintro _ _ rfl; rfl
  exact e _ _ (top_self (top t) (top_mod t))

end Cert.Kernel4Ideal.In

end
-- ==== Proof.In.Host.lean ====
/- The input projection: the host's operands, read as entries of the arguments. -/
module

public import proofs.«01_k».proof.Proof.Gen.Kernel4Ideal.Frame
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel4Ideal.In

open Cert.Kernel4Ideal Cert.Kernel4Ideal.Gen
open Idealize.ShloMosaic Idealize.ShloMosaic.TcCoe Idealize.SL.Sem

variable (m : (ℓ : Loc nD τ sig) → Buf (Elt Ideal) ℓ)

/-- The arguments: the stream, the context, the norm's gain, the two modulations, the weights, their bias, the gates' bias. -/
def ax (c : Dev nD) : FVec Ideal S4x4096x2048 .f32 := m (c, Proc.tc.devRef main_arg0)
def ac (c : Dev nD) : FVec Ideal S4x256x2048 .f32 := m (c, Proc.tc.devRef main_arg1)
def ag (c : Dev nD) : FVec Ideal S2048 .f32 := m (c, Proc.tc.devRef main_arg2)
def am (c : Dev nD) : FVec Ideal S4x12288 .f32 := m (c, Proc.tc.devRef main_arg3)
def amc (c : Dev nD) : FVec Ideal S12288 .f32 := m (c, Proc.tc.devRef main_arg4)
def aw (c : Dev nD) : FVec Ideal S2048x11344 .f32 := m (c, Proc.tc.devRef main_arg5)
def ab (c : Dev nD) : FVec Ideal S11344 .f32 := m (c, Proc.tc.devRef main_arg6)
def agb (c : Dev nD) : FVec Ideal S4x4 .f32 := m (c, Proc.tc.devRef main_arg7)

theorem V_x (c : Dev nD) (R : Fin 16384) (C : Fin 2048) :
    V m c main_v48 (ix2 R C) = ax m c (ix3 ⟨R.val / 4096, by omega⟩ ⟨R.val % 4096, by omega⟩ C) := by
  have : V m c main_v48 = shapeCast S16384x2048 (ax m c) shapeCasts_S4x4096x2048_S16384x2048 := by
    unfold V V0
    after_reads_simp
    rfl
  rw [this]
  pointwise []
theorem V_c (c : Dev nD) (R : Fin 1024) (C : Fin 2048) :
    V m c main_v49 (ix2 R C) = ac m c (ix3 ⟨R.val / 256, by omega⟩ ⟨R.val % 256, by omega⟩ C) := by
  have : V m c main_v49 = shapeCast S1024x2048 (ac m c) shapeCasts_S4x256x2048_S1024x2048 := by
    unfold V V0
    after_reads_simp
    rfl
  rw [this]
  pointwise []
theorem V_g (c : Dev nD) (C : Fin 2048) : V m c main_v50 (ix2 0 C) = ag m c (ix1 C) := by
  have : V m c main_v50 = broadcastInDim S1x2048 ![1] bcast_S2048_S1x2048_1 (ag m c) := by
    unfold V V0
    after_reads_simp
    rfl
  rw [this]
  pointwise []

/-- The packed modulation: the stream's four rows, the context's one, zeros. -/
theorem V_m (c : Dev nD) : V m c main_v51 = shapeCast S48x1x2048 (concatenate S8x12288 0 [⟨S4x12288, am m c⟩,
    ⟨S1x12288, (broadcastInDim S1x12288 ![1] bcast_S12288_S1x12288_1 (amc m c) : FVec Ideal S1x12288 .f32)⟩,
    ⟨S3x12288, (broadcastInDim S3x12288 ![] bcast_S_S3x12288 (constant S_ .f32 0x00000000#32) : FVec Ideal S3x12288 .f32)⟩] concatenates_S4x12288_S1x12288_S3x12288_S8x12288_d0) shapeCasts_S8x12288_S48x1x2048 := by
  unfold V V0
  after_reads_simp
  rfl

theorem V_mx (c : Dev nD) (R : Fin 48) (C : Fin 2048) (hR : R.val < 24) :
    V m c main_v51 (ix3 R 0 C) = am m c (ix2 ⟨R.val / 6, by omega⟩ ⟨R.val % 6 * 2048 + C.val, by omega⟩) := by
  rw [V_m]
  pointwise []
  exact dif_pos (by omega)
theorem V_mc (c : Dev nD) (R : Fin 48) (C : Fin 2048) (hR : 24 ≤ R.val) (hR' : R.val < 30) :
    V m c main_v51 (ix3 R 0 C) = amc m c (ix1 ⟨R.val % 6 * 2048 + C.val, by omega⟩) := by
  rw [V_m]
  pointwise []
  rw [dif_neg (by omega), dif_pos (by omega)]

/-- The packed weights: the columns of `w_in` in the kernel's order, as rows; the gates' columns are left out. -/
def packW (wt : FVec Ideal S11344x2048 .f32) (p : FVec Ideal S64x2048 .f32) : FVec Ideal S11520x2048 .f32 :=
  concatenate S11520x2048 0 [⟨S512x2048, (extractStridedSlice S512x2048 ![0, 0] wt slices_S11344x2048_S512x2048_0_0 : FVec Ideal S512x2048 .f32)⟩, ⟨S512x2048, (extractStridedSlice S512x2048 ![512, 0] wt slices_S11344x2048_S512x2048_512_0 : FVec Ideal S512x2048 .f32)⟩, ⟨S1024x2048, (extractStridedSlice S1024x2048 ![1024, 0] wt slices_S11344x2048_S1024x2048_1024_0 : FVec Ideal S1024x2048 .f32)⟩, ⟨S1024x2048, (extractStridedSlice S1024x2048 ![2048, 0] wt slices_S11344x2048_S1024x2048_2048_0 : FVec Ideal S1024x2048 .f32)⟩, ⟨S512x2048, (extractStridedSlice S512x2048 ![3088, 0] wt slices_S11344x2048_S512x2048_3088_0 : FVec Ideal S512x2048 .f32)⟩, ⟨S512x2048, (extractStridedSlice S512x2048 ![3600, 0] wt slices_S11344x2048_S512x2048_3600_0 : FVec Ideal S512x2048 .f32)⟩, ⟨S1024x2048, (extractStridedSlice S1024x2048 ![4176, 0] wt slices_S11344x2048_S1024x2048_4176_0 : FVec Ideal S1024x2048 .f32)⟩, ⟨S6144x2048, (extractStridedSlice S6144x2048 ![5200, 0] wt slices_S11344x2048_S6144x2048_5200_0 : FVec Ideal S6144x2048 .f32)⟩, ⟨S64x2048, (extractStridedSlice S64x2048 ![4112, 0] wt slices_S11344x2048_S64x2048_4112_0 : FVec Ideal S64x2048 .f32)⟩, ⟨S64x2048, p⟩,
    ⟨S128x2048, (broadcastInDim S128x2048 ![] bcast_S_S128x2048 (constant S_ .f32 0x00000000#32) : FVec Ideal S128x2048 .f32)⟩]
    concatenates_S512x2048_S512x2048_S1024x2048_S1024x2048_S512x2048_S512x2048_S1024x2048_S6144x2048_S64x2048_S64x2048_S128x2048_S11520x2048_d0
/-- The packed bias, in the same order. -/
def packB (b : FVec Ideal S11344 .f32) (p : FVec Ideal S64 .f32) : FVec Ideal S11520 .f32 :=
  concatenate S11520 0 [⟨S512, (extractStridedSlice S512 ![0] b slices_S11344_S512_0 : FVec Ideal S512 .f32)⟩, ⟨S512, (extractStridedSlice S512 ![512] b slices_S11344_S512_512 : FVec Ideal S512 .f32)⟩, ⟨S1024, (extractStridedSlice S1024 ![1024] b slices_S11344_S1024_1024 : FVec Ideal S1024 .f32)⟩, ⟨S1024, (extractStridedSlice S1024 ![2048] b slices_S11344_S1024_2048 : FVec Ideal S1024 .f32)⟩, ⟨S512, (extractStridedSlice S512 ![3088] b slices_S11344_S512_3088 : FVec Ideal S512 .f32)⟩, ⟨S512, (extractStridedSlice S512 ![3600] b slices_S11344_S512_3600 : FVec Ideal S512 .f32)⟩, ⟨S1024, (extractStridedSlice S1024 ![4176] b slices_S11344_S1024_4176 : FVec Ideal S1024 .f32)⟩, ⟨S6144, (extractStridedSlice S6144 ![5200] b slices_S11344_S6144_5200 : FVec Ideal S6144 .f32)⟩, ⟨S64, (extractStridedSlice S64 ![4112] b slices_S11344_S64_4112 : FVec Ideal S64 .f32)⟩, ⟨S64, p⟩,
    ⟨S128, (broadcastInDim S128 ![] bcast_S_S128 (constant S_ .f32 0x00000000#32) : FVec Ideal S128 .f32)⟩]
    concatenates_S512_S512_S1024_S1024_S512_S512_S1024_S6144_S64_S64_S128_S11520_d0

set_option maxHeartbeats 4000000 in
theorem V_w (c : Dev nD) : ∃ p : FVec Ideal S64x2048 .f32,
    V m c main_v21 = truncf .bf16 (packW (transpose S11344x2048 [1, 0] (aw m c) transposes_S2048x11344_S11344x2048_1_0) p) bitsLt_bf16_f32 := by
  refine ⟨V m c main_v18, ?_⟩
  unfold packW V V0
  after_reads_simp
  rfl
set_option maxHeartbeats 4000000 in
theorem V_b (c : Dev nD) : ∃ p : FVec Ideal S64 .f32,
    V m c main_v47 = broadcastInDim S1x11520 ![1] bcast_S11520_S1x11520_1 (packB (ab m c) p) := by
  refine ⟨V m c main_v34, ?_⟩
  unfold packB V V0
  after_reads_simp
  rfl

/-- A value by cases that is the same in both. -/
theorem dite_to {α : Type} {p : Prop} [Decidable p] {a : p → α} {b : ¬p → α} {y : α} (ha : ∀ h, a h = y) (hb : ∀ h, b h = y) : dite p a b = y := by
  by_cases h : p
  · exact (dif_pos h).trans (ha h)
  · exact (dif_neg h).trans (hb h)

/-- Where a packed row comes from. -/
def Src (p q : ℕ) : Prop := p < 3072 ∧ q = p ∨ 3072 ≤ p ∧ p < 4096 ∧ q = p + 16 ∨ 4096 ≤ p ∧ p < 11264 ∧ q = p + 80 ∨ 11264 ≤ p ∧ p < 11328 ∧ q + 7152 = p

theorem packW_apply (w : FVec Ideal S2048x11344 .f32) (p : FVec Ideal S64x2048 .f32) (P : Fin 11520) (k : Fin 2048) (Q : Fin 11344) (h : Src P.val Q.val) :
    packW (transpose S11344x2048 [1, 0] w transposes_S2048x11344_S11344x2048_1_0) p (ix2 P k) = w (ix2 k Q) := by
  unfold Src at h
  pointwise [packW]
  refine dite_to (fun h0 => ?_) (fun h0 => ?_)
  · first | exact congrArg w (congrArg (ix2 k) (Fin.ext (by simp only; omega))) | (exfalso; omega)
  refine dite_to (fun h1 => ?_) (fun h1 => ?_)
  · first | exact congrArg w (congrArg (ix2 k) (Fin.ext (by simp only; omega))) | (exfalso; omega)
  refine dite_to (fun h2 => ?_) (fun h2 => ?_)
  · first | exact congrArg w (congrArg (ix2 k) (Fin.ext (by simp only; omega))) | (exfalso; omega)
  refine dite_to (fun h3 => ?_) (fun h3 => ?_)
  · first | exact congrArg w (congrArg (ix2 k) (Fin.ext (by simp only; omega))) | (exfalso; omega)
  refine dite_to (fun h4 => ?_) (fun h4 => ?_)
  · first | exact congrArg w (congrArg (ix2 k) (Fin.ext (by simp only; omega))) | (exfalso; omega)
  refine dite_to (fun h5 => ?_) (fun h5 => ?_)
  · first | exact congrArg w (congrArg (ix2 k) (Fin.ext (by simp only; omega))) | (exfalso; omega)
  refine dite_to (fun h6 => ?_) (fun h6 => ?_)
  · first | exact congrArg w (congrArg (ix2 k) (Fin.ext (by simp only; omega))) | (exfalso; omega)
  refine dite_to (fun h7 => ?_) (fun h7 => ?_)
  · first | exact congrArg w (congrArg (ix2 k) (Fin.ext (by simp only; omega))) | (exfalso; omega)
  refine dite_to (fun h8 => ?_) (fun h8 => ?_)
  · first | exact congrArg w (congrArg (ix2 k) (Fin.ext (by simp only; omega))) | (exfalso; omega)
  refine dite_to (fun h9 => ?_) (fun h9 => ?_)
  · first | exact congrArg w (congrArg (ix2 k) (Fin.ext (by simp only; omega))) | (exfalso; omega)
  · exfalso; omega

theorem packB_apply (b : FVec Ideal S11344 .f32) (p : FVec Ideal S64 .f32) (P : Fin 11520) (Q : Fin 11344) (h : Src P.val Q.val) :
    packB b p (ix1 P) = b (ix1 Q) := by
  unfold Src at h
  pointwise [packB]
  refine dite_to (fun h0 => ?_) (fun h0 => ?_)
  · first | exact congrArg b (congrArg ix1 (Fin.ext (by simp only; omega))) | (exfalso; omega)
  refine dite_to (fun h1 => ?_) (fun h1 => ?_)
  · first | exact congrArg b (congrArg ix1 (Fin.ext (by simp only; omega))) | (exfalso; omega)
  refine dite_to (fun h2 => ?_) (fun h2 => ?_)
  · first | exact congrArg b (congrArg ix1 (Fin.ext (by simp only; omega))) | (exfalso; omega)
  refine dite_to (fun h3 => ?_) (fun h3 => ?_)
  · first | exact congrArg b (congrArg ix1 (Fin.ext (by simp only; omega))) | (exfalso; omega)
  refine dite_to (fun h4 => ?_) (fun h4 => ?_)
  · first | exact congrArg b (congrArg ix1 (Fin.ext (by simp only; omega))) | (exfalso; omega)
  refine dite_to (fun h5 => ?_) (fun h5 => ?_)
  · first | exact congrArg b (congrArg ix1 (Fin.ext (by simp only; omega))) | (exfalso; omega)
  refine dite_to (fun h6 => ?_) (fun h6 => ?_)
  · first | exact congrArg b (congrArg ix1 (Fin.ext (by simp only; omega))) | (exfalso; omega)
  refine dite_to (fun h7 => ?_) (fun h7 => ?_)
  · first | exact congrArg b (congrArg ix1 (Fin.ext (by simp only; omega))) | (exfalso; omega)
  refine dite_to (fun h8 => ?_) (fun h8 => ?_)
  · first | exact congrArg b (congrArg ix1 (Fin.ext (by simp only; omega))) | (exfalso; omega)
  refine dite_to (fun h9 => ?_) (fun h9 => ?_)
  · first | exact congrArg b (congrArg ix1 (Fin.ext (by simp only; omega))) | (exfalso; omega)
  · exfalso; omega

theorem V_wg (c : Dev nD) (R : Fin 128) (C : Fin 2048) (Q : Fin 11344) (h : R.val < 16) (h' : Q.val = 3072 + R.val) :
    V m c main_v40 (ix2 R C) = aw m c (ix2 C Q) := by
  have : V m c main_v40 = truncf .bf16 (concatenate S128x2048 0 [⟨S16x2048, (extractStridedSlice S16x2048 ![3072, 0] (transpose S11344x2048 [1, 0] (aw m c) transposes_S2048x11344_S11344x2048_1_0) slices_S11344x2048_S16x2048_3072_0 : FVec Ideal S16x2048 .f32)⟩,
      ⟨S112x2048, (broadcastInDim S112x2048 ![] bcast_S_S112x2048 (constant S_ .f32 0x00000000#32) : FVec Ideal S112x2048 .f32)⟩] concatenates_S16x2048_S112x2048_S128x2048_d0) bitsLt_bf16_f32 := by
    unfold V V0
    after_reads_simp
    rfl
  rw [this]
  pointwise []
  rw [dif_pos (by omega)]
  refine congrArg (aw m c) (congrArg (ix2 C) (Fin.ext ?_))
  simp only
  omega
theorem V_bg (c : Dev nD) (R : Fin 128) (Q : Fin 11344) (h : R.val < 16) (h' : Q.val = 3072 + R.val) :
    V m c main_v46 (ix2 0 R) = ab m c (ix1 Q) + agb m c (ix2 ⟨R.val / 4, by omega⟩ ⟨R.val % 4, by omega⟩) := by
  have : V m c main_v46 = broadcastInDim S1x128 ![1] bcast_S128_S1x128_1 (concatenate S128 0 [⟨S16, (addf (extractStridedSlice S16 ![3072] (ab m c) slices_S11344_S16_3072) (shapeCast S16 (agb m c) shapeCasts_S4x4_S16) : FVec Ideal S16 .f32)⟩,
      ⟨S112, (broadcastInDim S112 ![] bcast_S_S112 (constant S_ .f32 0x00000000#32) : FVec Ideal S112 .f32)⟩] concatenates_S16_S112_S128_d0) := by
    unfold V V0
    after_reads_simp
    rfl
  rw [this]
  pointwise []
  rw [dif_pos (by omega)]
  refine congrArg₂ (· + ·) (congrArg (ab m c) (congrArg ix1 (Fin.ext ?_))) rfl
  simp only
  omega

end Cert.Kernel4Ideal.In

end
-- ==== Proof.In.Spec.lean ====
/- The input projection: the reference's two results as plain functions of the arguments. -/
module

public import proofs.«01_k».proof.Proof.In.Host

@[expose] public section

set_option maxRecDepth 16384

noncomputable section

namespace Cert.Kernel4Ideal.In

open Cert.Kernel4Ideal Cert.Kernel4Ideal.Gen
open Idealize.ShloMosaic Idealize.ShloMosaic.TcCoe Idealize.SL.Sem

/-- The stream's normed and modulated row, -/
def rowX (x : S4x4096x2048.Idx → EReal) (g : S2048.Idx → EReal) (md : S4x12288.Idx → EReal) (R : Fin 16384) (d : Fin 2048) : EReal :=
  x (ix3 ⟨R.val / 4096, by omega⟩ ⟨R.val % 4096, by omega⟩ d)
      * Ideal.rsqrt (Ideal.div (∑ k : Fin 2048, x (ix3 ⟨R.val / 4096, by omega⟩ ⟨R.val % 4096, by omega⟩ k) * x (ix3 ⟨R.val / 4096, by omega⟩ ⟨R.val % 4096, by omega⟩ k))
        (Ideal.ofBits FTy.f32 1157627904#32) + Ideal.ofBits FTy.f32 897988541#32)
    * g (ix1 d) * (1 + md (ix2 ⟨R.val / 4096, by omega⟩ ⟨2048 + d.val, by omega⟩)) + md (ix2 ⟨R.val / 4096, by omega⟩ ⟨d.val, by omega⟩)

/-- the context's, -/
def rowC (x : S4x256x2048.Idx → EReal) (g : S2048.Idx → EReal) (md : S12288.Idx → EReal) (R : Fin 1024) (d : Fin 2048) : EReal :=
  x (ix3 ⟨R.val / 256, by omega⟩ ⟨R.val % 256, by omega⟩ d)
      * Ideal.rsqrt (Ideal.div (∑ k : Fin 2048, x (ix3 ⟨R.val / 256, by omega⟩ ⟨R.val % 256, by omega⟩ k) * x (ix3 ⟨R.val / 256, by omega⟩ ⟨R.val % 256, by omega⟩ k))
        (Ideal.ofBits FTy.f32 1157627904#32) + Ideal.ofBits FTy.f32 897988541#32)
    * g (ix1 d) * (1 + md (ix1 ⟨2048 + d.val, by omega⟩)) + md (ix1 ⟨d.val, by omega⟩)

/-- and the two one after the other. -/
def row (x : S4x4096x2048.Idx → EReal) (xc : S4x256x2048.Idx → EReal) (g : S2048.Idx → EReal) (md : S4x12288.Idx → EReal) (mc : S12288.Idx → EReal)
    (R : Fin 17408) (d : Fin 2048) : EReal :=
  if h : R.val < 16384 then rowX x g md ⟨R.val, h⟩ d else rowC xc g mc ⟨R.val - 16384, by omega⟩ d

/-- An entry of the product with its bias. -/
def proj (x : S4x4096x2048.Idx → EReal) (xc : S4x256x2048.Idx → EReal) (g : S2048.Idx → EReal) (md : S4x12288.Idx → EReal) (mc : S12288.Idx → EReal)
    (w : S2048x11344.Idx → EReal) (b : S11344.Idx → EReal) (R : Fin 17408) (Q : Fin 11344) : EReal :=
  (∑ k : Fin 2048, row x xc g md mc R k * w (ix2 k Q)) + b (ix1 Q)

/-- A result column's column of the product: the sixteen columns of the gates are left out. -/
def col (q : Fin 11328) : Fin 11344 := ⟨if q.val < 3072 then q.val else q.val + 16, by split <;> omega⟩

/-- The first result: the product without the gates' columns. -/
def out0 (x : S4x4096x2048.Idx → EReal) (xc : S4x256x2048.Idx → EReal) (g : S2048.Idx → EReal) (md : S4x12288.Idx → EReal) (mc : S12288.Idx → EReal)
    (w : S2048x11344.Idx → EReal) (b : S11344.Idx → EReal) : S17408x11328.Idx → EReal :=
  fun i => proj x xc g md mc w b (i 0) (col (i 1))

/-- A gate: its entry of the product with its own bias. -/
def gate (x : S4x4096x2048.Idx → EReal) (xc : S4x256x2048.Idx → EReal) (g : S2048.Idx → EReal) (md : S4x12288.Idx → EReal) (mc : S12288.Idx → EReal)
    (w : S2048x11344.Idx → EReal) (b : S11344.Idx → EReal) (gb : S4x4.Idx → EReal) (R : Fin 17408) (q : Fin 16) : EReal :=
  proj x xc g md mc w b R ⟨3072 + q.val, by omega⟩ + gb (ix2 ⟨q.val / 4, by omega⟩ ⟨q.val % 4, by omega⟩)

/-- The second: the gates' columns with their own bias. -/
def out1 (x : S4x4096x2048.Idx → EReal) (xc : S4x256x2048.Idx → EReal) (g : S2048.Idx → EReal) (md : S4x12288.Idx → EReal) (mc : S12288.Idx → EReal)
    (w : S2048x11344.Idx → EReal) (b : S11344.Idx → EReal) (gb : S4x4.Idx → EReal) : S17408x16.Idx → EReal :=
  fun i => gate x xc g md mc w b gb (i 0) (i 1)

end Cert.Kernel4Ideal.In

end
-- ==== Proof.In.Value.lean ====
/- The input projection: what the kernel leaves is the reference's two results. -/
module

public import proofs.«01_k».proof.Proof.In.Rows
public import proofs.«01_k».proof.Proof.In.Spec

@[expose] public section

set_option maxRecDepth 16384

noncomputable section

namespace Cert.Kernel4Ideal.In

open Cert.Kernel4Ideal Cert.Kernel4Ideal.Gen
open Idealize.ShloMosaic Idealize.ShloMosaic.TcCoe Idealize.SL.Sem

variable (m : (ℓ : Loc nD τ sig) → Buf (Elt Ideal) ℓ) (ρ : Dev nD → PrngReg)

/-! ## The blocks -/

theorem idx : ∀ t : Fin cfg0.N, win0_0.index t = ![min (t.val / 9) 15, 0] ∧ win0_1.index t = ![0, 0] ∧ win0_2.index t = ![0, 0]
    ∧ win0_3.index t = ![t.val / 36 * 6, 0, 0] ∧ win0_4.index t = ![t.val / 36 * 6 + 1, 0, 0]
    ∧ win0_5.index t = ![t.val % 9, 0] ∧ win0_6.index t = ![0, t.val % 9] ∧ win0_7.index t = ![0, 0] ∧ win0_8.index t = ![0, 0]
    ∧ win0_9.index t = ![t.val / 9, t.val % 9] ∧ win0_10.index t = ![t.val / 9, 0] :=
  (by decide +kernel : ∀ t : Fin grid0.N, _)

theorem ix2_eq {n0 n1 : ℕ} {a a' : Fin n0} {b b' : Fin n1} (ha : a.val = a'.val) (hb : b.val = b'.val) : ix2 a b = ix2 a' b' := by
  rw [Fin.ext ha, Fin.ext hb]

theorem bx_apply (c : Dev nD) (t : Fin cfg0.N) (h : t.val < 144) (r : Fin 1024) (d : Fin 2048) : bx m c t (ix2 r d)
    = ax m c (ix3 ⟨(1024 * (t.val / 9) + r.val) / 4096, by omega⟩ ⟨(1024 * (t.val / 9) + r.val) % 4096, by omega⟩ d) := by
  obtain ⟨h0, h1, h2, h3, h4, h5, h6, h7, h8, h9, h10⟩ := idx t
  refine Eq.trans ?_ (V_x m c ⟨1024 * (t.val / 9) + r.val, by omega⟩ d)
  unfold bx iblk
  blk_simp [h0]
  refine congrArg (V m c main_v48) (funext fun a => Fin.ext ?_)
  match a with
  | ⟨0, _⟩ => blk_simp [h0]; show min (t.val / 9) 15 * 1024 + r.val = 1024 * (t.val / 9) + r.val; omega
  | ⟨1, _⟩ => blk_simp [h0]

theorem bc_apply (c : Dev nD) (t : Fin cfg0.N) (r : Fin 1024) (d : Fin 2048) : bc m c t (ix2 r d)
    = ac m c (ix3 ⟨r.val / 256, by omega⟩ ⟨r.val % 256, by omega⟩ d) := by
  obtain ⟨h0, h1, h2, h3, h4, h5, h6, h7, h8, h9, h10⟩ := idx t
  refine Eq.trans ?_ (V_c m c r d)
  unfold bc iblk
  blk_simp [h1]
  refine congrArg (V m c main_v49) (funext fun a => Fin.ext ?_)
  match a with
  | ⟨0, _⟩ => blk_simp [h1]
  | ⟨1, _⟩ => blk_simp [h1]

theorem bg_apply (c : Dev nD) (t : Fin cfg0.N) (d : Fin 2048) : bg m c t (ix2 0 d) = ag m c (ix1 d) := by
  obtain ⟨h0, h1, h2, h3, h4, h5, h6, h7, h8, h9, h10⟩ := idx t
  refine Eq.trans ?_ (V_g m c d)
  unfold bg iblk
  blk_simp [h2]
  refine congrArg (V m c main_v50) (funext fun a => Fin.ext ?_)
  match a with
  | ⟨0, _⟩ => blk_simp [h2]
  | ⟨1, _⟩ => blk_simp [h2]

theorem bsh_V (c : Dev nD) (t : Fin cfg0.N) (d : Fin 2048) : bsh m c t (ix3 0 0 d)
    = V m c main_v51 (ix3 (⟨t.val / 36 * 6, by have := lt_N t; omega⟩ : Fin 48) 0 d) := by
  obtain ⟨h0, h1, h2, h3, h4, h5, h6, h7, h8, h9, h10⟩ := idx t
  unfold bsh iblk
  blk_simp [h3]
  refine congrArg (V m c main_v51) (funext fun a => Fin.ext ?_)
  match a with
  | ⟨0, _⟩ => blk_simp [h3]; rfl
  | ⟨1, _⟩ => blk_simp [h3]
  | ⟨2, _⟩ => blk_simp [h3]

theorem bsc_V (c : Dev nD) (t : Fin cfg0.N) (d : Fin 2048) : bsc m c t (ix3 0 0 d)
    = V m c main_v51 (ix3 (⟨t.val / 36 * 6 + 1, by have := lt_N t; omega⟩ : Fin 48) 0 d) := by
  obtain ⟨h0, h1, h2, h3, h4, h5, h6, h7, h8, h9, h10⟩ := idx t
  unfold bsc iblk
  blk_simp [h4]
  refine congrArg (V m c main_v51) (funext fun a => Fin.ext ?_)
  match a with
  | ⟨0, _⟩ => blk_simp [h4]; rfl
  | ⟨1, _⟩ => blk_simp [h4]
  | ⟨2, _⟩ => blk_simp [h4]

theorem bsh_x (c : Dev nD) (t : Fin cfg0.N) (h : t.val < 144) (d : Fin 2048) : bsh m c t (ix3 0 0 d)
    = am m c (ix2 ⟨t.val / 36, by omega⟩ ⟨d.val, by omega⟩) :=
  (bsh_V m c t d).trans ((V_mx m c ⟨t.val / 36 * 6, by omega⟩ d (by show t.val / 36 * 6 < 24; omega)).trans
    (congrArg (am m c) (ix2_eq (by show t.val / 36 * 6 / 6 = t.val / 36; omega) (by show t.val / 36 * 6 % 6 * 2048 + d.val = d.val; omega))))
theorem bsc_x (c : Dev nD) (t : Fin cfg0.N) (h : t.val < 144) (d : Fin 2048) : bsc m c t (ix3 0 0 d)
    = am m c (ix2 ⟨t.val / 36, by omega⟩ ⟨2048 + d.val, by omega⟩) :=
  (bsc_V m c t d).trans ((V_mx m c ⟨t.val / 36 * 6 + 1, by omega⟩ d (by show t.val / 36 * 6 + 1 < 24; omega)).trans
    (congrArg (am m c) (ix2_eq (by show (t.val / 36 * 6 + 1) / 6 = t.val / 36; omega) (by show (t.val / 36 * 6 + 1) % 6 * 2048 + d.val = 2048 + d.val; omega))))
theorem bsh_c (c : Dev nD) (t : Fin cfg0.N) (h : ¬t.val < 144) (d : Fin 2048) : bsh m c t (ix3 0 0 d)
    = amc m c (ix1 ⟨d.val, by omega⟩) := by
  have hN := lt_N t
  refine (bsh_V m c t d).trans ((V_mc m c ⟨t.val / 36 * 6, by omega⟩ d (by show 24 ≤ t.val / 36 * 6; omega) (by show t.val / 36 * 6 < 30; omega)).trans
    (congrArg (amc m c) (congrArg ix1 (Fin.ext (by show t.val / 36 * 6 % 6 * 2048 + d.val = d.val; omega)))))
theorem bsc_c (c : Dev nD) (t : Fin cfg0.N) (h : ¬t.val < 144) (d : Fin 2048) : bsc m c t (ix3 0 0 d)
    = amc m c (ix1 ⟨2048 + d.val, by omega⟩) := by
  have hN := lt_N t
  refine (bsc_V m c t d).trans ((V_mc m c ⟨t.val / 36 * 6 + 1, by omega⟩ d (by show 24 ≤ t.val / 36 * 6 + 1; omega) (by show t.val / 36 * 6 + 1 < 30; omega)).trans
    (congrArg (amc m c) (congrArg ix1 (Fin.ext (by show (t.val / 36 * 6 + 1) % 6 * 2048 + d.val = 2048 + d.val; omega)))))

theorem bw_apply (c : Dev nD) (t : Fin cfg0.N) (d : Fin 1280) (k : Fin 2048) : bw m c t (ix2 d k)
    = V m c main_v21 (ix2 (⟨1280 * (t.val % 9) + d.val, by omega⟩ : Fin 11520) k) := by
  obtain ⟨h0, h1, h2, h3, h4, h5, h6, h7, h8, h9, h10⟩ := idx t
  unfold bw iblk
  blk_simp [h5]
  refine congrArg (V m c main_v21) (funext fun a => Fin.ext ?_)
  match a with
  | ⟨0, _⟩ => blk_simp [h5]; show t.val % 9 * 1280 + d.val = 1280 * (t.val % 9) + d.val; omega
  | ⟨1, _⟩ => blk_simp [h5]

theorem bb_apply (c : Dev nD) (t : Fin cfg0.N) (d : Fin 1280) : bb m c t (ix2 0 d)
    = V m c main_v47 (ix2 0 (⟨1280 * (t.val % 9) + d.val, by omega⟩ : Fin 11520)) := by
  obtain ⟨h0, h1, h2, h3, h4, h5, h6, h7, h8, h9, h10⟩ := idx t
  unfold bb iblk
  blk_simp [h6]
  refine congrArg (V m c main_v47) (funext fun a => Fin.ext ?_)
  match a with
  | ⟨0, _⟩ => blk_simp [h6]
  | ⟨1, _⟩ => blk_simp [h6]; show t.val % 9 * 1280 + d.val = 1280 * (t.val % 9) + d.val; omega

theorem bwg_apply (c : Dev nD) (t : Fin cfg0.N) (d : Fin 128) (k : Fin 2048) : bwg m c t (ix2 d k) = V m c main_v40 (ix2 d k) := by
  obtain ⟨h0, h1, h2, h3, h4, h5, h6, h7, h8, h9, h10⟩ := idx t
  unfold bwg iblk
  blk_simp [h7]
  refine congrArg (V m c main_v40) (funext fun a => Fin.ext ?_)
  match a with
  | ⟨0, _⟩ => blk_simp [h7]
  | ⟨1, _⟩ => blk_simp [h7]

theorem bbg_apply (c : Dev nD) (t : Fin cfg0.N) (d : Fin 128) : bbg m c t (ix2 0 d) = V m c main_v46 (ix2 0 d) := by
  obtain ⟨h0, h1, h2, h3, h4, h5, h6, h7, h8, h9, h10⟩ := idx t
  unfold bbg iblk
  blk_simp [h8]
  refine congrArg (V m c main_v46) (funext fun a => Fin.ext ?_)
  match a with
  | ⟨0, _⟩ => blk_simp [h8]
  | ⟨1, _⟩ => blk_simp [h8]

/-! ## The normed rows -/

/-- The two streams' normed rows, of the kernel's arguments. -/
def rw' (c : Dev nD) : Fin 17408 → Fin 2048 → EReal := row (ax m c) (ac m c) (ag m c) (am m c) (amc m c)

theorem scr_first (c : Dev nD) (t : Fin cfg0.N) (h : t.val % 9 = 0) (r : Fin 1024) (d : Fin 2048) :
    scr m c t (ix2 r d) = rw' m c ⟨1024 * (t.val / 9) + r.val, by have := lt_N t; omega⟩ d := by
  have hN := lt_N t
  unfold rw' row
  by_cases h' : t.val < 144
  · rw [scr_A m c t h h', dif_pos (by show 1024 * (t.val / 9) + r.val < 16384; omega)]
    unfold rowNorm rowX
    simp only [bx_apply m c t h', bg_apply, bsc_x m c t h', bsh_x m c t h']
    have hb : (1024 * (t.val / 9) + r.val) / 4096 = t.val / 36 := by omega
    simp only [hb]
  · rw [scr_B m c t h h', dif_neg (by show ¬1024 * (t.val / 9) + r.val < 16384; omega)]
    unfold rowNorm rowC
    simp only [bc_apply, bg_apply, bsc_c m c t h', bsh_c m c t h']
    have hb : 1024 * (t.val / 9) + r.val - 16384 = r.val := by omega
    simp only [hb]

/-- The scratch holds the normed rows of the point's row block. -/
theorem scr_eq (c : Dev nD) (t : Fin cfg0.N) (r : Fin 1024) (d : Fin 2048) :
    scr m c t (ix2 r d) = rw' m c ⟨1024 * (t.val / 9) + r.val, by have := lt_N t; omega⟩ d := by
  rw [scr_top, scr_first m c (top t) (top_mod t)]
  refine congrArg (rw' m c · d) (Fin.ext ?_)
  show 1024 * ((t.val - t.val % 9) / 9) + r.val = 1024 * (t.val / 9) + r.val
  omega

/-! ## The arrays -/

/-- An entry of the packed result, -/
def zE (c : Dev nD) (R : Fin 17408) (P : Fin 11520) : EReal :=
  (∑ k : Fin 2048, rw' m c R k * V m c main_v21 (ix2 P k)) + V m c main_v47 (ix2 0 P)
/-- and of the gates'. -/
def gE (c : Dev nD) (R : Fin 17408) (P : Fin 128) : EReal :=
  (∑ k : Fin 2048, rw' m c R k * V m c main_v40 (ix2 P k)) + V m c main_v46 (ix2 0 P)

theorem blk_final (c : Dev nD) (t : Fin cfg0.N) (r : Fin 1024) (d : Fin 1280) :
    blk m c t (ix2 r d) = zE m c ⟨1024 * (t.val / 9) + r.val, by have := lt_N t; omega⟩ ⟨1280 * (t.val % 9) + d.val, by omega⟩ := by
  rw [blk_eq]
  unfold zE
  simp only [scr_eq, bw_apply, bb_apply]

theorem gat_final (c : Dev nD) (t : Fin cfg0.N) (r : Fin 1024) (d : Fin 128) :
    gat m c t (ix2 r d) = gE m c ⟨1024 * (t.val / 9) + r.val, by have := lt_N t; omega⟩ d := by
  rw [gat_top', gat_top m c (top t) (top_mod t)]
  have hb : 1024 * ((top t).val / 9) + r.val = 1024 * (t.val / 9) + r.val := by
    show 1024 * ((t.val - t.val % 9) / 9) + r.val = 1024 * (t.val / 9) + r.val
    omega
  unfold gE
  simp only [scr_eq, bwg_apply, bbg_apply, hb]

def zArr (c : Dev nD) : S17408x11520.Idx → EReal := fun i => zE m c (i 0) (i 1)
def gArr (c : Dev nD) : S17408x128.Idx → EReal := fun i => gE m c (i 0) (i 1)

theorem arr9_eq (c : Dev nD) : (dats (F := Ideal) m 0 c).arrAt 9 cfg0.N = zArr m c := by
  refine (dats (F := Ideal) m 0 c).arrAt_eq_of_covers 9 _ (by decide +kernel) fun t hf y => ?_
  blk_simp
  rw [after0_9]
  obtain ⟨r, d, rfl⟩ : ∃ (r : Fin 1024) (d : Fin 1280), y = ix2 r d := ⟨_, _, eq_ix2 y⟩
  refine (blk_final m c t r d).trans ?_
  have hN := lt_N t
  have he : ((cfg0.win 9).blk t).view.emb (ix2 r d)
      = ix2 (⟨1024 * (t.val / 9) + r.val, by omega⟩ : Fin 17408) (⟨1280 * (t.val % 9) + d.val, by omega⟩ : Fin 11520) := by
    obtain ⟨h0, h1, h2, h3, h4, h5, h6, h7, h8, h9, h10⟩ := idx t
    refine funext fun a => Fin.ext ?_
    match a with
    | ⟨0, _⟩ => blk_simp [h9]; show t.val / 9 * 1024 + r.val = 1024 * (t.val / 9) + r.val; omega
    | ⟨1, _⟩ => blk_simp [h9]; show t.val % 9 * 1280 + d.val = 1280 * (t.val % 9) + d.val; omega
  rw [he]
  rfl

theorem arr10_eq (c : Dev nD) : (dats (F := Ideal) m 0 c).arrAt 10 cfg0.N = gArr m c := by
  refine (dats (F := Ideal) m 0 c).arrAt_eq_of_covers 10 _ (by decide +kernel) fun t hf y => ?_
  blk_simp
  rw [after0_10]
  obtain ⟨r, d, rfl⟩ : ∃ (r : Fin 1024) (d : Fin 128), y = ix2 r d := ⟨_, _, eq_ix2 y⟩
  refine (gat_final m c t r d).trans ?_
  have hN := lt_N t
  have he : ((cfg0.win 10).blk t).view.emb (ix2 r d)
      = ix2 (⟨1024 * (t.val / 9) + r.val, by omega⟩ : Fin 17408) d := by
    obtain ⟨h0, h1, h2, h3, h4, h5, h6, h7, h8, h9, h10⟩ := idx t
    refine funext fun a => Fin.ext ?_
    match a with
    | ⟨0, _⟩ => blk_simp [h10]; show t.val / 9 * 1024 + r.val = 1024 * (t.val / 9) + r.val; omega
    | ⟨1, _⟩ => blk_simp [h10]
  rw [he]
  rfl

/-! ## The results -/

theorem zE_eq (c : Dev nD) (R : Fin 17408) (P : Fin 11520) (Q : Fin 11344) (h : Src P.val Q.val) :
    zE m c R P = proj (ax m c) (ac m c) (ag m c) (am m c) (amc m c) (aw m c) (ab m c) R Q := by
  obtain ⟨p, hp⟩ := V_w m c
  obtain ⟨p', hp'⟩ := V_b m c
  unfold zE proj
  have hb : V m c main_v47 (ix2 0 P) = ab m c (ix1 Q) := by
    rw [hp']
    pointwise []
    exact packB_apply _ _ P Q h
  have hw : ∀ k : Fin 2048, V m c main_v21 (ix2 P k) = aw m c (ix2 k Q) := by
    intro k
    rw [hp]
    pointwise []
    exact packW_apply _ _ P k Q h
  rw [hb]
  simp only [hw]
  rfl

theorem gE_eq (c : Dev nD) (R : Fin 17408) (q : Fin 16) :
    gE m c R ⟨q.val, by omega⟩ = gate (ax m c) (ac m c) (ag m c) (am m c) (amc m c) (aw m c) (ab m c) (agb m c) R q := by
  unfold gE gate proj
  have hw : ∀ k : Fin 2048, V m c main_v40 (ix2 (⟨q.val, by omega⟩ : Fin 128) k) = aw m c (ix2 k ⟨3072 + q.val, by omega⟩) :=
    fun k => V_wg m c _ k _ q.isLt rfl
  rw [V_bg m c ⟨q.val, by omega⟩ ⟨3072 + q.val, by omega⟩ q.isLt rfl, ← add_assoc]
  simp only [hw]
  rfl

theorem W_v56 (c : Dev nD) : Pipeline.afterTail₀ cfgs (dats (F := Ideal) m) 0 (V0 m) [hostOps1] c main_v56
    = out0 (ax m c) (ac m c) (ag m c) (am m c) (amc m c) (aw m c) (ab m c) := by
  have e : Pipeline.withArrays spec0 c (V0 m c) (fun w => (dats (F := Ideal) m 0 c).arrAt w cfg0.N) (Proc.devRef .tc main_v52_0) = zArr m c :=
    ((dats (F := Ideal) m 0 c).withArrays_arrAt launch₀0.sharedIn (V0 m c) (A_eq m c) 9).trans (arr9_eq m c)
  have : Pipeline.afterTail₀ cfgs (dats (F := Ideal) m) 0 (V0 m) [hostOps1] c main_v56
      = concatenate S17408x11328 1 [⟨S17408x4096, (extractStridedSlice S17408x4096 ![0, 0] (zArr m c) slices_S17408x11520_S17408x4096_0_0 : FVec Ideal S17408x4096 .bf16)⟩,
        ⟨S17408x64, (extractStridedSlice S17408x64 ![0, 11264] (zArr m c) slices_S17408x11520_S17408x64_0_11264 : FVec Ideal S17408x64 .bf16)⟩,
        ⟨S17408x7168, (extractStridedSlice S17408x7168 ![0, 4096] (zArr m c) slices_S17408x11520_S17408x7168_0_4096 : FVec Ideal S17408x7168 .bf16)⟩]
        concatenates_S17408x4096_S17408x64_S17408x7168_S17408x11328_d1 := by
    rw [← e]
    unfold Pipeline.afterTail₀
    after_reads_simp
    rfl
  rw [this]
  funext i
  obtain ⟨R, C, rfl⟩ : ∃ (R : Fin 17408) (C : Fin 11328), i = ix2 R C := ⟨_, _, eq_ix2 i⟩
  show _ = proj (ax m c) (ac m c) (ag m c) (am m c) (amc m c) (aw m c) (ab m c) R (col C)
  pointwise []
  refine dite_to (fun h0 => ?_) (fun h0 => dite_to (fun h1 => ?_) (fun h1 => ?_))
  · refine zE_eq m c R _ _ ?_
    show Src (C.val) (if C.val < 3072 then C.val else C.val + 16)
    unfold Src
    split <;> omega
  · refine zE_eq m c R _ _ ?_
    show Src (11264 + (C.val - 4096)) (if C.val < 3072 then C.val else C.val + 16)
    unfold Src
    split <;> omega
  · refine zE_eq m c R _ _ ?_
    show Src (4096 + (C.val - 4096 - 64)) (if C.val < 3072 then C.val else C.val + 16)
    unfold Src
    split <;> omega

theorem W_v57 (c : Dev nD) : Pipeline.afterTail₀ cfgs (dats (F := Ideal) m) 0 (V0 m) [hostOps1] c main_v57
    = out1 (ax m c) (ac m c) (ag m c) (am m c) (amc m c) (aw m c) (ab m c) (agb m c) := by
  have e : Pipeline.withArrays spec0 c (V0 m c) (fun w => (dats (F := Ideal) m 0 c).arrAt w cfg0.N) (Proc.devRef .tc main_v52_1) = gArr m c :=
    ((dats (F := Ideal) m 0 c).withArrays_arrAt launch₀0.sharedIn (V0 m c) (A_eq m c) 10).trans (arr10_eq m c)
  have : Pipeline.afterTail₀ cfgs (dats (F := Ideal) m) 0 (V0 m) [hostOps1] c main_v57
      = extractStridedSlice S17408x16 ![0, 0] (gArr m c) slices_S17408x128_S17408x16_0_0 := by
    rw [← e]
    unfold Pipeline.afterTail₀
    after_reads_simp
  rw [this]
  funext i
  obtain ⟨R, C, rfl⟩ : ∃ (R : Fin 17408) (C : Fin 16), i = ix2 R C := ⟨_, _, eq_ix2 i⟩
  show _ = gate (ax m c) (ac m c) (ag m c) (am m c) (amc m c) (aw m c) (ab m c) (agb m c) R C
  refine Eq.trans ?_ (gE_eq m c R C)
  pointwise []
  rfl

/-- The kernel's run: its two results are the reference's, of the arguments, which end unchanged. -/
theorem run_value : θ_run defs (onTc (τ := τ) (main (F := Ideal))) ⟨m, fun _ => 0, ρ⟩ (fun r => ∀ c : Dev nD,
      (r.2.mem ((c.tc : Thread nD τ).loc main_v56) = out0 (ax m c) (ac m c) (ag m c) (am m c) (amc m c) (aw m c) (ab m c)
      ∧ r.2.mem ((c.tc : Thread nD τ).loc main_v57) = out1 (ax m c) (ac m c) (ag m c) (am m c) (amc m c) (aw m c) (ab m c) (agb m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun _ hr c => ⟨⟨((hr.1 c).2 main_v56 (Pipeline.mem_restRefs_of main_v56 (by decide) (by decide))).trans (W_v56 m c),
      ((hr.1 c).2 main_v57 (Pipeline.mem_restRefs_of main_v57 (by decide) (by decide))).trans (W_v57 m c)⟩, hr.2 c⟩)
    (θ_run_and (run_main m ρ) (unchanged m ρ))

end Cert.Kernel4Ideal.In

end
-- ==== Proof.In.RefValue.lean ====
/- The input projection's reference: its two results, read entry by entry. -/
module

public import proofs.«01_k».proof.Proof.In.Spec
public import proofs.«01_k».proof.Proof.Gen.Reference4Ideal.Run

@[expose] public section

set_option maxRecDepth 16384

noncomputable section

namespace Cert.Reference4Ideal.In

open Cert.Reference4Ideal Cert.Reference4Ideal.Gen
open Idealize.ShloMosaic Idealize.ShloMosaic.TcCoe Idealize.SL.Sem

/-- The stream's normed and modulated rows, as the host computes them, -/
def rowsX (x : FVec Ideal S4x4096x2048 .f32) (g : FVec Ideal S2048 .f32) (md : FVec Ideal S4x12288 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (shapeCast S4x1x2048 (extractStridedSlice S1x4x1x2048 ![1, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_1_0_0_0) shapeCasts_S1x4x1x2048_S4x1x2048)))) (broadcastInDim S4x4096x2048 ![0, 1, 2] bcast_S4x1x2048_S4x4096x2048_0_1_2 (shapeCast S4x1x2048 (extractStridedSlice S1x4x1x2048 ![0, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_0_0_0_0) shapeCasts_S1x4x1x2048_S4x1x2048))
/-- the context's, -/
def rowsC (xc : FVec Ideal S4x256x2048 .f32) (g : FVec Ideal S2048 .f32) (mc : FVec Ideal S12288 .f32) : FVec Ideal S4x256x2048 .f32 :=
  addf (mulf (mulf (mulf xc (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf xc xc) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 g))) (broadcastInDim S4x256x2048 ![0, 1, 2] bcast_S1x1x2048_S4x256x2048_0_1_2 (addf (broadcastInDim S1x1x2048 ![] bcast_S_S1x1x2048 (constant S_ .f32 0x3F800000#32)) (shapeCast S1x1x2048 (extractStridedSlice S1x1x1x2048 ![1, 0, 0, 0] (shapeCast S6x1x1x2048 mc shapeCasts_S12288_S6x1x1x2048) slices_S6x1x1x2048_S1x1x1x2048_1_0_0_0) shapeCasts_S1x1x1x2048_S1x1x2048)))) (broadcastInDim S4x256x2048 ![0, 1, 2] bcast_S1x1x2048_S4x256x2048_0_1_2 (shapeCast S1x1x2048 (extractStridedSlice S1x1x1x2048 ![0, 0, 0, 0] (shapeCast S6x1x1x2048 mc shapeCasts_S12288_S6x1x1x2048) slices_S6x1x1x2048_S1x1x1x2048_0_0_0_0) shapeCasts_S1x1x1x2048_S1x1x2048))
/-- and the product with its bias, of both. -/
def zs (x : FVec Ideal S4x4096x2048 .f32) (xc : FVec Ideal S4x256x2048 .f32) (g : FVec Ideal S2048 .f32) (md : FVec Ideal S4x12288 .f32) (mc : FVec Ideal S12288 .f32)
    (w : FVec Ideal S2048x11344 .f32) (b : FVec Ideal S11344 .f32) : FVec Ideal S17408x11344 .f32 :=
  concatenate S17408x11344 0 [⟨S16384x11344, (shapeCast S16384x11344 (addf (Host.dotGeneral dot_S4x4096x2048_S2048x11344_S4x4096x11344_2_0_01_1_n_n none (rowsX x g md) w) (broadcastInDim S4x4096x11344 ![0, 1, 2] bcast_S1x1x11344_S4x4096x11344_0_1_2 (broadcastInDim S1x1x11344 ![2] bcast_S11344_S1x1x11344_2 b))) shapeCasts_S4x4096x11344_S16384x11344)⟩, ⟨S1024x11344, (shapeCast S1024x11344 (addf (Host.dotGeneral dot_S4x256x2048_S2048x11344_S4x256x11344_2_0_01_1_n_n none (rowsC xc g mc) w) (broadcastInDim S4x256x11344 ![0, 1, 2] bcast_S1x1x11344_S4x256x11344_0_1_2 (broadcastInDim S1x1x11344 ![2] bcast_S11344_S1x1x11344_2 b))) shapeCasts_S4x256x11344_S1024x11344)⟩] concatenates_S16384x11344_S1024x11344_S17408x11344_d0

theorem rowsX_apply (x : FVec Ideal S4x4096x2048 .f32) (g : FVec Ideal S2048 .f32) (md : FVec Ideal S4x12288 .f32) (R : Fin 16384) (d : Fin 2048) :
    rowsX x g md (ix3 ⟨R.val / 4096, by omega⟩ ⟨R.val % 4096, by omega⟩ d) = Cert.Kernel4Ideal.In.rowX x g md R d := by
  unfold Cert.Kernel4Ideal.In.rowX
  pointwise [rowsX]

theorem rowsC_apply (xc : FVec Ideal S4x256x2048 .f32) (g : FVec Ideal S2048 .f32) (mc : FVec Ideal S12288 .f32) (R : Fin 1024) (d : Fin 2048) :
    rowsC xc g mc (ix3 ⟨R.val / 256, by omega⟩ ⟨R.val % 256, by omega⟩ d) = Cert.Kernel4Ideal.In.rowC xc g mc R d := by
  unfold Cert.Kernel4Ideal.In.rowC
  pointwise [rowsC]

theorem zs_apply (x : FVec Ideal S4x4096x2048 .f32) (xc : FVec Ideal S4x256x2048 .f32) (g : FVec Ideal S2048 .f32) (md : FVec Ideal S4x12288 .f32) (mc : FVec Ideal S12288 .f32)
    (w : FVec Ideal S2048x11344 .f32) (b : FVec Ideal S11344 .f32) (R : Fin 17408) (Q : Fin 11344) :
    zs x xc g md mc w b (ix2 R Q) = Cert.Kernel4Ideal.In.proj x xc g md mc w b R Q := by
  unfold Cert.Kernel4Ideal.In.proj Cert.Kernel4Ideal.In.row
  pointwise [zs]
  by_cases h : R.val < 16384
  · simp only [dif_pos h]
    exact congrArg (· + b (ix1 Q)) (Finset.sum_congr rfl fun k _ => congrArg (· * w (ix2 k Q)) (rowsX_apply x g md ⟨R.val, h⟩ k))
  · simp only [dif_neg h]
    exact congrArg (· + b (ix1 Q)) (Finset.sum_congr rfl fun k _ => congrArg (· * w (ix2 k Q)) (rowsC_apply xc g mc ⟨R.val - 16384, by omega⟩ k))

/-- The first result is the product without the gates' columns. -/
theorem term0_eq (x : FVec Ideal S4x4096x2048 .f32) (xc : FVec Ideal S4x256x2048 .f32) (g : FVec Ideal S2048 .f32) (md : FVec Ideal S4x12288 .f32) (mc : FVec Ideal S12288 .f32)
    (w : FVec Ideal S2048x11344 .f32) (b : FVec Ideal S11344 .f32) :
    (truncf .bf16 (concatenate S17408x11328 1 [⟨S17408x3072, (extractStridedSlice S17408x3072 ![0, 0] (zs x xc g md mc w b) slices_S17408x11344_S17408x3072_0_0)⟩, ⟨S17408x8256, (extractStridedSlice S17408x8256 ![0, 3088] (zs x xc g md mc w b) slices_S17408x11344_S17408x8256_0_3088)⟩] concatenates_S17408x3072_S17408x8256_S17408x11328_d1) bitsLt_bf16_f32 : FVec Ideal S17408x11328 .bf16)
      = Cert.Kernel4Ideal.In.out0 x xc g md mc w b := by
  funext i
  obtain ⟨R, C, rfl⟩ : ∃ (R : Fin 17408) (C : Fin 11328), i = ix2 R C := ⟨_, _, eq_ix2 i⟩
  show _ = Cert.Kernel4Ideal.In.proj x xc g md mc w b R (Cert.Kernel4Ideal.In.col C)
  unfold Cert.Kernel4Ideal.In.col
  pointwise []
  by_cases h : C.val < 3072
  · rw [dif_pos h, zs_apply]
    refine congrArg (Cert.Kernel4Ideal.In.proj x xc g md mc w b R) (Fin.ext ?_)
    simp only [if_pos h]
  · rw [dif_neg h, zs_apply]
    refine congrArg (Cert.Kernel4Ideal.In.proj x xc g md mc w b R) (Fin.ext ?_)
    simp only [if_neg h]
    omega

/-- The second is the gates' columns with their own bias. -/
theorem term1_eq (x : FVec Ideal S4x4096x2048 .f32) (xc : FVec Ideal S4x256x2048 .f32) (g : FVec Ideal S2048 .f32) (md : FVec Ideal S4x12288 .f32) (mc : FVec Ideal S12288 .f32)
    (w : FVec Ideal S2048x11344 .f32) (b : FVec Ideal S11344 .f32) (gb : FVec Ideal S4x4 .f32) :
    (addf (extractStridedSlice S17408x16 ![0, 3072] (zs x xc g md mc w b) slices_S17408x11344_S17408x16_0_3072) (broadcastInDim S17408x16 ![0, 1] bcast_S1x16_S17408x16_0_1 (broadcastInDim S1x16 ![1] bcast_S16_S1x16_1 (shapeCast S16 gb shapeCasts_S4x4_S16))) : FVec Ideal S17408x16 .f32)
      = Cert.Kernel4Ideal.In.out1 x xc g md mc w b gb := by
  funext i
  obtain ⟨R, C, rfl⟩ : ∃ (R : Fin 17408) (C : Fin 16), i = ix2 R C := ⟨_, _, eq_ix2 i⟩
  show _ = Cert.Kernel4Ideal.In.gate x xc g md mc w b gb R C
  unfold Cert.Kernel4Ideal.In.gate
  pointwise []
  rw [zs_apply]

end Cert.Reference4Ideal.In

end
-- ==== Proof.Merge.Value.lean ====
/- The merge of the branches: what the kernel leaves is the reference's sum of gated projections. -/
module

public import Idealize.ShloMosaic.Lib.StableHlo.RunRead
public import proofs.«01_k».proof.Proof.Gen.Kernel5Ideal.Frame
public import proofs.«01_k».proof.Proof.Gen.Reference5Ideal.Run
public import Idealize.ShloMosaic.Lib.Pipeline.ValueKit

@[expose] public section

set_option maxRecDepth 16384

noncomputable section

namespace Cert.Kernel5Ideal.Merge

open Cert.Kernel5Ideal Cert.Kernel5Ideal.Gen
open Idealize.ShloMosaic Idealize.ShloMosaic.TcCoe Idealize.SL.Sem

variable (m : (ℓ : Loc nD τ sig) → Buf (Elt Ideal) ℓ) (ρ : Dev nD → PrngReg)

/-- The arguments: the three branches, the gates before their sigmoid, the weights. -/
def aa (c : Dev nD) : FVec Ideal S4x4096x1024 .bf16 := m (c, Proc.tc.devRef main_arg0)
def ab (c : Dev nD) : FVec Ideal S4x4096x1024 .bf16 := m (c, Proc.tc.devRef main_arg1)
def ae (c : Dev nD) : FVec Ideal S4x4096x1024 .bf16 := m (c, Proc.tc.devRef main_arg2)
def ag (c : Dev nD) : FVec Ideal S4x4096x6144 .bf16 := m (c, Proc.tc.devRef main_arg3)
def aw (c : Dev nD) : FVec Ideal S3x1024x2048 .f32 := m (c, Proc.tc.devRef main_arg4)

theorem idx : ∀ t : Fin cfg0.N, win0_0.index t = ![t.val / 4, 0] ∧ win0_2.index t = ![t.val / 4, 0] ∧ win0_4.index t = ![t.val / 4, 0]
    ∧ win0_5.index t = ![t.val / 4, 10 + t.val % 4] ∧ win0_6.index t = ![t.val / 4, 14 + t.val % 4] ∧ win0_7.index t = ![t.val / 4, 18 + t.val % 4]
    ∧ win0_8.index t = ![0, 0, t.val % 4] ∧ win0_9.index t = ![t.val / 4, t.val % 4] :=
  (by decide +kernel : ∀ t : Fin grid0.N, _)

theorem lt_N (t : Fin cfg0.N) : t.val < 64 := t.isLt

/-- A grid point's blocks of the arguments. -/
def ba (c : Dev nD) (t : Fin cfg0.N) : S1024x1024.Idx → EReal := iblk m c 0 t
def bb (c : Dev nD) (t : Fin cfg0.N) : S1024x1024.Idx → EReal := iblk m c 2 t
def be (c : Dev nD) (t : Fin cfg0.N) : S1024x1024.Idx → EReal := iblk m c 4 t
def g0 (c : Dev nD) (t : Fin cfg0.N) : S1024x512.Idx → EReal := X0_5 m c t
def g1 (c : Dev nD) (t : Fin cfg0.N) : S1024x512.Idx → EReal := X0_6 m c t
def g2 (c : Dev nD) (t : Fin cfg0.N) : S1024x512.Idx → EReal := X0_7 m c t
def bw (c : Dev nD) (t : Fin cfg0.N) : S3x1024x512.Idx → EReal := iblk m c 8 t

/-- What the output block holds after a grid point. -/
def blk (c : Dev nD) (t : Fin cfg0.N) : S1024x512.Idx → EReal := (dats m 0 c).after 9 t

theorem blk_eq (c : Dev nD) (t : Fin cfg0.N) (r : Fin 1024) (d : Fin 512) : blk m c t (ix2 r d)
    = Ideal.logistic (g0 m c t (ix2 r d)) * ∑ x : Fin 1024, ba m c t (ix2 r x) * bw m c t (ix3 0 x d)
      + Ideal.logistic (g1 m c t (ix2 r d)) * ∑ x : Fin 1024, bb m c t (ix2 r x) * bw m c t (ix3 1 x d)
      + Ideal.logistic (g2 m c t (ix2 r d)) * ∑ x : Fin 1024, be m c t (ix2 r x) * bw m c t (ix3 2 x d) := by
  unfold blk
  rw [after0_9]
  unfold outsAt0
  frame_out
  pointwise [k0_pay1]
  rfl

theorem ix2_eq {n0 n1 : ℕ} {a a' : Fin n0} {b b' : Fin n1} (ha : a.val = a'.val) (hb : b.val = b'.val) : ix2 a b = ix2 a' b' := by
  rw [Fin.ext ha, Fin.ext hb]

theorem V_a (c : Dev nD) (R : Fin 16384) (C : Fin 1024) :
    V m c main_v0 (ix2 R C) = aa m c (ix3 ⟨R.val / 4096, by omega⟩ ⟨R.val % 4096, by omega⟩ C) := by
  have : V m c main_v0 = shapeCast S16384x1024 (aa m c) shapeCasts_S4x4096x1024_S16384x1024 := by entry_read; rfl
  rw [this]
  pointwise []
theorem V_b (c : Dev nD) (R : Fin 16384) (C : Fin 1024) :
    V m c main_v1 (ix2 R C) = ab m c (ix3 ⟨R.val / 4096, by omega⟩ ⟨R.val % 4096, by omega⟩ C) := by
  have : V m c main_v1 = shapeCast S16384x1024 (ab m c) shapeCasts_S4x4096x1024_S16384x1024 := by entry_read; rfl
  rw [this]
  pointwise []
theorem V_e (c : Dev nD) (R : Fin 16384) (C : Fin 1024) :
    V m c main_v2 (ix2 R C) = ae m c (ix3 ⟨R.val / 4096, by omega⟩ ⟨R.val % 4096, by omega⟩ C) := by
  have : V m c main_v2 = shapeCast S16384x1024 (ae m c) shapeCasts_S4x4096x1024_S16384x1024 := by entry_read; rfl
  rw [this]
  pointwise []
theorem V_w (c : Dev nD) : V m c main_v7 = (aw m c : S3x1024x2048.Idx → EReal) := by entry_read; rfl
set_option maxRecDepth 16384 in
set_option maxHeartbeats 4000000 in
theorem V_g (c : Dev nD) (R : Fin 16384) (C : Fin 11520) (C' : Fin 6144) (h : C.val = 5120 + C'.val) :
    V m c main_v6 (ix2 R C) = ag m c (ix3 ⟨R.val / 4096, by omega⟩ ⟨R.val % 4096, by omega⟩ C') := by
  have : V m c main_v6 = concatenate S16384x11520 1 [⟨S16384x5120, (broadcastInDim S16384x5120 ![] bcast_S_S16384x5120 (constant S_ .bf16 0x0000#16) : FVec Ideal S16384x5120 .bf16)⟩,
    ⟨S16384x6144, (shapeCast S16384x6144 (ag m c) shapeCasts_S4x4096x6144_S16384x6144 : FVec Ideal S16384x6144 .bf16)⟩,
    ⟨S16384x256, (broadcastInDim S16384x256 ![] bcast_S_S16384x256 (constant S_ .bf16 0x0000#16) : FVec Ideal S16384x256 .bf16)⟩] concatenates_S16384x5120_S16384x6144_S16384x256_S16384x11520_d1 := by
    rw [V]
    after_reads_simp
    rfl
  rw [this]
  pointwise []
  rw [dif_neg (by omega), dif_pos (by omega)]
  refine congrArg (ag m c) (congrArg (ix3 _ _) (Fin.ext ?_))
  show C.val - 5120 = C'.val
  omega

theorem ba_apply (c : Dev nD) (t : Fin cfg0.N) (r k : Fin 1024) : ba m c t (ix2 r k)
    = aa m c (ix3 ⟨(1024 * (t.val / 4) + r.val) / 4096, by have := lt_N t; omega⟩ ⟨(1024 * (t.val / 4) + r.val) % 4096, by omega⟩ k) := by
  obtain ⟨h0, h2, h4, h5, h6, h7, h8, h9⟩ := idx t
  have hN := lt_N t
  refine Eq.trans ?_ (V_a m c ⟨1024 * (t.val / 4) + r.val, by omega⟩ k)
  unfold ba iblk
  blk_simp [h0]
  refine congrArg (V m c main_v0) (funext fun a => Fin.ext ?_)
  match a with
  | ⟨0, _⟩ => blk_simp [h0]; show t.val / 4 * 1024 + r.val = 1024 * (t.val / 4) + r.val; omega
  | ⟨1, _⟩ => blk_simp [h0]

theorem bb_apply (c : Dev nD) (t : Fin cfg0.N) (r k : Fin 1024) : bb m c t (ix2 r k)
    = ab m c (ix3 ⟨(1024 * (t.val / 4) + r.val) / 4096, by have := lt_N t; omega⟩ ⟨(1024 * (t.val / 4) + r.val) % 4096, by omega⟩ k) := by
  obtain ⟨h0, h2, h4, h5, h6, h7, h8, h9⟩ := idx t
  have hN := lt_N t
  refine Eq.trans ?_ (V_b m c ⟨1024 * (t.val / 4) + r.val, by omega⟩ k)
  unfold bb iblk
  blk_simp [h2]
  refine congrArg (V m c main_v1) (funext fun a => Fin.ext ?_)
  match a with
  | ⟨0, _⟩ => blk_simp [h2]; show t.val / 4 * 1024 + r.val = 1024 * (t.val / 4) + r.val; omega
  | ⟨1, _⟩ => blk_simp [h2]

theorem be_apply (c : Dev nD) (t : Fin cfg0.N) (r k : Fin 1024) : be m c t (ix2 r k)
    = ae m c (ix3 ⟨(1024 * (t.val / 4) + r.val) / 4096, by have := lt_N t; omega⟩ ⟨(1024 * (t.val / 4) + r.val) % 4096, by omega⟩ k) := by
  obtain ⟨h0, h2, h4, h5, h6, h7, h8, h9⟩ := idx t
  have hN := lt_N t
  refine Eq.trans ?_ (V_e m c ⟨1024 * (t.val / 4) + r.val, by omega⟩ k)
  unfold be iblk
  blk_simp [h4]
  refine congrArg (V m c main_v2) (funext fun a => Fin.ext ?_)
  match a with
  | ⟨0, _⟩ => blk_simp [h4]; show t.val / 4 * 1024 + r.val = 1024 * (t.val / 4) + r.val; omega
  | ⟨1, _⟩ => blk_simp [h4]

theorem g0_apply (c : Dev nD) (t : Fin cfg0.N) (r : Fin 1024) (d : Fin 512) : g0 m c t (ix2 r d)
    = ag m c (ix3 ⟨(1024 * (t.val / 4) + r.val) / 4096, by have := lt_N t; omega⟩ ⟨(1024 * (t.val / 4) + r.val) % 4096, by omega⟩
      ⟨0 + (512 * (t.val % 4) + d.val), by omega⟩) := by
  obtain ⟨h0, h2, h4, h5, h6, h7, h8, h9⟩ := idx t
  have hN := lt_N t
  refine Eq.trans ?_ (V_g m c ⟨1024 * (t.val / 4) + r.val, by omega⟩ ⟨5120 + (0 + (512 * (t.val % 4) + d.val)), by omega⟩ ⟨0 + (512 * (t.val % 4) + d.val), by omega⟩ rfl)
  unfold g0 X0_5 Pipeline.Window.fill
  rw [dif_pos (moved0_5 t _)]
  unfold iblk
  blk_simp [h5]
  refine congrArg (V m c main_v6) (funext fun a => Fin.ext ?_)
  match a with
  | ⟨0, _⟩ => blk_simp [h5]; show t.val / 4 * 1024 + r.val = 1024 * (t.val / 4) + r.val; omega
  | ⟨1, _⟩ => blk_simp [h5]; show (10 + t.val % 4) * 512 + d.val = 5120 + (512 * (t.val % 4) + d.val); omega

theorem g1_apply (c : Dev nD) (t : Fin cfg0.N) (r : Fin 1024) (d : Fin 512) : g1 m c t (ix2 r d)
    = ag m c (ix3 ⟨(1024 * (t.val / 4) + r.val) / 4096, by have := lt_N t; omega⟩ ⟨(1024 * (t.val / 4) + r.val) % 4096, by omega⟩
      ⟨2048 + (512 * (t.val % 4) + d.val), by omega⟩) := by
  obtain ⟨h0, h2, h4, h5, h6, h7, h8, h9⟩ := idx t
  have hN := lt_N t
  refine Eq.trans ?_ (V_g m c ⟨1024 * (t.val / 4) + r.val, by omega⟩ ⟨5120 + (2048 + (512 * (t.val % 4) + d.val)), by omega⟩ ⟨2048 + (512 * (t.val % 4) + d.val), by omega⟩ rfl)
  unfold g1 X0_6 Pipeline.Window.fill
  rw [dif_pos (moved0_6 t _)]
  unfold iblk
  blk_simp [h6]
  refine congrArg (V m c main_v6) (funext fun a => Fin.ext ?_)
  match a with
  | ⟨0, _⟩ => blk_simp [h6]; show t.val / 4 * 1024 + r.val = 1024 * (t.val / 4) + r.val; omega
  | ⟨1, _⟩ => blk_simp [h6]; show (14 + t.val % 4) * 512 + d.val = 5120 + (2048 + (512 * (t.val % 4) + d.val)); omega

theorem g2_apply (c : Dev nD) (t : Fin cfg0.N) (r : Fin 1024) (d : Fin 512) : g2 m c t (ix2 r d)
    = ag m c (ix3 ⟨(1024 * (t.val / 4) + r.val) / 4096, by have := lt_N t; omega⟩ ⟨(1024 * (t.val / 4) + r.val) % 4096, by omega⟩
      ⟨4096 + (512 * (t.val % 4) + d.val), by omega⟩) := by
  obtain ⟨h0, h2, h4, h5, h6, h7, h8, h9⟩ := idx t
  have hN := lt_N t
  refine Eq.trans ?_ (V_g m c ⟨1024 * (t.val / 4) + r.val, by omega⟩ ⟨5120 + (4096 + (512 * (t.val % 4) + d.val)), by omega⟩ ⟨4096 + (512 * (t.val % 4) + d.val), by omega⟩ rfl)
  unfold g2 X0_7 Pipeline.Window.fill
  rw [dif_pos (moved0_7 t _)]
  unfold iblk
  blk_simp [h7]
  refine congrArg (V m c main_v6) (funext fun a => Fin.ext ?_)
  match a with
  | ⟨0, _⟩ => blk_simp [h7]; show t.val / 4 * 1024 + r.val = 1024 * (t.val / 4) + r.val; omega
  | ⟨1, _⟩ => blk_simp [h7]; show (18 + t.val % 4) * 512 + d.val = 5120 + (4096 + (512 * (t.val % 4) + d.val)); omega

theorem bw_apply (c : Dev nD) (t : Fin cfg0.N) (b : Fin 3) (k : Fin 1024) (d : Fin 512) : bw m c t (ix3 b k d)
    = aw m c (ix3 b k ⟨512 * (t.val % 4) + d.val, by omega⟩) := by
  obtain ⟨h0, h2, h4, h5, h6, h7, h8, h9⟩ := idx t
  refine Eq.trans ?_ (congrFun (V_w m c) _)
  unfold bw iblk
  blk_simp [h8]
  refine congrArg (V m c main_v7) (funext fun a => Fin.ext ?_)
  match a with
  | ⟨0, _⟩ => blk_simp [h8]
  | ⟨1, _⟩ => blk_simp [h8]
  | ⟨2, _⟩ => blk_simp [h8]; show t.val % 4 * 512 + d.val = 512 * (t.val % 4) + d.val; omega

/-- One branch's part: the sigmoid of its gate times its projection. -/
def part (n : ℕ) (hn : n < 3) (a : S4x4096x1024.Idx → EReal) (g : S4x4096x6144.Idx → EReal) (w : S3x1024x2048.Idx → EReal) (R : Fin 16384) (C : Fin 2048) : EReal :=
  Ideal.logistic (g (ix3 ⟨R.val / 4096, by omega⟩ ⟨R.val % 4096, by omega⟩ ⟨2048 * n + C.val, by omega⟩))
    * ∑ x : Fin 1024, a (ix3 ⟨R.val / 4096, by omega⟩ ⟨R.val % 4096, by omega⟩ x) * w (ix3 ⟨n, hn⟩ x C)

/-- The reference's result: the three parts' sum. -/
def res (a b e : S4x4096x1024.Idx → EReal) (g : S4x4096x6144.Idx → EReal) (w : S3x1024x2048.Idx → EReal) (R : Fin 16384) (C : Fin 2048) : EReal :=
  part 0 (by omega) a g w R C + part 1 (by omega) b g w R C + part 2 (by omega) e g w R C

theorem final (c : Dev nD) (t : Fin cfg0.N) (r : Fin 1024) (d : Fin 512) :
    blk m c t (ix2 r d) = res (aa m c) (ab m c) (ae m c) (ag m c) (aw m c)
      ⟨1024 * (t.val / 4) + r.val, by have := lt_N t; omega⟩ ⟨512 * (t.val % 4) + d.val, by omega⟩ := by
  rw [blk_eq]
  simp only [ba_apply, bb_apply, be_apply, g0_apply, g1_apply, g2_apply, bw_apply]
  rfl

/-- The reference's result array. -/
def out (a b e : S4x4096x1024.Idx → EReal) (g : S4x4096x6144.Idx → EReal) (w : S3x1024x2048.Idx → EReal) : S16384x2048.Idx → EReal :=
  fun i => res a b e g w (i 0) (i 1)

theorem arr_eq (c : Dev nD) : (dats m 0 c).arrAt 9 cfg0.N = out (aa m c) (ab m c) (ae m c) (ag m c) (aw m c) := by
  refine (dats m 0 c).arrAt_eq_of_covers 9 _ (by decide +kernel) fun t hf y => ?_
  blk_simp
  obtain ⟨r, d, rfl⟩ : ∃ (r : Fin 1024) (d : Fin 512), y = ix2 r d := ⟨_, _, eq_ix2 y⟩
  refine (final m c t r d).trans ?_
  have hN := lt_N t
  have he : ((cfg0.win 9).blk t).view.emb (ix2 r d)
      = ix2 (⟨1024 * (t.val / 4) + r.val, by omega⟩ : Fin 16384) (⟨512 * (t.val % 4) + d.val, by omega⟩ : Fin 2048) := by
    obtain ⟨h0, h2, h4, h5, h6, h7, h8, h9⟩ := idx t
    refine funext fun a => Fin.ext ?_
    match a with
    | ⟨0, _⟩ => blk_simp [h9]; show t.val / 4 * 1024 + r.val = 1024 * (t.val / 4) + r.val; omega
    | ⟨1, _⟩ => blk_simp [h9]; show t.val % 4 * 512 + d.val = 512 * (t.val % 4) + d.val; omega
  rw [he]
  rfl

/-- The kernel's run: its result is the reference's, of the arguments, which end unchanged. -/
theorem run_value : θ_run defs (onTc (τ := τ) (main (F := Ideal))) ⟨m, fun _ => 0, ρ⟩ (fun r => ∀ c : Dev nD,
      r.2.mem ((c.tc : Thread nD τ).loc main_v8) = out (aa m c) (ab m c) (ae m c) (ag m c) (aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨((hr.1 c).1 9).trans (arr_eq m c), hr.2 c⟩)
    (θ_run_and (run_main m ρ) (unchanged m ρ))

end Cert.Kernel5Ideal.Merge

namespace Cert.Reference5Ideal.Merge

open Cert.Reference5Ideal Cert.Reference5Ideal.Gen
open Idealize.ShloMosaic Idealize.ShloMosaic.TcCoe Idealize.SL.Sem

/-- The reference's host term, read at every index. -/
theorem term_eq (a b e : FVec Ideal S4x4096x1024 .bf16) (g : FVec Ideal S4x4096x6144 .bf16) (w : FVec Ideal S3x1024x2048 .f32) :
    (truncf .bf16 (shapeCast S16384x2048 (Host.reduceAdd (mulf (Host.divf (broadcastInDim S4x4096x3x2048 ![] bcast_S_S4x4096x3x2048 (constant S_ .f32 0x3F800000#32)) (addf (broadcastInDim S4x4096x3x2048 ![] bcast_S_S4x4096x3x2048 (constant S_ .f32 0x3F800000#32)) (Host.exp (Host.negf (extf .f32 (shapeCast S4x4096x3x2048 g shapeCasts_S4x4096x6144_S4x4096x3x2048) bitsLt_bf16_f32))))) (transpose S4x4096x3x2048 [2, 3, 0, 1] (Host.dotGeneral dot_S3x1024x2048_S4x4096x3x1024_S3x2048x4x4096_1_3_2_01_0_2 none w (extf .f32 ((concatenate S4x4096x3x1024 2 [⟨S4x4096x1x1024, ((broadcastInDim S4x4096x1x1024 ![0, 1, 3] bcast_S4x4096x1024_S4x4096x1x1024_0_1_3 a) : FVec Ideal S4x4096x1x1024 .bf16)⟩, ⟨S4x4096x1x1024, ((broadcastInDim S4x4096x1x1024 ![0, 1, 3] bcast_S4x4096x1024_S4x4096x1x1024_0_1_3 b) : FVec Ideal S4x4096x1x1024 .bf16)⟩, ⟨S4x4096x1x1024, ((broadcastInDim S4x4096x1x1024 ![0, 1, 3] bcast_S4x4096x1024_S4x4096x1x1024_0_1_3 e) : FVec Ideal S4x4096x1x1024 .bf16)⟩] concatenates_S4x4096x1x1024_S4x4096x1x1024_S4x4096x1x1024_S4x4096x3x1024_d2 : FVec Ideal S4x4096x3x1024 .bf16)) bitsLt_bf16_f32) : FVec Ideal S3x2048x4x4096 .f32) transposes_S3x2048x4x4096_S4x4096x3x2048_2_3_0_1)) (constant S_ .f32 0x00000000#32) reducesTo_S4x4096x3x2048_S4x4096x2048_d2 h_S_) shapeCasts_S4x4096x2048_S16384x2048) bitsLt_bf16_f32 : FVec Ideal S16384x2048 .bf16)
      = Cert.Kernel5Ideal.Merge.out a b e g w := by
  funext i
  obtain ⟨R, C, rfl⟩ : ∃ (R : Fin 16384) (C : Fin 2048), i = ix2 R C := ⟨_, _, eq_ix2 i⟩
  show _ = Cert.Kernel5Ideal.Merge.res a b e g w R C
  unfold Cert.Kernel5Ideal.Merge.res Cert.Kernel5Ideal.Merge.part
  pointwise []
  simp only [Fin.sum_univ_three]
  have s0 : ∀ x : Fin 1024, w (ix3 0 x C) * a (ix3 ⟨R.val / 4096, by omega⟩ ⟨R.val % 4096, by omega⟩ x) = a (ix3 ⟨R.val / 4096, by omega⟩ ⟨R.val % 4096, by omega⟩ x) * w (ix3 ⟨0, by omega⟩ x C) := fun x => mul_comm _ _
  have s1 : ∀ x : Fin 1024, w (ix3 1 x C) * b (ix3 ⟨R.val / 4096, by omega⟩ ⟨R.val % 4096, by omega⟩ x) = b (ix3 ⟨R.val / 4096, by omega⟩ ⟨R.val % 4096, by omega⟩ x) * w (ix3 ⟨1, by omega⟩ x C) := fun x => mul_comm _ _
  have s2 : ∀ x : Fin 1024, w (ix3 2 x C) * e (ix3 ⟨R.val / 4096, by omega⟩ ⟨R.val % 4096, by omega⟩ x) = e (ix3 ⟨R.val / 4096, by omega⟩ ⟨R.val % 4096, by omega⟩ x) * w (ix3 ⟨2, by omega⟩ x C) := fun x => mul_comm _ _
  refine congrArg₂ (· + ·) (congrArg₂ (· + ·) (congrArg₂ (· * ·) ?_ (Finset.sum_congr rfl fun x _ => ?_)) (congrArg₂ (· * ·) ?_ (Finset.sum_congr rfl fun x _ => ?_))) (congrArg₂ (· * ·) ?_ (Finset.sum_congr rfl fun x _ => ?_))
  · refine congrArg Ideal.logistic (congrArg g (congrArg (ix3 _ _) (Fin.ext ?_)))
    show 0 * 2048 + C.val = C.val
    omega
  · exact s0 x
  · refine congrArg Ideal.logistic (congrArg g (congrArg (ix3 _ _) (Fin.ext ?_)))
    show 1 * 2048 + C.val = 2048 * 1 + C.val
    omega
  · exact s1 x
  · refine congrArg Ideal.logistic (congrArg g (congrArg (ix3 _ _) (Fin.ext ?_)))
    show 2 * 2048 + C.val = 2048 * 2 + C.val
    omega
  · exact s2 x

end Cert.Reference5Ideal.Merge

end
-- ==== Proof.Out.Value.lean ====
/- The output projection: what the kernel leaves is the reference's residual sum. -/
module

public import proofs.«01_k».proof.Proof.Gen.Kernel6Ideal.Frame
public import proofs.«01_k».proof.Proof.Gen.Reference6Ideal.Run
public import Idealize.ShloMosaic.Lib.Pipeline.ValueKit

@[expose] public section

set_option maxRecDepth 16384

noncomputable section

namespace Cert.Kernel6Ideal.Out

open Cert.Kernel6Ideal Cert.Kernel6Ideal.Gen
open Idealize.ShloMosaic Idealize.ShloMosaic.TcCoe Idealize.SL.Sem

variable (m : (ℓ : Loc nD τ sig) → Buf (Elt Ideal) ℓ) (ρ : Dev nD → PrngReg)

/-- The arguments: merged branches, weights, the stream, the modulation. -/
def ah (c : Dev nD) : FVec Ideal S16384x2048 .bf16 := m (c, Proc.tc.devRef main_arg0)
def aw (c : Dev nD) : FVec Ideal S2048x2048 .f32 := m (c, Proc.tc.devRef main_arg1)
def ax (c : Dev nD) : FVec Ideal S4x4096x2048 .f32 := m (c, Proc.tc.devRef main_arg2)
def am (c : Dev nD) : FVec Ideal S4x12288 .f32 := m (c, Proc.tc.devRef main_arg3)

theorem idx : ∀ t : Fin cfg0.N, win0_0.index t = ![t.val / 2, 0] ∧ win0_1.index t = ![0, t.val % 2]
    ∧ win0_2.index t = ![t.val / 2, t.val % 2] ∧ win0_4.index t = ![t.val / 8 * 6 + 2, 0, t.val % 2]
    ∧ win0_5.index t = ![t.val / 2, t.val % 2] :=
  (by decide +kernel : ∀ t : Fin grid0.N, _)

/-- Every grid point is of the latent stream, whose tiles are the sixteen first. -/
theorem latent : ∀ t : Fin cfg0.N, Scalar.cmpi .slt (BitVec.ofNat 32 ((grid0.coords t) 0).val) 16#32 = 1#1 :=
  (by decide +kernel : ∀ t : Fin grid0.N, _)

theorem lt_N (t : Fin cfg0.N) : t.val < 32 := t.isLt

/-- A grid point's blocks of the four arguments. -/
def bh (c : Dev nD) (t : Fin cfg0.N) : S1024x2048.Idx → EReal := iblk m c 0 t
def bw (c : Dev nD) (t : Fin cfg0.N) : S2048x1024.Idx → EReal := iblk m c 1 t
def bx (c : Dev nD) (t : Fin cfg0.N) : S1024x1024.Idx → EReal := iblk m c 2 t
def bm (c : Dev nD) (t : Fin cfg0.N) : S1x1x1024.Idx → EReal := iblk m c 4 t

/-- What the output block holds after a grid point. -/
def blk (c : Dev nD) (t : Fin cfg0.N) : S1024x1024.Idx → EReal := (dats m 0 c).after 5 t

/-- The stored tile, where the residual is the latent stream's. -/
theorem tile_apply (t : Fin cfg0.N) (v1 v3 : FVec Ideal S1024x1024 .f32) (v6 : FVec Ideal S1x1x1024 .f32) (v8 : FVec Ideal S1024x2048 .bf16) (v9 : FVec Ideal S2048x1024 .bf16)
    (r d : Fin 1024) : k0_pay1 (F := Ideal) (grid0.coords t) v1 v3 v6 v8 v9 (ix2 r d)
      = (v1 (ix2 r d) + v6 (ix3 0 0 d) * ∑ k : Fin 2048, v8 (ix2 r k) * v9 (ix2 k d) : EReal) := by
  unfold k0_pay1
  dsimp only
  rw [latent t]
  show addf (shapeCast S1024x1024 v1 _) _ _ = _
  pointwise []

theorem blk_eq (c : Dev nD) (t : Fin cfg0.N) (r d : Fin 1024) :
    blk m c t (ix2 r d) = bx m c t (ix2 r d) + bm m c t (ix3 0 0 d) * ∑ k : Fin 2048, bh m c t (ix2 r k) * bw m c t (ix2 k d) := by
  unfold blk
  rw [after0_5]
  unfold out0_5 r0_0 r0_1 r0_2 r0_3
  simp (disch := decide) only [View.canon_cons_unit_lit', View.ld_unit_lit']
  exact tile_apply t _ _ _ _ _ r d

theorem ix2_eq {n0 n1 : ℕ} {a a' : Fin n0} {b b' : Fin n1} (ha : a.val = a'.val) (hb : b.val = b'.val) : ix2 a b = ix2 a' b' := by
  rw [Fin.ext ha, Fin.ext hb]

theorem V_h (c : Dev nD) : V m c main_arg0 = ah m c := by entry_read; rfl
theorem V_w (c : Dev nD) : V m c main_v3 = (aw m c : S2048x2048.Idx → EReal) := by entry_read; rfl
theorem V_x (c : Dev nD) (R : Fin 17408) (C : Fin 2048) (hR : R.val < 16384) :
    V m c main_v2 (ix2 R C) = ax m c (ix3 ⟨R.val / 4096, by omega⟩ ⟨R.val % 4096, by omega⟩ C) := by
  have : V m c main_v2 = concatenate S17408x2048 0 [⟨S16384x2048, shapeCast S16384x2048 (ax m c) shapeCasts_S4x4096x2048_S16384x2048⟩, ⟨S1024x2048, broadcastInDim S1024x2048 ![] bcast_S_S1024x2048 (constant S_ .f32 0x00000000#32)⟩] concatenates_S16384x2048_S1024x2048_S17408x2048_d0 := by entry_read; rfl
  rw [this]
  pointwise []
  exact dif_pos hR
theorem V_m (c : Dev nD) (R : Fin 48) (C : Fin 2048) (hR : R.val < 24) :
    V m c main_v6 (ix3 R 0 C) = am m c (ix2 ⟨R.val / 6, by omega⟩ ⟨R.val % 6 * 2048 + C.val, by omega⟩) := by
  have : V m c main_v6 = shapeCast S48x1x2048 (concatenate S8x12288 0 [⟨S4x12288, am m c⟩, ⟨S4x12288, broadcastInDim S4x12288 ![] bcast_S_S4x12288 (constant S_ .f32 0x00000000#32)⟩] concatenates_S4x12288_S4x12288_S8x12288_d0) shapeCasts_S8x12288_S48x1x2048 := by entry_read; rfl
  rw [this]
  pointwise []
  exact dif_pos (by omega)

theorem bh_apply (c : Dev nD) (t : Fin cfg0.N) (r : Fin 1024) (k : Fin 2048) : bh m c t (ix2 r k)
    = ah m c (ix2 ⟨1024 * (t.val / 2) + r.val, by have := lt_N t; omega⟩ k) := by
  obtain ⟨h0, h1, h2, h4, h5⟩ := idx t
  unfold bh iblk
  rw [← V_h]
  blk_simp [h0]
  refine congrArg (V m c main_arg0) (funext fun a => Fin.ext ?_)
  match a with
  | ⟨0, _⟩ => blk_simp [h0]; show t.val / 2 * 1024 + r.val = 1024 * (t.val / 2) + r.val; omega
  | ⟨1, _⟩ => blk_simp [h0]

theorem bw_apply (c : Dev nD) (t : Fin cfg0.N) (k : Fin 2048) (d : Fin 1024) : bw m c t (ix2 k d)
    = aw m c (ix2 k ⟨1024 * (t.val % 2) + d.val, by omega⟩) := by
  obtain ⟨h0, h1, h2, h4, h5⟩ := idx t
  refine Eq.trans ?_ (congrFun (V_w m c) _)
  unfold bw iblk
  blk_simp [h1]
  refine congrArg (V m c main_v3) (funext fun a => Fin.ext ?_)
  match a with
  | ⟨0, _⟩ => blk_simp [h1]
  | ⟨1, _⟩ => blk_simp [h1]; show t.val % 2 * 1024 + d.val = 1024 * (t.val % 2) + d.val; omega

theorem bx_apply (c : Dev nD) (t : Fin cfg0.N) (r d : Fin 1024) : bx m c t (ix2 r d)
    = ax m c (ix3 ⟨(1024 * (t.val / 2) + r.val) / 4096, by have := lt_N t; omega⟩ ⟨(1024 * (t.val / 2) + r.val) % 4096, by omega⟩
      ⟨1024 * (t.val % 2) + d.val, by omega⟩) := by
  obtain ⟨h0, h1, h2, h4, h5⟩ := idx t
  have hN := lt_N t
  refine Eq.trans ?_ (V_x m c ⟨1024 * (t.val / 2) + r.val, by omega⟩ ⟨1024 * (t.val % 2) + d.val, by omega⟩ (by show 1024 * (t.val / 2) + r.val < 16384; omega))
  unfold bx iblk
  blk_simp [h2]
  refine congrArg (V m c main_v2) (funext fun a => Fin.ext ?_)
  match a with
  | ⟨0, _⟩ => blk_simp [h2]; show t.val / 2 * 1024 + r.val = 1024 * (t.val / 2) + r.val; omega
  | ⟨1, _⟩ => blk_simp [h2]; show t.val % 2 * 1024 + d.val = 1024 * (t.val % 2) + d.val; omega

theorem bm_apply (c : Dev nD) (t : Fin cfg0.N) (d : Fin 1024) : bm m c t (ix3 0 0 d)
    = am m c (ix2 ⟨t.val / 8, by have := lt_N t; omega⟩ ⟨4096 + (1024 * (t.val % 2) + d.val), by omega⟩) := by
  obtain ⟨h0, h1, h2, h4, h5⟩ := idx t
  have hN := lt_N t
  refine Eq.trans ?_ ((V_m m c ⟨t.val / 8 * 6 + 2, by omega⟩ ⟨1024 * (t.val % 2) + d.val, by omega⟩ (by show t.val / 8 * 6 + 2 < 24; omega)).trans
    (congrArg (am m c) (ix2_eq (by show (t.val / 8 * 6 + 2) / 6 = t.val / 8; omega) (by show (t.val / 8 * 6 + 2) % 6 * 2048 + (1024 * (t.val % 2) + d.val) = 4096 + (1024 * (t.val % 2) + d.val); omega))))
  unfold bm iblk
  blk_simp [h4]
  refine congrArg (V m c main_v6) (funext fun a => Fin.ext ?_)
  match a with
  | ⟨0, _⟩ => blk_simp [h4]; rfl
  | ⟨1, _⟩ => blk_simp [h4]
  | ⟨2, _⟩ => blk_simp [h4]; show t.val % 2 * 1024 + d.val = 1024 * (t.val % 2) + d.val; omega

/-- The reference's result: the stream plus the second modulation times the product. -/
def res (h : S16384x2048.Idx → EReal) (w : S2048x2048.Idx → EReal) (x : S4x4096x2048.Idx → EReal) (md : S4x12288.Idx → EReal) (R : Fin 16384) (C : Fin 2048) : EReal :=
  x (ix3 ⟨R.val / 4096, by omega⟩ ⟨R.val % 4096, by omega⟩ C)
    + md (ix2 ⟨R.val / 4096, by omega⟩ ⟨4096 + C.val, by omega⟩) * ∑ k : Fin 2048, h (ix2 R k) * w (ix2 k C)

theorem final (c : Dev nD) (t : Fin cfg0.N) (r d : Fin 1024) :
    blk m c t (ix2 r d) = res (ah m c) (aw m c) (ax m c) (am m c)
      ⟨1024 * (t.val / 2) + r.val, by have := lt_N t; omega⟩ ⟨1024 * (t.val % 2) + d.val, by omega⟩ := by
  have hN := lt_N t
  rw [blk_eq]
  unfold res
  have hb : (1024 * (t.val / 2) + r.val) / 4096 = t.val / 8 := by omega
  simp only [bh_apply, bw_apply, bx_apply, bm_apply, hb]

/-- The reference's result array. -/
def out (h : S16384x2048.Idx → EReal) (w : S2048x2048.Idx → EReal) (x : S4x4096x2048.Idx → EReal) (md : S4x12288.Idx → EReal) : S16384x2048.Idx → EReal :=
  fun i => res h w x md (i 0) (i 1)

theorem arr_eq (c : Dev nD) : (dats m 0 c).arrAt 5 cfg0.N = out (ah m c) (aw m c) (ax m c) (am m c) := by
  refine (dats m 0 c).arrAt_eq_of_covers 5 _ (by decide +kernel) fun t hf y => ?_
  blk_simp
  obtain ⟨r, d, rfl⟩ : ∃ (r : Fin 1024) (d : Fin 1024), y = ix2 r d := ⟨_, _, eq_ix2 y⟩
  refine (final m c t r d).trans ?_
  have hN := lt_N t
  have he : ((cfg0.win 5).blk t).view.emb (ix2 r d)
      = ix2 (⟨1024 * (t.val / 2) + r.val, by omega⟩ : Fin 16384) (⟨1024 * (t.val % 2) + d.val, by omega⟩ : Fin 2048) := by
    obtain ⟨h0, h1, h2, h4, h5⟩ := idx t
    refine funext fun a => Fin.ext ?_
    match a with
    | ⟨0, _⟩ => blk_simp [h5]; show t.val / 2 * 1024 + r.val = 1024 * (t.val / 2) + r.val; omega
    | ⟨1, _⟩ => blk_simp [h5]; show t.val % 2 * 1024 + d.val = 1024 * (t.val % 2) + d.val; omega
  rw [he]
  rfl

/-- The kernel's run: its result is the reference's, of the arguments, which end unchanged. -/
theorem run_value : θ_run defs (onTc (τ := τ) (main (F := Ideal))) ⟨m, fun _ => 0, ρ⟩ (fun r => ∀ c : Dev nD,
      r.2.mem ((c.tc : Thread nD τ).loc main_v7) = out (ah m c) (aw m c) (ax m c) (am m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨((hr.1 c).1 5).trans (arr_eq m c), hr.2 c⟩)
    (θ_run_and (run_main m ρ) (unchanged m ρ))

end Cert.Kernel6Ideal.Out

namespace Cert.Reference6Ideal.Out

open Cert.Reference6Ideal Cert.Reference6Ideal.Gen
open Idealize.ShloMosaic Idealize.ShloMosaic.TcCoe Idealize.SL.Sem

/-- The reference's host term, at an index. -/
theorem term_apply (h : FVec Ideal S16384x2048 .bf16) (w : FVec Ideal S2048x2048 .f32) (x : FVec Ideal S4x4096x2048 .f32) (md : FVec Ideal S4x12288 .f32) :
    (shapeCast S16384x2048 (addf x (mulf (broadcastInDim S4x4096x2048 ![0, 1, 2] bcast_S4x1x2048_S4x4096x2048_0_1_2 (shapeCast S4x1x2048 (extractStridedSlice S1x4x1x2048 ![2, 0, 0, 0] (broadcastInDim S6x4x1x2048 ![0, 1, 3] bcast_S6x4x2048_S6x4x1x2048_0_1_3 (transpose S6x4x2048 [1, 0, 2] (shapeCast S4x6x2048 md shapeCasts_S4x12288_S4x6x2048) transposes_S4x6x2048_S6x4x2048_1_0_2)) slices_S6x4x1x2048_S1x4x1x2048_2_0_0_0) shapeCasts_S1x4x1x2048_S4x1x2048)) (Host.dotGeneral dot_S4x4096x2048_S2048x2048_S4x4096x2048_2_0_01_1_n_n none (shapeCast S4x4096x2048 (extf .f32 h bitsLt_bf16_f32) shapeCasts_S16384x2048_S4x4096x2048) w))) shapeCasts_S4x4096x2048_S16384x2048 : FVec Ideal S16384x2048 .f32)
      = Cert.Kernel6Ideal.Out.out h w x md := by
  funext i
  obtain ⟨R, C, rfl⟩ : ∃ (R : Fin 16384) (C : Fin 2048), i = ix2 R C := ⟨_, _, eq_ix2 i⟩
  show _ = Cert.Kernel6Ideal.Out.res h w x md R C
  unfold Cert.Kernel6Ideal.Out.res
  pointwise []

end Cert.Reference6Ideal.Out

end
-- ==== Proof.Glu.Value.lean ====
/- The skip, GELU and gated linear unit after the scan: what the kernel leaves is the reference's result. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel7Ideal.Glu

open Cert.Kernel7Ideal Cert.Kernel7Ideal.Gen
open Idealize.ShloMosaic Idealize.ShloMosaic.TcCoe Idealize.SL.Sem

variable (m : (ℓ : Loc nD τ sig) → Buf (Elt Ideal) ℓ) (ρ : Dev nD → PrngReg)

/-- The arguments: the scan's output, its input, the skip's factors, the unit's weights and bias. -/
def ay (c : Dev nD) : FVec Ideal S17408x1024 .f32 := m (c, Proc.tc.devRef main_arg0)
def au (c : Dev nD) : FVec Ideal S17408x1024 .bf16 := m (c, Proc.tc.devRef main_arg1)
def ad (c : Dev nD) : FVec Ideal S1024 .f32 := m (c, Proc.tc.devRef main_arg2)
def aw (c : Dev nD) : FVec Ideal S1024x1024 .f32 := m (c, Proc.tc.devRef main_arg3)
def ab (c : Dev nD) : FVec Ideal S1024 .f32 := m (c, Proc.tc.devRef main_arg4)

/-- GELU, by the hyperbolic tangent. -/
def gelu (y : EReal) : EReal :=
  y * (Ideal.ofBits FTy.f32 0x3F000000#32 * (1 + Ideal.tanh (Ideal.ofBits FTy.f32 0x3F4C422A#32 * (y + Ideal.ofBits FTy.f32 0x3D372713#32 * (y * (y * y))))))

/-- The activated rows. -/
def act {n : ℕ} (y u : (⟨2, ![n, 1024]⟩ : Shape).Idx → EReal) (s : S1x1024.Idx → EReal) (r : Fin n) (d : Fin 1024) : EReal :=
  gelu (y (ix2 r d) + s (ix2 0 d) * u (ix2 r d))

theorem pay1_apply (v17 : Vec Ideal S128x1024 .f32) (v18 : Vec Ideal S1x1024 .f32) (v21 : Vec Ideal S128x1024 .bf16) (r : Fin 128) (d : Fin 1024) :
    k0_pay1 v17 v18 v21 (ix2 r d) = act (n := 128) v17 v21 v18 r d := by
  pointwise [k0_pay1]
  rfl

theorem pay2_apply (v1 v2 : Vec Ideal S1024x1024 .bf16) (v5 : Vec Ideal S1x1024 .f32) (r d : Fin 1024) :
    k0_pay2 v1 v2 v5 (ix2 r d) = (v1 (ix2 r d) * Ideal.logistic ((∑ k : Fin 1024, v1 (ix2 r k) * v2 (ix2 k d)) + v5 (ix2 0 d)) : EReal) := by
  pointwise [k0_pay2]

theorem off1_eq : ∀ k : Fin k0_t1_loop.trips, k0_off1 k = ![128 * k.val, 0] := by decide +kernel
theorem trips_eq : k0_t1_loop.trips = 8 := by decide +kernel

/-- A row of a trip's stretch lies in its rectangle. -/
theorem row_mem (k : Fin k0_t1_loop.trips) (r : Fin 1024) (d : Fin 1024) (h : 128 * k.val ≤ r.val) (h' : r.val < 128 * k.val + 128)
    (hi : ∀ a, k0_off1 k a + S128x1024.size a ≤ S1024x1024.size a) : ix2 r d ∈ (Rect.unit (s := S1024x1024) (k0_off1 k) S128x1024.size hi).set := by
  have ho := off1_eq k
  refine Rect.mem_set_unit.mpr fun a => ?_
  rw [congrFun ho a]
  match a with
  | ⟨0, _⟩ => exact ⟨h, h'⟩
  | ⟨1, _⟩ => exact ⟨Nat.zero_le _, by show d.val < 0 + 1024; omega⟩

section Loop

variable (𝒱 : Variants) (c : Dev nD) (bd : Option 𝒱.V) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
  (x : Vec Ideal S1024x1024 .f32) (u : Vec Ideal S1024x1024 .bf16) (s : Vec Ideal S1x1024 .f32)

theorem ld_row (s : Vec Ideal S1x1024 .f32) : View.ld s (Rect.unit (s := S1x1024) ![0, 0] S1x1024.size inb_S1x1024_S1x1024_0_0) = s := by
  refine funext fun j => congrArg s (funext fun a => Fin.ext ?_)
  refine (Rect.idx_unit_val _ _ _ _ _).trans ?_
  match a with
  | ⟨0, _⟩ => exact Nat.zero_add _
  | ⟨1, _⟩ => exact Nat.zero_add _

/-- One trip stores one piece: its 128 rows. -/
theorem trip_eq (k : Fin k0_t1_loop.trips) : tripL_k0_t1 (F := Ideal) 𝒱 c bd i arg1 harg1 arg2 harg2 arg3 harg3 arg4 harg4 arg5 harg5 arg6 harg6 arg7 harg7 (harg1.unread x) (harg2.unread u) (harg3.unread s) k
    = [⟨Rect.unit (s := S1024x1024) (k0_off1 k) S128x1024.size (k0_off1_inb k), k0_pay1 (View.ld x (Rect.unit (s := S1024x1024) (k0_off1 k) S128x1024.size (k0_off1_inb k))) s (View.ld u (Rect.unit (s := S1024x1024) (k0_off1 k) S128x1024.size (k0_off1_inb k)))⟩] := by
  unfold tripL_k0_t1 trip_k0_t1
  simp only [View.readAt_eq_ld, Memref.IsWhole.read_unread]
  exact congrArg (fun v => [(⟨Rect.unit (s := S1024x1024) (k0_off1 k) S128x1024.size (k0_off1_inb k), k0_pay1 (View.ld x (Rect.unit (s := S1024x1024) (k0_off1 k) S128x1024.size (k0_off1_inb k))) v (View.ld u (Rect.unit (s := S1024x1024) (k0_off1 k) S128x1024.size (k0_off1_inb k)))⟩ : View.Piece (Elt Ideal) S1024x1024 .bf16)]) (ld_row s)

/-- The pieces of the first `n` trips: each agrees with the activated rows, -/
theorem pieces_eq (n : ℕ) (hn : n ≤ k0_t1_loop.trips) :
    ∀ p ∈ pb_k0_t1 (F := Ideal) 𝒱 c bd i arg1 harg1 arg2 harg2 arg3 harg3 arg4 harg4 arg5 harg5 arg6 harg6 arg7 harg7 (harg1.unread x) (harg2.unread u) (harg3.unread s) n,
      ∀ j, p.2 j = (fun y : S1024x1024.Idx => act (n := 1024) x u s (y 0) (y 1)) (p.1.emb j) := by
  induction n with
  | zero => intro p hp; exact absurd hp List.not_mem_nil
  | succ n ih =>
    intro p hp
    rw [pb_k0_t1_succ 𝒱 c bd i arg1 harg1 arg2 harg2 arg3 harg3 arg4 harg4 arg5 harg5 arg6 harg6 arg7 harg7 (harg1.unread x) (harg2.unread u) (harg3.unread s) ⟨n, by omega⟩, trip_eq] at hp
    simp only [List.cons_append, List.nil_append, List.mem_cons] at hp
    rcases hp with rfl | hp
    · intro j
      obtain ⟨r, d, rfl⟩ : ∃ (r : Fin 128) (d : Fin 1024), j = ix2 r d := ⟨_, _, eq_ix2 j⟩
      have ho := off1_eq ⟨n, by omega⟩
      have hn8 : n < 8 := by have := trips_eq; omega
      have e : (Rect.unit (s := S1024x1024) (k0_off1 ⟨n, by omega⟩) S128x1024.size (k0_off1_inb ⟨n, by omega⟩)).emb (ix2 r d)
          = ix2 (⟨128 * n + r.val, by omega⟩ : Fin 1024) d := by
        refine funext fun a => Fin.ext ((Rect.idx_unit_val _ _ _ _ _).trans ((congrArg (· + _) (congrFun ho a)).trans ?_))
        match a with
        | ⟨0, _⟩ => rfl
        | ⟨1, _⟩ => show 0 + d.val = d.val; omega
      refine (pay1_apply _ _ _ r d).trans ?_
      show _ = (fun y : S1024x1024.Idx => act (n := 1024) x u s (y 0) (y 1)) _
      rw [e]
      have l : View.ld x (Rect.unit (s := S1024x1024) (k0_off1 ⟨n, by omega⟩) S128x1024.size (k0_off1_inb ⟨n, by omega⟩)) (ix2 r d)
          = x (ix2 (⟨128 * n + r.val, by omega⟩ : Fin 1024) d) := congrArg x e
      have l' : View.ld u (Rect.unit (s := S1024x1024) (k0_off1 ⟨n, by omega⟩) S128x1024.size (k0_off1_inb ⟨n, by omega⟩)) (ix2 r d)
          = u (ix2 (⟨128 * n + r.val, by omega⟩ : Fin 1024) d) := congrArg u e
      unfold act
      rw [l, l']
      rfl
    · exact ih (by omega) p hp

/-- and every row below is in one of them. -/
theorem pieces_cover (n : ℕ) (hn : n ≤ k0_t1_loop.trips) (r : Fin 1024) (d : Fin 1024) (hr : r.val < 128 * n) :
    ∃ p ∈ pb_k0_t1 (F := Ideal) 𝒱 c bd i arg1 harg1 arg2 harg2 arg3 harg3 arg4 harg4 arg5 harg5 arg6 harg6 arg7 harg7 (harg1.unread x) (harg2.unread u) (harg3.unread s) n, ix2 r d ∈ p.1.set := by
  induction n with
  | zero => omega
  | succ n ih =>
    rw [pb_k0_t1_succ 𝒱 c bd i arg1 harg1 arg2 harg2 arg3 harg3 arg4 harg4 arg5 harg5 arg6 harg6 arg7 harg7 (harg1.unread x) (harg2.unread u) (harg3.unread s) ⟨n, by omega⟩, trip_eq]
    by_cases hc : r.val < 128 * n
    · obtain ⟨p, hp, hy⟩ := ih (by omega) hc
      exact ⟨p, List.mem_cons_of_mem _ hp, hy⟩
    · exact ⟨_, List.mem_cons_self, row_mem ⟨n, by omega⟩ r d (by show 128 * n ≤ r.val; omega) (by show r.val < 128 * n + 128; omega) (k0_off1_inb ⟨n, by omega⟩)⟩

/-- What the loop leaves in the scratch. -/
theorem canon_eq (r : Fin 1024) (d : Fin 1024) :
    View.canon (pb_k0_t1 (F := Ideal) 𝒱 c bd i arg1 harg1 arg2 harg2 arg3 harg3 arg4 harg4 arg5 harg5 arg6 harg6 arg7 harg7 (harg1.unread x) (harg2.unread u) (harg3.unread s) k0_t1_loop.trips) (ix2 r d)
      = act (n := 1024) x u s r d :=
  View.canon_apply_of_pieces (fun y : S1024x1024.Idx => act (n := 1024) x u s (y 0) (y 1)) _
    (pieces_eq 𝒱 c bd i arg1 harg1 arg2 harg2 arg3 harg3 arg4 harg4 arg5 harg5 arg6 harg6 arg7 harg7 x u s _ le_rfl) (ix2 r d)
    (pieces_cover 𝒱 c bd i arg1 harg1 arg2 harg2 arg3 harg3 arg4 harg4 arg5 harg5 arg6 harg6 arg7 harg7 x u s _ le_rfl r d (by rw [trips_eq]; omega))

end Loop

/-- A grid point's blocks. -/
def by_ (c : Dev nD) (t : Fin cfg0.N) : S1024x1024.Idx → EReal := iblk m c 0 t
def bu (c : Dev nD) (t : Fin cfg0.N) : S1024x1024.Idx → EReal := X0_1 m c t
def bs (c : Dev nD) (t : Fin cfg0.N) : S1x1024.Idx → EReal := iblk m c 2 t
def bw (c : Dev nD) (t : Fin cfg0.N) : S1024x1024.Idx → EReal := iblk m c 3 t
def bb (c : Dev nD) (t : Fin cfg0.N) : S1x1024.Idx → EReal := iblk m c 4 t

/-- What the output block holds after a grid point. -/
def blk (c : Dev nD) (t : Fin cfg0.N) : S1024x1024.Idx → EReal := (dats m 0 c).after 5 t

/-- The scratch read back whole. -/
theorem readCov_scratch (L : List (View.Piece (Elt Ideal) S1024x1024 .bf16)) :
    (View.whole cc0_scratch0).readCov L (Rect.unit (s := S1024x1024) ![0, 0] S1024x1024.size inb_S1024x1024_S1024x1024_0_0).toLoadRect = View.canon L := by
  rw [View.readCov_eq_canon']
  refine funext fun j => congrArg _ (funext fun a => Fin.ext ?_)
  refine (Rect.idx_unit_val _ _ _ _ _).trans ?_
  match a with
  | ⟨0, _⟩ => exact Nat.zero_add _
  | ⟨1, _⟩ => exact Nat.zero_add _

theorem blk_eq (c : Dev nD) (t : Fin cfg0.N) (r d : Fin 1024) : blk m c t (ix2 r d)
    = act (n := 1024) (by_ m c t) (bu m c t) (bs m c t) r d
      * Ideal.logistic ((∑ k : Fin 1024, act (n := 1024) (by_ m c t) (bu m c t) (bs m c t) r k * bw m c t (ix2 k d)) + bb m c t (ix2 0 d)) := by
  have h := fun k : Fin 1024 => canon_eq Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) scM0_0 (Memref.isWhole_whole _) (iblk m c 0 t) (X0_1 m c t) (iblk m c 2 t) r k
  have e := congrArg₂ (fun (a b : EReal) => a * Ideal.logistic (b + bb m c t (ix2 0 d))) (h d)
    (Finset.sum_congr (s₁ := Finset.univ) rfl fun (k : Fin 1024) _ => congrArg (· * bw m c t (ix2 k d)) (h k))
  unfold blk
  rw [after0_5]
  unfold outsAt0
  frame_out
  refine (pay2_apply _ _ _ r d).trans ?_
  rw [readCov_scratch]
  exact e

theorem idx : ∀ t : Fin cfg0.N, win0_0.index t = ![t.val, 0] ∧ win0_1.index t = ![t.val, 4] ∧ win0_2.index t = ![0, 0]
    ∧ win0_3.index t = ![0, 0] ∧ win0_4.index t = ![0, 0] ∧ win0_5.index t = ![t.val, 0] :=
  (by decide +kernel : ∀ t : Fin grid0.N, _)

theorem lt_N (t : Fin cfg0.N) : t.val < 17 := t.isLt

theorem V_y (c : Dev nD) : V m c main_arg0 = ay m c := by entry_read; rfl
set_option maxHeartbeats 4000000 in
theorem V_u (c : Dev nD) (R : Fin 17408) (d : Fin 1024) : V m c main_v2 (ix2 R (⟨4096 + d.val, by omega⟩ : Fin 11520)) = au m c (ix2 R d) := by
  have : V m c main_v2 = concatenate S17408x11520 1 [⟨S17408x4096, (broadcastInDim S17408x4096 ![] bcast_S_S17408x4096 (constant S_ .bf16 0x0000#16) : FVec Ideal S17408x4096 .bf16)⟩, ⟨S17408x1024, au m c⟩, ⟨S17408x6400, (broadcastInDim S17408x6400 ![] bcast_S_S17408x6400 (constant S_ .bf16 0x0000#16) : FVec Ideal S17408x6400 .bf16)⟩] concatenates_S17408x4096_S17408x1024_S17408x6400_S17408x11520_d1 := by
    rw [V]
    after_reads_simp
    rfl
  rw [this]
  pointwise []
theorem V_s (c : Dev nD) (d : Fin 1024) : V m c main_v3 (ix2 0 d) = ad m c (ix1 d) := by
  have : V m c main_v3 = broadcastInDim S1x1024 ![1] bcast_S1024_S1x1024_1 (ad m c) := by entry_read; rfl
  rw [this]
  pointwise []
theorem V_w (c : Dev nD) : V m c main_v4 = (aw m c : S1024x1024.Idx → EReal) := by entry_read; rfl
theorem V_b (c : Dev nD) (d : Fin 1024) : V m c main_v5 (ix2 0 d) = ab m c (ix1 d) := by
  have : V m c main_v5 = broadcastInDim S1x1024 ![1] bcast_S1024_S1x1024_1 (ab m c) := by entry_read; rfl
  rw [this]
  pointwise []

theorem by_apply (c : Dev nD) (t : Fin cfg0.N) (r d : Fin 1024) : by_ m c t (ix2 r d) = ay m c (ix2 ⟨1024 * t.val + r.val, by have := lt_N t; omega⟩ d) := by
  obtain ⟨h0, h1, h2, h3, h4, h5⟩ := idx t
  unfold by_ iblk
  rw [← V_y]
  blk_simp [h0]
  refine congrArg (V m c main_arg0) (funext fun a => Fin.ext ?_)
  match a with
  | ⟨0, _⟩ => blk_simp [h0]; show t.val * 1024 + r.val = 1024 * t.val + r.val; omega
  | ⟨1, _⟩ => blk_simp [h0]

theorem bu_apply (c : Dev nD) (t : Fin cfg0.N) (r d : Fin 1024) : bu m c t (ix2 r d) = au m c (ix2 ⟨1024 * t.val + r.val, by have := lt_N t; omega⟩ d) := by
  obtain ⟨h0, h1, h2, h3, h4, h5⟩ := idx t
  refine Eq.trans ?_ (V_u m c _ d)
  unfold bu X0_1 Pipeline.Window.fill
  rw [dif_pos (moved0_1 t _)]
  unfold iblk
  blk_simp [h1]
  refine congrArg (V m c main_v2) (funext fun a => Fin.ext ?_)
  match a with
  | ⟨0, _⟩ => blk_simp [h1]; show t.val * 1024 + r.val = 1024 * t.val + r.val; omega
  | ⟨1, _⟩ => blk_simp [h1]

theorem bs_apply (c : Dev nD) (t : Fin cfg0.N) (d : Fin 1024) : bs m c t (ix2 0 d) = ad m c (ix1 d) := by
  obtain ⟨h0, h1, h2, h3, h4, h5⟩ := idx t
  refine Eq.trans ?_ (V_s m c d)
  unfold bs iblk
  blk_simp [h2]
  refine congrArg (V m c main_v3) (funext fun a => Fin.ext ?_)
  match a with
  | ⟨0, _⟩ => blk_simp [h2]
  | ⟨1, _⟩ => blk_simp [h2]

theorem bw_apply (c : Dev nD) (t : Fin cfg0.N) (k d : Fin 1024) : bw m c t (ix2 k d) = aw m c (ix2 k d) := by
  obtain ⟨h0, h1, h2, h3, h4, h5⟩ := idx t
  refine Eq.trans ?_ (congrFun (V_w m c) _)
  unfold bw iblk
  blk_simp [h3]
  refine congrArg (V m c main_v4) (funext fun a => Fin.ext ?_)
  match a with
  | ⟨0, _⟩ => blk_simp [h3]
  | ⟨1, _⟩ => blk_simp [h3]

theorem bb_apply (c : Dev nD) (t : Fin cfg0.N) (d : Fin 1024) : bb m c t (ix2 0 d) = ab m c (ix1 d) := by
  obtain ⟨h0, h1, h2, h3, h4, h5⟩ := idx t
  refine Eq.trans ?_ (V_b m c d)
  unfold bb iblk
  blk_simp [h4]
  refine congrArg (V m c main_v5) (funext fun a => Fin.ext ?_)
  match a with
  | ⟨0, _⟩ => blk_simp [h4]
  | ⟨1, _⟩ => blk_simp [h4]

/-- The reference's activation: GELU of the scan's output plus the skip. -/
def g (y u : S17408x1024.Idx → EReal) (s : S1024.Idx → EReal) (R : Fin 17408) (C : Fin 1024) : EReal :=
  gelu (y (ix2 R C) + s (ix1 C) * u (ix2 R C))

/-- The reference's result: the activation times the sigmoid of its product with the weights, plus the bias. -/
def res (y u : S17408x1024.Idx → EReal) (s : S1024.Idx → EReal) (w : S1024x1024.Idx → EReal) (b : S1024.Idx → EReal) (R : Fin 17408) (C : Fin 1024) : EReal :=
  g y u s R C * Ideal.logistic ((∑ k : Fin 1024, g y u s R k * w (ix2 k C)) + b (ix1 C))

theorem final (c : Dev nD) (t : Fin cfg0.N) (r d : Fin 1024) :
    blk m c t (ix2 r d) = res (ay m c) (au m c) (ad m c) (aw m c) (ab m c) ⟨1024 * t.val + r.val, by have := lt_N t; omega⟩ d := by
  rw [blk_eq]
  unfold res g act
  simp only [by_apply, bu_apply, bs_apply, bw_apply, bb_apply]

/-- The reference's result array. -/
def out (y u : S17408x1024.Idx → EReal) (s : S1024.Idx → EReal) (w : S1024x1024.Idx → EReal) (b : S1024.Idx → EReal) : S17408x1024.Idx → EReal :=
  fun i => res y u s w b (i 0) (i 1)

theorem arr_eq (c : Dev nD) : (dats m 0 c).arrAt 5 cfg0.N = out (ay m c) (au m c) (ad m c) (aw m c) (ab m c) := by
  refine (dats m 0 c).arrAt_eq_of_covers 5 _ (by decide +kernel) fun t hf y => ?_
  blk_simp
  obtain ⟨r, d, rfl⟩ : ∃ (r : Fin 1024) (d : Fin 1024), y = ix2 r d := ⟨_, _, eq_ix2 y⟩
  refine (final m c t r d).trans ?_
  have hN := lt_N t
  have he : ((cfg0.win 5).blk t).view.emb (ix2 r d) = ix2 (⟨1024 * t.val + r.val, by omega⟩ : Fin 17408) d := by
    obtain ⟨h0, h1, h2, h3, h4, h5⟩ := idx t
    refine funext fun a => Fin.ext ?_
    match a with
    | ⟨0, _⟩ => blk_simp [h5]; show t.val * 1024 + r.val = 1024 * t.val + r.val; omega
    | ⟨1, _⟩ => blk_simp [h5]
  rw [he]
  rfl

/-- The kernel's run: its result is the reference's, of the arguments, which end unchanged. -/
theorem run_value : θ_run defs (onTc (τ := τ) (main (F := Ideal))) ⟨m, fun _ => 0, ρ⟩ (fun r => ∀ c : Dev nD,
      r.2.mem ((c.tc : Thread nD τ).loc main_v6) = out (ay m c) (au m c) (ad m c) (aw m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨((hr.1 c).1 5).trans (arr_eq m c), hr.2 c⟩)
    (θ_run_and (run_main m ρ) (unchanged m ρ))

end Cert.Kernel7Ideal.Glu

namespace Cert.Reference7Ideal.Glu

open Cert.Reference7Ideal Cert.Reference7Ideal.Gen
open Idealize.ShloMosaic Idealize.ShloMosaic.TcCoe Idealize.SL.Sem

/-- The skip's sum and its activation, as the host computes them. -/
def hy (y : FVec Ideal S17408x1024 .f32) (u : FVec Ideal S17408x1024 .bf16) (s : FVec Ideal S1024 .f32) : FVec Ideal S17408x1024 .f32 :=
  addf y (mulf (broadcastInDim S17408x1024 ![0, 1] bcast_S1x1024_S17408x1024_0_1 (broadcastInDim S1x1024 ![1] bcast_S1024_S1x1024_1 s)) (extf .f32 u bitsLt_bf16_f32))
def hg (y : FVec Ideal S17408x1024 .f32) (u : FVec Ideal S17408x1024 .bf16) (s : FVec Ideal S1024 .f32) : FVec Ideal S17408x1024 .f32 :=
  mulf (hy y u s) (mulf (broadcastInDim S17408x1024 ![] bcast_S_S17408x1024 (constant S_ .f32 0x3F000000#32)) (addf (broadcastInDim S17408x1024 ![] bcast_S_S17408x1024 (constant S_ .f32 0x3F800000#32)) (Host.tanh (mulf (broadcastInDim S17408x1024 ![] bcast_S_S17408x1024 (constant S_ .f32 0x3F4C422A#32)) (addf (hy y u s) (mulf (broadcastInDim S17408x1024 ![] bcast_S_S17408x1024 (constant S_ .f32 0x3D372713#32)) (mulf (mulf (hy y u s) (hy y u s)) (hy y u s))))))))

theorem hg_apply (y : FVec Ideal S17408x1024 .f32) (u : FVec Ideal S17408x1024 .bf16) (s : FVec Ideal S1024 .f32) (R : Fin 17408) (C : Fin 1024) :
    hg y u s (ix2 R C) = Cert.Kernel7Ideal.Glu.g y u s R C := by
  unfold Cert.Kernel7Ideal.Glu.g Cert.Kernel7Ideal.Glu.gelu
  have e : ∀ a : EReal, a * (a * a) = a * a * a := fun a => (mul_assoc a a a).symm
  simp only [e]
  pointwise [hg, hy]

/-- The reference's host term, read at every index. -/
theorem term_eq (y : FVec Ideal S17408x1024 .f32) (u : FVec Ideal S17408x1024 .bf16) (s : FVec Ideal S1024 .f32) (w : FVec Ideal S1024x1024 .f32) (b : FVec Ideal S1024 .f32) :
    (truncf .bf16 (mulf (hg y u s) (Host.divf (broadcastInDim S17408x1024 ![] bcast_S_S17408x1024 (constant S_ .f32 0x3F800000#32)) (addf (broadcastInDim S17408x1024 ![] bcast_S_S17408x1024 (constant S_ .f32 0x3F800000#32)) (Host.exp (Host.negf (addf (Host.dotGeneral dot_S17408x1024_S1024x1024_S17408x1024_1_0_0_1_n_n none (hg y u s) w) (broadcastInDim S17408x1024 ![0, 1] bcast_S1x1024_S17408x1024_0_1 (broadcastInDim S1x1024 ![1] bcast_S1024_S1x1024_1 b)))))))) bitsLt_bf16_f32 : FVec Ideal S17408x1024 .bf16)
      = Cert.Kernel7Ideal.Glu.out y u s w b := by
  funext i
  obtain ⟨R, C, rfl⟩ : ∃ (R : Fin 17408) (C : Fin 1024), i = ix2 R C := ⟨_, _, eq_ix2 i⟩
  show _ = Cert.Kernel7Ideal.Glu.res y u s w b R C
  unfold Cert.Kernel7Ideal.Glu.res
  simp only [← hg_apply]
  pointwise []
  rfl

end Cert.Reference7Ideal.Glu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ideal.Frame
public import proofs.«01_k».proof.Proof.Float.Frame
public import proofs.«01_k».proof.Proof.Value.Final
public import proofs.«01_k».proof.Proof.Value.Pre
public import proofs.«01_k».proof.Proof.Down.Value
public import proofs.«01_k».proof.Proof.Up.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.In.FloatFrame
public import proofs.«01_k».proof.Proof.In.IdealFrame
public import proofs.«01_k».proof.Proof.In.Value
public import proofs.«01_k».proof.Proof.In.RefValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Merge.Value
public import proofs.«01_k».proof.Proof.Out.Value
public import proofs.«01_k».proof.Proof.Glu.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Kernel7Ideal
public import proofs.«01_k».proof.Proof.Gen.Kernel7Ideal.Frame
public import proofs.«01_k».proof.Proof.Gen.Kernel7
public import proofs.«01_k».proof.Proof.Gen.Kernel7.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Where the queries and the keys are numbers, the kernel and the reference end with one result. -/
theorem value : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.ReferenceIdeal.Attn.res (Cert.KernelIdeal.Attn.aq m c) (Cert.KernelIdeal.Attn.ak m c) (Cert.KernelIdeal.Attn.av m c) (Cert.KernelIdeal.Attn.akc m c) (Cert.KernelIdeal.Attn.avc m c),
    Cert.KernelIdeal.Attn.run_value m g fun c => letI := Cert.Pre_finite.facts; Cert.Pre_finite.num_of_pre (hpre c), ?_⟩
  refine (θ_run _ _ _).mono (fun _ h c => ⟨(h c).1.trans ?_, (h c).2⟩) (Cert.ReferenceIdeal.Attn.run m' g')
  obtain ⟨h0, h1, h2, h3, h4, h5⟩ := hargs c
  rw [h0, h1, h2, h4, h5]
  rfl

/-- The down projection and its reference end with one result. -/
theorem value2 : algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Down.out (Cert.Kernel2Ideal.Down.ah m c) (Cert.Kernel2Ideal.Down.aw m c) (Cert.Kernel2Ideal.Down.ax m c) (Cert.Kernel2Ideal.Down.am m c),
    Cert.Kernel2Ideal.Down.run_value m g, ?_⟩
  refine (θ_run _ _ _).mono (fun _ h c => ⟨(h c).1.trans ?_, (h c).2⟩) (Cert.Reference2Ideal.Value.run m' g')
  obtain ⟨h0, h1, h2, h3⟩ := hargs c
  rw [h0, h1, h2, h3]
  exact Cert.Reference2Ideal.Down.term_apply _ _ _ _

/-- The up projection and its reference end with one result. -/
theorem value3 : algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Up.out (Cert.Kernel3Ideal.Up.ax m c) (Cert.Kernel3Ideal.Up.ag m c) (Cert.Kernel3Ideal.Up.am m c) (Cert.Kernel3Ideal.Up.aw m c),
    Cert.Kernel3Ideal.Up.run_value m g, ?_⟩
  refine (θ_run _ _ _).mono (fun _ h c => ⟨(h c).1.trans ?_, (h c).2⟩) (Cert.Reference3Ideal.Value.run m' g')
  obtain ⟨h0, h1, h2, h3⟩ := hargs c
  rw [h0, h1, h2, h3]
  exact Cert.Reference3Ideal.Up.term_eq _ _ _ _

/-- The input projection and its reference end with the same two results. -/
theorem value4 : algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.In.out0 (Cert.Kernel4Ideal.In.ax m c) (Cert.Kernel4Ideal.In.ac m c) (Cert.Kernel4Ideal.In.ag m c) (Cert.Kernel4Ideal.In.am m c) (Cert.Kernel4Ideal.In.amc m c) (Cert.Kernel4Ideal.In.aw m c) (Cert.Kernel4Ideal.In.ab m c),
    fun c => Cert.Kernel4Ideal.In.out1 (Cert.Kernel4Ideal.In.ax m c) (Cert.Kernel4Ideal.In.ac m c) (Cert.Kernel4Ideal.In.ag m c) (Cert.Kernel4Ideal.In.am m c) (Cert.Kernel4Ideal.In.amc m c) (Cert.Kernel4Ideal.In.aw m c) (Cert.Kernel4Ideal.In.ab m c) (Cert.Kernel4Ideal.In.agb m c),
    (θ_run _ _ _).mono (fun _ h c => ⟨(h c).1.1, (h c).1.2, (h c).2⟩) (Cert.Kernel4Ideal.In.run_value m g), ?_⟩
  refine (θ_run _ _ _).mono (fun _ h c => ⟨(h c).1.trans ?_, (h c).2.1.trans ?_, (h c).2.2⟩) (Cert.Reference4Ideal.Value.run m' g')
  · obtain ⟨h0, h1, h2, h3, h4, h5, h6, h7⟩ := hargs c
    unfold Cert.Reference4Ideal.Value.res_main_v64
    rw [h0, h1, h2, h3, h4, h5, h6]
    exact Cert.Reference4Ideal.In.term0_eq _ _ _ _ _ _ _
  · obtain ⟨h0, h1, h2, h3, h4, h5, h6, h7⟩ := hargs c
    unfold Cert.Reference4Ideal.Value.res_main_v69
    rw [h0, h1, h2, h3, h4, h5, h6, h7]
    exact Cert.Reference4Ideal.In.term1_eq _ _ _ _ _ _ _ _

/-- The merge of the three branches and its reference end with one result. -/
theorem value5 : algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.Merge.out (Cert.Kernel5Ideal.Merge.aa m c) (Cert.Kernel5Ideal.Merge.ab m c) (Cert.Kernel5Ideal.Merge.ae m c) (Cert.Kernel5Ideal.Merge.ag m c) (Cert.Kernel5Ideal.Merge.aw m c),
    Cert.Kernel5Ideal.Merge.run_value m g, ?_⟩
  refine (θ_run _ _ _).mono (fun _ h c => ⟨(h c).1.trans ?_, (h c).2⟩) (Cert.Reference5Ideal.Value.run m' g')
  obtain ⟨h0, h1, h2, h3, h4⟩ := hargs c
  rw [h0, h1, h2, h3, h4]
  exact Cert.Reference5Ideal.Merge.term_eq _ _ _ _ _

/-- The output projection and its reference end with one result. -/
theorem value6 : algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Out.out (Cert.Kernel6Ideal.Out.ah m c) (Cert.Kernel6Ideal.Out.aw m c) (Cert.Kernel6Ideal.Out.ax m c) (Cert.Kernel6Ideal.Out.am m c),
    Cert.Kernel6Ideal.Out.run_value m g, ?_⟩
  refine (θ_run _ _ _).mono (fun _ h c => ⟨(h c).1.trans ?_, (h c).2⟩) (Cert.Reference6Ideal.Value.run m' g')
  obtain ⟨h0, h1, h2, h3⟩ := hargs c
  rw [h0, h1, h2, h3]
  exact Cert.Reference6Ideal.Out.term_apply _ _ _ _

/-- The skip, GELU and gated linear unit after the scan and its reference end with one result. -/
theorem value7 : algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Glu.out (Cert.Kernel7Ideal.Glu.ay m c) (Cert.Kernel7Ideal.Glu.au m c) (Cert.Kernel7Ideal.Glu.ad m c) (Cert.Kernel7Ideal.Glu.aw m c) (Cert.Kernel7Ideal.Glu.ab m c),
    Cert.Kernel7Ideal.Glu.run_value m g, ?_⟩
  refine (θ_run _ _ _).mono (fun _ h c => ⟨(h c).1.trans ?_, (h c).2⟩) (Cert.Reference7Ideal.Value.run m' g')
  obtain ⟨h0, h1, h2, h3, h4⟩ := hargs c
  unfold Cert.Reference7Ideal.Value.res_main_v29
  rw [h0, h1, h2, h3, h4]
  exact Cert.Reference7Ideal.Glu.term_eq _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.facts,
    fun m g _ => Cert.Kernel.Attn.frame m g, fun m g _ => Cert.KernelIdeal.Attn.frame m g, fun m g _ => Cert.KernelIdeal.Attn.frame m g,
    fun m g _ => (θ_run _ _ _).mono (fun _ h => ⟨fun c => (h c).2, sem_eq_zero_of_no_sems rfl _⟩) (Cert.ReferenceIdeal.Value.run m g),
    fun m g _ => (θ_run _ _ _).mono (fun _ h => ⟨fun c => (h c).2, sem_eq_zero_of_no_sems rfl _⟩) (Cert.ReferenceIdeal.Value.run m g),
    fun m g _ => Cert.Kernel2.Gen.frame m g, fun m g _ => Cert.Kernel2Ideal.Gen.frame m g,
    fun m g _ => (θ_run _ _ _).mono (fun _ h => ⟨fun c => (h c).2, sem_eq_zero_of_no_sems rfl _⟩) (Cert.Reference2Ideal.Value.run m g),
    fun m g _ => Cert.Kernel3.Gen.frame m g, fun m g _ => Cert.Kernel3Ideal.Gen.frame m g,
    fun m g _ => (θ_run _ _ _).mono (fun _ h => ⟨fun c => (h c).2, sem_eq_zero_of_no_sems rfl _⟩) (Cert.Reference3Ideal.Value.run m g),
    fun m g _ => Cert.Kernel4.In.frame m g, fun m g _ => Cert.Kernel4Ideal.In.frame m g,
    fun m g _ => (θ_run _ _ _).mono (fun _ h => ⟨fun c => (h c).2.2, sem_eq_zero_of_no_sems rfl _⟩) (Cert.Reference4Ideal.Value.run m g),
    fun m g _ => Cert.Kernel5.Gen.frame m g, fun m g _ => Cert.Kernel5Ideal.Gen.frame m g,
    fun m g _ => (θ_run _ _ _).mono (fun _ h => ⟨fun c => (h c).2, sem_eq_zero_of_no_sems rfl _⟩) (Cert.Reference5Ideal.Value.run m g),
    fun m g _ => Cert.Kernel6.Gen.frame m g, fun m g _ => Cert.Kernel6Ideal.Gen.frame m g,
    fun m g _ => (θ_run _ _ _).mono (fun _ h => ⟨fun c => (h c).2, sem_eq_zero_of_no_sems rfl _⟩) (Cert.Reference6Ideal.Value.run m g),
    fun m g _ => Cert.Kernel7.Gen.frame m g, fun m g _ => Cert.Kernel7Ideal.Gen.frame m g,
    fun m g _ => (θ_run _ _ _).mono (fun _ h => ⟨fun c => (h c).2, sem_eq_zero_of_no_sems rfl _⟩) (Cert.Reference7Ideal.Value.run m g),
    trivial, value, trivial, value2, trivial, value3, trivial, value4, trivial, value5, trivial, value6, trivial, value7⟩

end Cert.Proof

end
